-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9)
      ∧ r.2.mem ((c.tc : Thread Cert.FinishRefIdeal.nD Cert.FinishRefIdeal.τ).loc Cert.FinishRefIdeal.main_arg10) = m ((c.tc : Thread Cert.FinishRefIdeal.nD Cert.FinishRefIdeal.τ).loc Cert.FinishRefIdeal.main_arg10)
      ∧ r.2.mem ((c.tc : Thread Cert.FinishRefIdeal.nD Cert.FinishRefIdeal.τ).loc Cert.FinishRefIdeal.main_arg11) = m ((c.tc : Thread Cert.FinishRefIdeal.nD Cert.FinishRefIdeal.τ).loc Cert.FinishRefIdeal.main_arg11))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)
      ∧ m' ((c.tc : Thread Cert.FinishRefIdeal.nD Cert.FinishRefIdeal.τ).loc Cert.FinishRefIdeal.main_arg10) = m ((c.tc : Thread Cert.FinishIdeal.nD Cert.FinishIdeal.τ).loc Cert.FinishIdeal.main_arg10)
      ∧ m' ((c.tc : Thread Cert.FinishRefIdeal.nD Cert.FinishRefIdeal.τ).loc Cert.FinishRefIdeal.main_arg11) = m ((c.tc : Thread Cert.FinishIdeal.nD Cert.FinishIdeal.τ).loc Cert.FinishIdeal.main_arg11)) →
    ∃ (v0 : (c : Dev Cert.FinishIdeal.nD) → Buf (Elt Ideal) ((c.tc : Thread Cert.FinishIdeal.nD Cert.FinishIdeal.τ).loc Cert.FinishIdeal.main_v25)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v25) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v52) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9)
          ∧ r.2.mem ((c.tc : Thread Cert.FinishRefIdeal.nD Cert.FinishRefIdeal.τ).loc Cert.FinishRefIdeal.main_arg10) = m' ((c.tc : Thread Cert.FinishRefIdeal.nD Cert.FinishRefIdeal.τ).loc Cert.FinishRefIdeal.main_arg10)
          ∧ r.2.mem ((c.tc : Thread Cert.FinishRefIdeal.nD Cert.FinishRefIdeal.τ).loc Cert.FinishRefIdeal.main_arg11) = m' ((c.tc : Thread Cert.FinishRefIdeal.nD Cert.FinishRefIdeal.τ).loc Cert.FinishRefIdeal.main_arg11))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v5)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v5) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v21) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)) →
    ∃ (v0 : (c : Dev Cert.SampleIdeal.nD) → Buf (Elt Ideal) ((c.tc : Thread Cert.SampleIdeal.nD Cert.SampleIdeal.τ).loc Cert.SampleIdeal.main_v25)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v25) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v52) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v14_0)) (v1 : (c : Dev Cert.ProjectIdeal.nD) → Buf (Elt Ideal) ((c.tc : Thread Cert.ProjectIdeal.nD Cert.ProjectIdeal.τ).loc Cert.ProjectIdeal.main_v14_2)) (v2 : (c : Dev Cert.ProjectIdeal.nD) → Buf (Elt Ideal) ((c.tc : Thread Cert.ProjectIdeal.nD Cert.ProjectIdeal.τ).loc Cert.ProjectIdeal.main_v14_3)) (v3 : (c : Dev Cert.ProjectIdeal.nD) → Buf (Elt Ideal) ((c.tc : Thread Cert.ProjectIdeal.nD Cert.ProjectIdeal.τ).loc Cert.ProjectIdeal.main_v14_7)) (v4 : (c : Dev Cert.ProjectIdeal.nD) → Buf (Elt Ideal) ((c.tc : Thread Cert.ProjectIdeal.nD Cert.ProjectIdeal.τ).loc Cert.ProjectIdeal.main_v14_9)) (v5 : (c : Dev Cert.ProjectIdeal.nD) → Buf (Elt Ideal) ((c.tc : Thread Cert.ProjectIdeal.nD Cert.ProjectIdeal.τ).loc Cert.ProjectIdeal.main_v14_10)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v14_0) = v0 c
          ∧ r.2.mem ((c.tc : Thread Cert.ProjectIdeal.nD Cert.ProjectIdeal.τ).loc Cert.ProjectIdeal.main_v14_2) = v1 c
          ∧ r.2.mem ((c.tc : Thread Cert.ProjectIdeal.nD Cert.ProjectIdeal.τ).loc Cert.ProjectIdeal.main_v14_3) = v2 c
          ∧ r.2.mem ((c.tc : Thread Cert.ProjectIdeal.nD Cert.ProjectIdeal.τ).loc Cert.ProjectIdeal.main_v14_7) = v3 c
          ∧ r.2.mem ((c.tc : Thread Cert.ProjectIdeal.nD Cert.ProjectIdeal.τ).loc Cert.ProjectIdeal.main_v14_9) = v4 c
          ∧ r.2.mem ((c.tc : Thread Cert.ProjectIdeal.nD Cert.ProjectIdeal.τ).loc Cert.ProjectIdeal.main_v14_10) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v28) = v0 c
          ∧ r.2.mem ((c.tc : Thread Cert.ProjectRefIdeal.nD Cert.ProjectRefIdeal.τ).loc Cert.ProjectRefIdeal.main_v33) = v1 c
          ∧ r.2.mem ((c.tc : Thread Cert.ProjectRefIdeal.nD Cert.ProjectRefIdeal.τ).loc Cert.ProjectRefIdeal.main_v34) = v2 c
          ∧ r.2.mem ((c.tc : Thread Cert.ProjectRefIdeal.nD Cert.ProjectRefIdeal.τ).loc Cert.ProjectRefIdeal.main_v32) = v3 c
          ∧ r.2.mem ((c.tc : Thread Cert.ProjectRefIdeal.nD Cert.ProjectRefIdeal.τ).loc Cert.ProjectRefIdeal.main_v40) = v4 c
          ∧ r.2.mem ((c.tc : Thread Cert.ProjectRefIdeal.nD Cert.ProjectRefIdeal.τ).loc Cert.ProjectRefIdeal.main_v46) = v5 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hFinishRefIdeal : Cert.FinishRefIdeal.Facts) (hFirst : Cert.First.Facts) (hFirstIdeal : Cert.FirstIdeal.Facts) (hFirstRefIdeal : Cert.FirstRefIdeal.Facts) (hSample : Cert.Sample.Facts) (hSampleIdeal : Cert.SampleIdeal.Facts) (hSampleRefIdeal : Cert.SampleRefIdeal.Facts) (hProject : Cert.Project.Facts) (hProjectIdeal : Cert.ProjectIdeal.Facts) (hProjectRefIdeal : Cert.ProjectRefIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Finish (hFinish := hFinish)
    ∧ quiescent_FinishIdeal (hFinishIdeal := hFinishIdeal)
    ∧ quiescent_FinishRefIdeal (hFinishRefIdeal := hFinishRefIdeal)
    ∧ quiescent_First (hFirst := hFirst)
    ∧ quiescent_FirstIdeal (hFirstIdeal := hFirstIdeal)
    ∧ quiescent_FirstRefIdeal (hFirstRefIdeal := hFirstRefIdeal)
    ∧ quiescent_Sample (hSample := hSample)
    ∧ quiescent_SampleIdeal (hSampleIdeal := hSampleIdeal)
    ∧ quiescent_SampleRefIdeal (hSampleRefIdeal := hSampleRefIdeal)
    ∧ quiescent_Project (hProject := hProject)
    ∧ quiescent_ProjectIdeal (hProjectIdeal := hProjectIdeal)
    ∧ quiescent_ProjectRefIdeal (hProjectRefIdeal := hProjectRefIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Finish_FinishIdeal
    ∧ algebraic_FinishIdeal_FinishRefIdeal (hFinishIdeal := hFinishIdeal) (hFinishRefIdeal := hFinishRefIdeal)
    ∧ preserves_First_FirstIdeal
    ∧ algebraic_FirstIdeal_FirstRefIdeal (hFirstIdeal := hFirstIdeal) (hFirstRefIdeal := hFirstRefIdeal)
    ∧ preserves_Sample_SampleIdeal
    ∧ algebraic_SampleIdeal_SampleRefIdeal (hSampleIdeal := hSampleIdeal) (hSampleRefIdeal := hSampleRefIdeal)
    ∧ preserves_Project_ProjectIdeal
    ∧ algebraic_ProjectIdeal_ProjectRefIdeal (hProjectIdeal := hProjectIdeal) (hProjectRefIdeal := hProjectRefIdeal)
-- ==== Pre_finite_logits.lean ====
abbrev S4x8192x16x64 : Shape := ⟨4, ![4, 8192, 16, 64]⟩
abbrev S4x8192x16 : Shape := ⟨3, ![4, 8192, 16]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn {F : FTy → Type} [FloatOps F] (main_arg0 : FVec F S4x8192x16x64 .f32) (main_arg1 : FVec F S4x8192x16x64 .f32) (main_arg2 : FVec F S4x8192x16x64 .f32) (main_arg3 : FVec F S4x8192x16 .f32) : IVec S_ 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_c : IVec S_ 1 := constantI S_ 1 1#1
  let main_v3 : IVec S_ 1 := (fun x v => Host.reduce IntOp.andi x v reducesTo_S4x8192x16x64_S_d0_1_2_3 h_S_) main_v2 main_c
  let main_v4 : FVec F S4x8192x16x64 .f32 := Host.absf main_arg1
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  let main_v9 : FVec F S4x8192x16 .f32 := Host.absf main_arg3
  let main_cst_2 : FVec F S_ .f32 := constant S_ .f32 0x7F800000#32
  let main_v10 : FVec F S4x8192x16 .f32 := broadcastInDim S4x8192x16 ![] bcast_S_S4x8192x16 main_cst_2
  let main_v11 : IVec S4x8192x16 1 := cmpf .olt main_v9 main_v10
  let main_c_3 : IVec S_ 1 := constantI S_ 1 1#1
  let main_v12 : IVec S_ 1 := (fun x v => Host.reduce IntOp.andi x v reducesTo_S4x8192x16_S_d0_1_2 h_S_) main_v11 main_c_3
  let main_v13 : IVec S_ 1 := andi main_v8 main_v12
  main_v13
-- ==== Kernel.lean ====
abbrev S4x8192x16x64 : Shape := ⟨4, ![4, 8192, 16, 64]⟩
abbrev S4x8192x16 : Shape := ⟨3, ![4, 8192, 16]⟩
abbrev S_ : Shape := ⟨0, ![]⟩
abbrev S4x8192x1024 : Shape := ⟨3, ![4, 8192, 1024]⟩
abbrev S4x1024x8192 : Shape := ⟨3, ![4, 1024, 8192]⟩
abbrev S4x8192x16x1 : Shape := ⟨4, ![4, 8192, 16, 1]⟩
abbrev S4x8192x16x3 : Shape := ⟨4, ![4, 8192, 16, 3]⟩
abbrev S4x8192x8x6 : Shape := ⟨4, ![4, 8192, 8, 6]⟩
abbrev S4x8192x8x3 : Shape := ⟨4, ![4, 8192, 8, 3]⟩
abbrev S4x8192x8x119 : Shape := ⟨4, ![4, 8192, 8, 119]⟩
abbrev S4x8192x8x128 : Shape := ⟨4, ![4, 8192, 8, 128]⟩
abbrev S4x8192x8x2 : Shape := ⟨4, ![4, 8192, 8, 2]⟩
abbrev S4x8x2x8192 : Shape := ⟨4, ![4, 8, 2, 8192]⟩
abbrev S1x128x1024 : Shape := ⟨3, ![1, 128, 1024]⟩
abbrev S1x8192x128 : Shape := ⟨3, ![1, 8192, 128]⟩
abbrev S1x128x8192 : Shape := ⟨3, ![1, 128, 8192]⟩
abbrev S1x1x2x1024 : Shape := ⟨4, ![1, 1, 2, 1024]⟩
abbrev S1x1024x128 : Shape := ⟨3, ![1, 1024, 128]⟩
abbrev S2x256x1024 : Shape := ⟨3, ![2, 256, 1024]⟩
abbrev S128x1024 : Shape := ⟨2, ![128, 1024]⟩
abbrev S1x1x1x1024 : Shape := ⟨4, ![1, 1, 1, 1024]⟩
abbrev S1x1024 : Shape := ⟨2, ![1, 1024]⟩
abbrev S256x1024 : Shape := ⟨2, ![256, 1024]⟩
abbrev S16x256 : Shape := ⟨2, ![16, 256]⟩
abbrev S80x1024 : Shape := ⟨2, ![80, 1024]⟩
abbrev S1x256x128 : Shape := ⟨3, ![1, 256, 128]⟩
abbrev S256x128 : Shape := ⟨2, ![256, 128]⟩
abbrev S256x256 : Shape := ⟨2, ![256, 256]⟩
abbrev S1x256x1024 : Shape := ⟨3, ![1, 256, 1024]⟩
abbrev S1024 : Shape := ⟨1, ![1024]⟩
abbrev S1x64x256 : Shape := ⟨3, ![1, 64, 256]⟩
abbrev S64x256 : Shape := ⟨2, ![64, 256]⟩
abbrev S80x256 : Shape := ⟨2, ![80, 256]⟩
abbrev S256x768 : Shape := ⟨2, ![256, 768]⟩
abbrev S1x256x768 : Shape := ⟨3, ![1, 256, 768]⟩
abbrev S256x512 : Shape := ⟨2, ![256, 512]⟩
abbrev S1x256x512 : Shape := ⟨3, ![1, 256, 512]⟩
abbrev S1x768 : Shape := ⟨2, ![1, 768]⟩
abbrev S80x768 : Shape := ⟨2, ![80, 768]⟩
abbrev S768 : Shape := ⟨1, ![768]⟩
abbrev S1x256 : Shape := ⟨2, ![1, 256]⟩
abbrev S1x256x256 : Shape := ⟨3, ![1, 256, 256]⟩
abbrev S1x512 : Shape := ⟨2, ![1, 512]⟩
abbrev S80x512 : Shape := ⟨2, ![80, 512]⟩
abbrev S512 : Shape := ⟨1, ![512]⟩
abbrev S256 : Shape := ⟨1, ![256]⟩
abbrev S64x1024 : Shape := ⟨2, ![64, 1024]⟩
abbrev S1024x128 : Shape := ⟨2, ![1024, 128]⟩

abbrev nBuf : Space → Nat
  | .hbm => 46
  | .vmem => 14
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S4x8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x1024, .f32⟩
  | .hbm, ⟨9, _⟩ => ⟨S4x1024x8192, .f32⟩
  | .hbm, ⟨10, _⟩ => ⟨S_, .f32⟩
  | .hbm, ⟨11, _⟩ => ⟨S_, .f32⟩
  | .hbm, ⟨12, _⟩ => ⟨S4x1024x8192, .f32⟩
  | .hbm, ⟨13, _⟩ => ⟨S4x1024x8192, .f32⟩
  | .hbm, ⟨14, _⟩ => ⟨S4x1024x8192, .bf16⟩
  | .hbm, ⟨15, _⟩ => ⟨S4x8192x1024, .f32⟩
  | .hbm, ⟨16, _⟩ => ⟨S4x8192x1024, .bf16⟩
  | .hbm, ⟨17, _⟩ => ⟨S4x8192x1024, .f32⟩
  | .hbm, ⟨18, _⟩ => ⟨S4x1024x8192, .f32⟩
  | .hbm, ⟨19, _⟩ => ⟨S4x1024x8192, .bf16⟩
  | .hbm, ⟨20, _⟩ => ⟨S4x8192x16, .f32⟩
  | .hbm, ⟨21, _⟩ => ⟨S4x8192x16, .f32⟩
  | .hbm, ⟨22, _⟩ => ⟨S4x8192x16, .bf16⟩
  | .hbm, ⟨23, _⟩ => ⟨S4x8192x16, .f32⟩
  | .hbm, ⟨24, _⟩ => ⟨S4x8192x16, .f32⟩
  | .hbm, ⟨25, _⟩ => ⟨S4x8192x16, .bf16⟩
  | .hbm, ⟨26, _⟩ => ⟨S4x8192x16, .f32⟩
  | .hbm, ⟨27, _⟩ => ⟨S4x8192x16, .f32⟩
  | .hbm, ⟨28, _⟩ => ⟨S4x8192x16, .bf16⟩
  | .hbm, ⟨29, _⟩ => ⟨S4x8192x16x1, .bf16⟩
  | .hbm, ⟨30, _⟩ => ⟨S4x8192x16x1, .bf16⟩
  | .hbm, ⟨31, _⟩ => ⟨S4x8192x16x1, .bf16⟩
  | .hbm, ⟨32, _⟩ => ⟨S4x8192x16x3, .bf16⟩
  | .hbm, ⟨33, _⟩ => ⟨S4x8192x16x3, .f32⟩
  | .hbm, ⟨34, _⟩ => ⟨S4x8192x8x6, .f32⟩
  | .hbm, ⟨35, _⟩ => ⟨S4x8192x8x6, .f32⟩
  | .hbm, ⟨36, _⟩ => ⟨S_, .f32⟩
  | .hbm, ⟨37, _⟩ => ⟨S4x8192x8x3, .f32⟩
  | .hbm, ⟨38, _⟩ => ⟨S_, .f32⟩
  | .hbm, ⟨39, _⟩ => ⟨S4x8192x8x119, .f32⟩
  | .hbm, ⟨40, _⟩ => ⟨S4x8192x8x128, .f32⟩
  | .hbm, ⟨41, _⟩ => ⟨S4x8192x1024, .f32⟩
  | .hbm, ⟨42, _⟩ => ⟨S4x8192x1024, .bf16⟩
  | .hbm, ⟨43, _⟩ => ⟨S4x8192x8x2, .f32⟩
  | .hbm, ⟨44, _⟩ => ⟨S4x8x2x8192, .f32⟩
  | .hbm, ⟨45, _⟩ => ⟨S4x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x8192, .bf16⟩
  | .local _ .vmem, ⟨7, _⟩ => ⟨S1x128x8192, .bf16⟩
  | .local _ .vmem, ⟨8, _⟩ => ⟨S1x1x2x1024, .f32⟩
  | .local _ .vmem, ⟨9, _⟩ => ⟨S1x1x2x1024, .f32⟩
  | .local _ .vmem, ⟨10, _⟩ => ⟨S1x1024x128, .bf16⟩
  | .local _ .vmem, ⟨11, _⟩ => ⟨S1x1024x128, .bf16⟩
  | .local _ .vmem, ⟨12, _⟩ => ⟨S2x256x1024, .f32⟩
  | .local _ .vmem, ⟨13, _⟩ => ⟨S2x256x1024, .f32⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_mult1 : BitVec 32 :=
  let c0_i32_29 : BitVec 32 := 0#32
  c0_i32_29
@[reducible] def k0_t1_loop (i : grid0.Coords) : Scf.Loop 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_43 : BitVec 32 := 1#32
  ⟨c0_i32_42, v123, c1_i32_43⟩
def k0_mult2 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c0_i32_160 : BitVec 32 := 0#32
  let v441 : BitVec 32 := Scalar.addi v440 c0_i32_160
  let c1_i32_161 : BitVec 32 := 1#32
  let v442 : BitVec 32 := Scalar.addi v441 c1_i32_161
  let c256_i32_162 : BitVec 32 := 256#32
  let v443 : BitVec 32 := Scalar.muli v442 c256_i32_162
  v443
def k0_off1 (i : grid0.Coords) (k0_t1 : Fin (k0_t1_loop i).trips) (c0_i32_160 : BitVec 32) : Fin 3 → Nat :=
  let c0_163 : Index := 0#32
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let v441 : BitVec 32 := Scalar.addi v440 c0_i32_160
  let c1_i32_161 : BitVec 32 := 1#32
  let v442 : BitVec 32 := Scalar.addi v441 c1_i32_161
  let c256_i32_162 : BitVec 32 := 256#32
  let v443 : BitVec 32 := Scalar.muli v442 c256_i32_162
  let v444 : BitVec 32 := v443
  let v445 : Index := Scalar.indexCast v444
  let c0_164 : Index := 0#32
  ![0, v445.toNat, 0]
def k0_mult3 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c0_i32_175 : BitVec 32 := 0#32
  let v460 : BitVec 32 := Scalar.addi v440 c0_i32_175
  let c256_i32_176 : BitVec 32 := 256#32
  let v461 : BitVec 32 := Scalar.muli v460 c256_i32_176
  v461
def k0_off2 (i : grid0.Coords) (k0_t1 : Fin (k0_t1_loop i).trips) (c0_i32_175 : BitVec 32) : Fin 3 → Nat :=
  let c0_181 : Index := 0#32
  let c0_182 : Index := 0#32
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let v460 : BitVec 32 := Scalar.addi v440 c0_i32_175
  let c256_i32_176 : BitVec 32 := 256#32
  let v461 : BitVec 32 := Scalar.muli v460 c256_i32_176
  let v462 : BitVec 32 := v461
  let v472 : Index := Scalar.indexCast v462
  ![0, 0, v472.toNat]
def k0_off3 (i : grid0.Coords) (k0_t1 : Fin (k0_t1_loop i).trips) (c0_i32_175 : BitVec 32) : Fin 3 → Nat :=
  let c0_188 : Index := 0#32
  let c64_189 : Index := 64#32
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let v460 : BitVec 32 := Scalar.addi v440 c0_i32_175
  let c256_i32_176 : BitVec 32 := 256#32
  let v461 : BitVec 32 := Scalar.muli v460 c256_i32_176
  let v462 : BitVec 32 := v461
  let v491 : Index := Scalar.indexCast v462
  ![0, 64, v491.toNat]
def k0_mult4 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c1_i32_191 : BitVec 32 := 1#32
  let v501 : BitVec 32 := Scalar.addi v440 c1_i32_191
  let c1_i32_192 : BitVec 32 := 1#32
  let v502 : BitVec 32 := Scalar.addi v501 c1_i32_192
  let c256_i32_193 : BitVec 32 := 256#32
  let v503 : BitVec 32 := Scalar.muli v502 c256_i32_193
  v503
def k0_mult5 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c1_i32_206 : BitVec 32 := 1#32
  let v520 : BitVec 32 := Scalar.addi v440 c1_i32_206
  let c256_i32_207 : BitVec 32 := 256#32
  let v521 : BitVec 32 := Scalar.muli v520 c256_i32_207
  v521
def k0_mult6 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c2_i32_222 : BitVec 32 := 2#32
  let v561 : BitVec 32 := Scalar.addi v440 c2_i32_222
  let c1_i32_223 : BitVec 32 := 1#32
  let v562 : BitVec 32 := Scalar.addi v561 c1_i32_223
  let c256_i32_224 : BitVec 32 := 256#32
  let v563 : BitVec 32 := Scalar.muli v562 c256_i32_224
  v563
def k0_mult7 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c2_i32_237 : BitVec 32 := 2#32
  let v580 : BitVec 32 := Scalar.addi v440 c2_i32_237
  let c256_i32_238 : BitVec 32 := 256#32
  let v581 : BitVec 32 := Scalar.muli v580 c256_i32_238
  v581
def k0_mult8 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c3_i32_253 : BitVec 32 := 3#32
  let v621 : BitVec 32 := Scalar.addi v440 c3_i32_253
  let c1_i32_254 : BitVec 32 := 1#32
  let v622 : BitVec 32 := Scalar.addi v621 c1_i32_254
  let c256_i32_255 : BitVec 32 := 256#32
  let v623 : BitVec 32 := Scalar.muli v622 c256_i32_255
  v623
def k0_mult9 (i : grid0.Coords) (k0_t1 : Fin (k0_t1_loop i).trips) : BitVec 32 :=
  let c0_i32_42 : BitVec 32 := 0#32
  let c1_i32_43 : BitVec 32 := 1#32
  let arg11 : BitVec 32 := Scf.iv c0_i32_42 c1_i32_43 k0_t1
  let c4_i32_159 : BitVec 32 := 4#32
  let v440 : BitVec 32 := Scalar.muli arg11 c4_i32_159
  let c3_i32_268 : BitVec 32 := 3#32
  let v640 : BitVec 32 := Scalar.addi v440 c3_i32_268
  let c256_i32_269 : BitVec 32 := 256#32
  let v641 : BitVec 32 := Scalar.muli v640 c256_i32_269
  v641
@[reducible] def k0_t2_loop (i : grid0.Coords) : Scf.Loop 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let v120 : BitVec 32 := Scalar.addi c0_i32_42 v119
  let c1_i32_44 : BitVec 32 := 1#32
  ⟨v123, v120, c1_i32_44⟩
def k0_mult10 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c0_i32_160 : BitVec 32 := 0#32
  let v441 : BitVec 32 := Scalar.addi v440 c0_i32_160
  let c1_i32_161 : BitVec 32 := 1#32
  let v442 : BitVec 32 := Scalar.addi v441 c1_i32_161
  let c256_i32_162 : BitVec 32 := 256#32
  let v443 : BitVec 32 := Scalar.muli v442 c256_i32_162
  v443
def k0_off4 (i : grid0.Coords) (k0_t2 : Fin (k0_t2_loop i).trips) (c0_i32_160 : BitVec 32) : Fin 3 → Nat :=
  let c0_163 : Index := 0#32
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let v441 : BitVec 32 := Scalar.addi v440 c0_i32_160
  let c1_i32_161 : BitVec 32 := 1#32
  let v442 : BitVec 32 := Scalar.addi v441 c1_i32_161
  let c256_i32_162 : BitVec 32 := 256#32
  let v443 : BitVec 32 := Scalar.muli v442 c256_i32_162
  let v444 : BitVec 32 := v443
  let v445 : Index := Scalar.indexCast v444
  let c0_164 : Index := 0#32
  ![0, v445.toNat, 0]
def k0_mult11 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c0_i32_175 : BitVec 32 := 0#32
  let v460 : BitVec 32 := Scalar.addi v440 c0_i32_175
  let c256_i32_176 : BitVec 32 := 256#32
  let v461 : BitVec 32 := Scalar.muli v460 c256_i32_176
  v461
def k0_off5 (i : grid0.Coords) (k0_t2 : Fin (k0_t2_loop i).trips) (c0_i32_175 : BitVec 32) : Fin 3 → Nat :=
  let c0_181 : Index := 0#32
  let c0_182 : Index := 0#32
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let v460 : BitVec 32 := Scalar.addi v440 c0_i32_175
  let c256_i32_176 : BitVec 32 := 256#32
  let v461 : BitVec 32 := Scalar.muli v460 c256_i32_176
  let v462 : BitVec 32 := v461
  let v472 : Index := Scalar.indexCast v462
  ![0, 0, v472.toNat]
def k0_off6 (i : grid0.Coords) (k0_t2 : Fin (k0_t2_loop i).trips) (c0_i32_175 : BitVec 32) : Fin 3 → Nat :=
  let c0_188 : Index := 0#32
  let c64_189 : Index := 64#32
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let v460 : BitVec 32 := Scalar.addi v440 c0_i32_175
  let c256_i32_176 : BitVec 32 := 256#32
  let v461 : BitVec 32 := Scalar.muli v460 c256_i32_176
  let v462 : BitVec 32 := v461
  let v491 : Index := Scalar.indexCast v462
  ![0, 64, v491.toNat]
def k0_mult12 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c1_i32_191 : BitVec 32 := 1#32
  let v501 : BitVec 32 := Scalar.addi v440 c1_i32_191
  let c1_i32_192 : BitVec 32 := 1#32
  let v502 : BitVec 32 := Scalar.addi v501 c1_i32_192
  let c256_i32_193 : BitVec 32 := 256#32
  let v503 : BitVec 32 := Scalar.muli v502 c256_i32_193
  v503
def k0_mult13 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c1_i32_206 : BitVec 32 := 1#32
  let v520 : BitVec 32 := Scalar.addi v440 c1_i32_206
  let c256_i32_207 : BitVec 32 := 256#32
  let v521 : BitVec 32 := Scalar.muli v520 c256_i32_207
  v521
def k0_mult14 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c2_i32_222 : BitVec 32 := 2#32
  let v561 : BitVec 32 := Scalar.addi v440 c2_i32_222
  let c1_i32_223 : BitVec 32 := 1#32
  let v562 : BitVec 32 := Scalar.addi v561 c1_i32_223
  let c256_i32_224 : BitVec 32 := 256#32
  let v563 : BitVec 32 := Scalar.muli v562 c256_i32_224
  v563
def k0_mult15 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c2_i32_237 : BitVec 32 := 2#32
  let v580 : BitVec 32 := Scalar.addi v440 c2_i32_237
  let c256_i32_238 : BitVec 32 := 256#32
  let v581 : BitVec 32 := Scalar.muli v580 c256_i32_238
  v581
def k0_mult16 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c3_i32_253 : BitVec 32 := 3#32
  let v621 : BitVec 32 := Scalar.addi v440 c3_i32_253
  let c1_i32_254 : BitVec 32 := 1#32
  let v622 : BitVec 32 := Scalar.addi v621 c1_i32_254
  let c256_i32_255 : BitVec 32 := 256#32
  let v623 : BitVec 32 := Scalar.muli v622 c256_i32_255
  v623
def k0_mult17 (i : grid0.Coords) (k0_t2 : Fin (k0_t2_loop i).trips) : BitVec 32 :=
  let c0_i32_42 : BitVec 32 := 0#32
  let arg2 : BitVec 32 := BitVec.ofNat 32 (i 2).val
  let v119 : BitVec 32 := Scalar.subi arg2 c0_i32_42
  let c1_i32 : BitVec 32 := 1#32
  let v121 : BitVec 32 := Scalar.divsi v119 c1_i32
  let v122 : BitVec 32 := Scalar.muli v121 c1_i32
  let v123 : BitVec 32 := Scalar.addi c0_i32_42 v122
  let c1_i32_44 : BitVec 32 := 1#32
  let arg11 : BitVec 32 := Scf.iv v123 c1_i32_44 k0_t2
  let c4_i32_159 : BitVec 32 := 4#32
  let v440 : BitVec 32 := Scalar.muli arg11 c4_i32_159
  let c3_i32_268 : BitVec 32 := 3#32
  let v640 : BitVec 32 := Scalar.addi v440 c3_i32_268
  let c256_i32_269 : BitVec 32 := 256#32
  let v641 : BitVec 32 := Scalar.muli v640 c256_i32_269
  v641
def k0_mult18 (i : grid0.Coords) : BitVec 32 :=
  let arg2 : BitVec 32 := BitVec.ofNat 32 (i 2).val
  let c4_i32 : BitVec 32 := 4#32
  let v126 : BitVec 32 := Scalar.muli arg2 c4_i32
  let c0_i32_45 : BitVec 32 := 0#32
  let v127 : BitVec 32 := Scalar.addi v126 c0_i32_45
  let c1_i32_46 : BitVec 32 := 1#32
  let v128 : BitVec 32 := Scalar.addi v127 c1_i32_46
  let c256_i32 : BitVec 32 := 256#32
  let v129 : BitVec 32 := Scalar.muli v128 c256_i32
  v129
def k0_off7 (i : grid0.Coords) (c0_i32_45 : BitVec 32) : Fin 3 → Nat :=
  let c0_47 : Index := 0#32
  let arg2 : BitVec 32 := BitVec.ofNat 32 (i 2).val
  let c4_i32 : BitVec 32 := 4#32
  let v126 : BitVec 32 := Scalar.muli arg2 c4_i32
  let v127 : BitVec 32 := Scalar.addi v126 c0_i32_45
  let c1_i32_46 : BitVec 32 := 1#32
  let v128 : BitVec 32 := Scalar.addi v127 c1_i32_46
  let c256_i32 : BitVec 32 := 256#32
  let v129 : BitVec 32 := Scalar.muli v128 c256_i32
  let v130 : BitVec 32 := v129
  let v131 : Index := Scalar.indexCast v130
  let c0_48 : Index := 0#32
  ![0, v131.toNat, 0]
def k0_mult19 (i : grid0.Coords) : BitVec 32 :=
  let arg2 : BitVec 32 := BitVec.ofNat 32 (i 2).val
  let c4_i32 : BitVec 32 := 4#32
  let v126 : BitVec 32 := Scalar.muli arg2 c4_i32
  let c0_i32_58 : BitVec 32 := 0#32
  let v148 : BitVec 32 := Scalar.addi v126 c0_i32_58
  let c256_i32_59 : BitVec 32 := 256#32
  let v149 : BitVec 32 := Scalar.muli v148 c256_i32_59
  v149
def k0_off8 (i : grid0.Coords) (c0_i32_58 : BitVec 32) : Fin 3 → Nat :=
  let c0_65 : Index := 0#32
  let c0_66 : Index := 0#32
  let arg2 : BitVec 32 := BitVec.ofNat 32 (i 2).val
  let c4_i32 : BitVec 32 := 4#32
  let v126 : BitVec 32 := Scalar.muli arg2 c4_i32
  let v148 : BitVec 32 := Scalar.addi v126 c0_i32_58
  let c256_i32_59 : BitVec 32 := 256#32
  let v149 : BitVec 32 := Scalar.muli v148 c256_i32_59
  let v150 : BitVec 32 := v149
  let v165 : Index := Scalar.indexCast v150
  ![0, 0, v165.toNat]
def k0_off9 (i : grid0.Coords) (c0_i32_58 : BitVec 32) : Fin 3 → Nat :=
  let c0_73 : Index := 0#32
  let c64 : Index := 64#32
  let arg2 : BitVec 32 := BitVec.ofNat 32 (i 2).val
  let c4_i32 : BitVec 32 := 4#32
  let v126 : BitVec 32 := Scalar.muli arg2 c4_i32
  let v148 : BitVec 32 := Scalar.addi v126 c0_i32_58
  let c256_i32_59 : BitVec 32 := 256#32
  let v149 : BitVec 32 := Scalar.muli v148 c256_i32_59
  let v150 : BitVec 32 := v149
  let v189 : Index := Scalar.indexCast v150
  ![0, 64, v189.toNat]
def k0_mult20 (i : grid0.Coords) : BitVec 32 :=
  let arg2 : BitVec 32 := BitVec.ofNat 32 (i 2).val
  let c4_i32 : BitVec 32 := 4#32
  let v126 : BitVec 32 := Scalar.muli arg2 c4_i32
  let c1_i32_75 : BitVec 32 := 1#32
  let v199 : BitVec 32 := Scalar.addi v126 c1_i32_75
  let c1_i32_76 : BitVec 32 := 1#32
  let v200 : BitVec 32 := Scalar.addi v199 c1_i32_76
  let c256_i32_77 : BitVec 32 := 256#32
  let v201 : BitVec 32 := Scalar.muli v200 c256_i32_77
  v201
def k0_mult21 (i : grid0.Coords) : BitVec 32 :=
  let arg2 : BitVec 32 := BitVec.ofNat 32 (i 2).val
  let c4_i32 : BitVec 32 := 4#32
  let v126 : BitVec 32 := Scalar.muli arg2 c4_i32
  let c1_i32_89 : BitVec 32 := 1#32
  let v220 : BitVec 32 := Scalar.addi v126 c1_i32_89
  let c256_i32_90 : BitVec 32 := 256#32
  let v221 : BitVec 32 := Scalar.muli v220 c256_i32_90
  v221
def k0_mult22 (i : grid0.Coords) : BitVec 32 :=
  let arg2 : BitVec 32 := BitVec.ofNat 32 (i 2).val
  let c4_i32 : BitVec 32 := 4#32
  let v126 : BitVec 32 := Scalar.muli arg2 c4_i32
  let c2_i32 : BitVec 32 := 2#32
  let v283 : BitVec 32 := Scalar.addi v126 c2_i32
  let c1_i32_107 : BitVec 32 := 1#32
  let v284 : BitVec 32 := Scalar.addi v283 c1_i32_107
  let c256_i32_108 : BitVec 32 := 256#32
  let v285 : BitVec 32 := Scalar.muli v284 c256_i32_108
  v285
def k0_mult23 (i : grid0.Coords) : BitVec 32 :=
  let arg2 : BitVec 32 := BitVec.ofNat 32 (i 2).val
  let c4_i32 : BitVec 32 := 4#32
  let v126 : BitVec 32 := Scalar.muli arg2 c4_i32
  let c2_i32_120 : BitVec 32 := 2#32
  let v304 : BitVec 32 := Scalar.addi v126 c2_i32_120
  let c256_i32_121 : BitVec 32 := 256#32
  let v305 : BitVec 32 := Scalar.muli v304 c256_i32_121
  v305
def k0_mult24 (i : grid0.Coords) : BitVec 32 :=
  let arg2 : BitVec 32 := BitVec.ofNat 32 (i 2).val
  let c4_i32 : BitVec 32 := 4#32
  let v126 : BitVec 32 := Scalar.muli arg2 c4_i32
  let c3_i32_138 : BitVec 32 := 3#32
  let v367 : BitVec 32 := Scalar.addi v126 c3_i32_138
  let c256_i32_139 : BitVec 32 := 256#32
  let v368 : BitVec 32 := Scalar.muli v367 c256_i32_139
  v368
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x8192x16x64 : Shape := ⟨4, ![4, 8192, 16, 64]⟩
abbrev S4x8192x16 : Shape := ⟨3, ![4, 8192, 16]⟩
abbrev S4x16x8192 : Shape := ⟨3, ![4, 16, 8192]⟩
abbrev S8192 : Shape := ⟨1, ![8192]⟩
abbrev S4x16x8192x8192 : Shape := ⟨4, ![4, 16, 8192, 8192]⟩
abbrev S_ : Shape := ⟨0, ![]⟩
abbrev S4x16x8192x1 : Shape := ⟨4, ![4, 16, 8192, 1]⟩
abbrev S4x16x1x8192 : Shape := ⟨4, ![4, 16, 1, 8192]⟩
abbrev S1x8192 : Shape := ⟨2, ![1, 8192]⟩
abbrev S8192x1 : Shape := ⟨2, ![8192, 1]⟩
abbrev S8192x8192 : Shape := ⟨2, ![8192, 8192]⟩
abbrev S4x16x64x8192 : Shape := ⟨4, ![4, 16, 64, 8192]⟩
abbrev S4x8192x1024 : Shape := ⟨3, ![4, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S4x8192x16, .f32⟩
  | .hbm, ⟨4, _⟩ => ⟨S4x16x8192, .f32⟩
  | .hbm, ⟨5, _⟩ => ⟨S8192, .i32⟩
  | .hbm, ⟨6, _⟩ => ⟨S4x16x8192x8192, .f32⟩
  | .hbm, ⟨7, _⟩ => ⟨S_, .f32⟩
  | .hbm, ⟨8, _⟩ => ⟨S4x16x8192x8192, .f32⟩
  | .hbm, ⟨9, _⟩ => ⟨S4x16x8192x8192, .f32⟩
  | .hbm, ⟨10, _⟩ => ⟨S4x16x8192x1, .f32⟩
  | .hbm, ⟨11, _⟩ => ⟨S4x16x8192x8192, .f32⟩
  | .hbm, ⟨12, _⟩ => ⟨S4x16x8192x8192, .f32⟩
  | .hbm, ⟨13, _⟩ => ⟨S4x16x1x8192, .f32⟩
  | .hbm, ⟨14, _⟩ => ⟨S4x16x8192x8192, .f32⟩
  | .hbm, ⟨15, _⟩ => ⟨S4x16x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x16x8192x8192, .i1⟩
  | .hbm, ⟨24, _⟩ => ⟨S4x16x8192x8192, .f32⟩
  | .hbm, ⟨25, _⟩ => ⟨S4x16x8192x8192, .f32⟩
  | .hbm, ⟨26, _⟩ => ⟨S_, .f32⟩
  | .hbm, ⟨27, _⟩ => ⟨S4x16x8192, .f32⟩
  | .hbm, ⟨28, _⟩ => ⟨S_, .f32⟩
  | .hbm, ⟨29, _⟩ => ⟨S4x16x8192, .f32⟩
  | .hbm, ⟨30, _⟩ => ⟨S4x16x8192, .f32⟩
  | .hbm, ⟨31, _⟩ => ⟨S4x16x8192x1, .f32⟩
  | .hbm, ⟨32, _⟩ => ⟨S4x16x8192x8192, .f32⟩
  | .hbm, ⟨33, _⟩ => ⟨S4x16x8192x8192, .f32⟩
  | .hbm, ⟨34, _⟩ => ⟨S4x16x8192x8192, .f32⟩
  | .hbm, ⟨35, _⟩ => ⟨S_, .f32⟩
  | .hbm, ⟨36, _⟩ => ⟨S4x16x8192, .f32⟩
  | .hbm, ⟨37, _⟩ => ⟨S4x16x8192x1, .f32⟩
  | .hbm, ⟨38, _⟩ => ⟨S4x16x8192x8192, .f32⟩
  | .hbm, ⟨39, _⟩ => ⟨S4x16x8192x8192, .f32⟩
  | .hbm, ⟨40, _⟩ => ⟨S4x16x64x8192, .f32⟩
  | .hbm, ⟨41, _⟩ => ⟨S4x8192x16x64, .f32⟩
  | .hbm, ⟨42, _⟩ => ⟨S4x8192x1024, .f32⟩
  | .hbm, ⟨43, _⟩ => ⟨S4x8192x1024, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Finish.lean ====
abbrev S4x8192x1024 : Shape := ⟨3, ![4, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S_ : Shape := ⟨0, ![]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 42
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32768x1024, .f32⟩
  | .hbm, ⟨13, _⟩ => ⟨S4x8192x1024, .bf16⟩
  | .hbm, ⟨14, _⟩ => ⟨S32768x1024, .bf16⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S32768x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S32768x1024, .f32⟩
  | .hbm, ⟨33, _⟩ => ⟨S1024x1024, .bf16⟩
  | .hbm, ⟨34, _⟩ => ⟨S1024x1024, .bf16⟩
  | .hbm, ⟨35, _⟩ => ⟨S32768x1024, .f32⟩
  | .hbm, ⟨36, _⟩ => ⟨S1024x2816, .bf16⟩
  | .hbm, ⟨37, _⟩ => ⟨S1024x2816, .bf16⟩
  | .hbm, ⟨38, _⟩ => ⟨S2816x1024, .bf16⟩
  | .hbm, ⟨39, _⟩ => ⟨S1x1024, .f32⟩
  | .hbm, ⟨40, _⟩ => ⟨S1x1024, .f32⟩
  | .hbm, ⟨41, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FinishIdeal.lean ====
abbrev S4x8192x1024 : Shape := ⟨3, ![4, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S_ : Shape := ⟨0, ![]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 42
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32768x1024, .f32⟩
  | .hbm, ⟨13, _⟩ => ⟨S4x8192x1024, .bf16⟩
  | .hbm, ⟨14, _⟩ => ⟨S32768x1024, .bf16⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S32768x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S32768x1024, .f32⟩
  | .hbm, ⟨33, _⟩ => ⟨S1024x1024, .bf16⟩
  | .hbm, ⟨34, _⟩ => ⟨S1024x1024, .bf16⟩
  | .hbm, ⟨35, _⟩ => ⟨S32768x1024, .f32⟩
  | .hbm, ⟨36, _⟩ => ⟨S1024x2816, .bf16⟩
  | .hbm, ⟨37, _⟩ => ⟨S1024x2816, .bf16⟩
  | .hbm, ⟨38, _⟩ => ⟨S2816x1024, .bf16⟩
  | .hbm, ⟨39, _⟩ => ⟨S1x1024, .f32⟩
  | .hbm, ⟨40, _⟩ => ⟨S1x1024, .f32⟩
  | .hbm, ⟨41, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FinishRefIdeal.lean ====
abbrev S4x8192x1024 : Shape := ⟨3, ![4, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x1024, .f32⟩
  | .hbm, ⟨63, _⟩ => ⟨S_, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1, .f32⟩
  | .hbm, ⟨78, _⟩ => ⟨S4x8192x1024, .f32⟩
  | .hbm, ⟨79, _⟩ => ⟨S4x8192x1024, .f32⟩
  | .hbm, ⟨80, _⟩ => ⟨S1x1x1024, .f32⟩
  | .hbm, ⟨81, _⟩ => ⟨S4x8192x1024, .f32⟩
  | .hbm, ⟨82, _⟩ => ⟨S4x8192x1024, .f32⟩
  | .hbm, ⟨83, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== First.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FirstRefIdeal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S_, .f32⟩
  | .hbm, ⟨25, _⟩ => ⟨S4x8192x2816, .f32⟩
  | .hbm, ⟨26, _⟩ => ⟨S4x8192x2816, .f32⟩
  | .hbm, ⟨27, _⟩ => ⟨S_, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Sample.lean ====
abbrev S32x8x1024 : Shape := ⟨3, ![32, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 42
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x8x1024, .f32⟩
  | .hbm, ⟨4, _⟩ => ⟨S32x8x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S256x1024, .f32⟩
  | .hbm, ⟨13, _⟩ => ⟨S32x8x1024, .bf16⟩
  | .hbm, ⟨14, _⟩ => ⟨S256x1024, .bf16⟩
  | .hbm, ⟨15, _⟩ => ⟨S32x8x1024, .f32⟩
  | .hbm, ⟨16, _⟩ => ⟨S32x8x1024, .f32⟩
  | .hbm, ⟨17, _⟩ => ⟨S_, .f32⟩
  | .hbm, ⟨18, _⟩ => ⟨S32x8x1024, .f32⟩
  | .hbm, ⟨19, _⟩ => ⟨S32x8x1024, .f32⟩
  | .hbm, ⟨20, _⟩ => ⟨S_, .f32⟩
  | .hbm, ⟨21, _⟩ => ⟨S32x8x1024, .f32⟩
  | .hbm, ⟨22, _⟩ => ⟨S32x8x1024, .f32⟩
  | .hbm, ⟨23, _⟩ => ⟨S256x1024, .f32⟩
  | .hbm, ⟨24, _⟩ => ⟨S32x8x1024, .f32⟩
  | .hbm, ⟨25, _⟩ => ⟨S32x8x1024, .f32⟩
  | .hbm, ⟨26, _⟩ => ⟨S_, .f32⟩
  | .hbm, ⟨27, _⟩ => ⟨S32x8x1024, .f32⟩
  | .hbm, ⟨28, _⟩ => ⟨S32x8x1024, .f32⟩
  | .hbm, ⟨29, _⟩ => ⟨S_, .f32⟩
  | .hbm, ⟨30, _⟩ => ⟨S32x8x1024, .f32⟩
  | .hbm, ⟨31, _⟩ => ⟨S32x8x1024, .f32⟩
  | .hbm, ⟨32, _⟩ => ⟨S256x1024, .f32⟩
  | .hbm, ⟨33, _⟩ => ⟨S1024x1024, .bf16⟩
  | .hbm, ⟨34, _⟩ => ⟨S1024x1024, .bf16⟩
  | .hbm, ⟨35, _⟩ => ⟨S256x1024, .f32⟩
  | .hbm, ⟨36, _⟩ => ⟨S1024x2816, .bf16⟩
  | .hbm, ⟨37, _⟩ => ⟨S1024x2816, .bf16⟩
  | .hbm, ⟨38, _⟩ => ⟨S2816x1024, .bf16⟩
  | .hbm, ⟨39, _⟩ => ⟨S1x1024, .f32⟩
  | .hbm, ⟨40, _⟩ => ⟨S1x1024, .f32⟩
  | .hbm, ⟨41, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .f32⟩
  | .local _ .vmem, ⟨4, _⟩ => ⟨S256x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SampleRefIdeal.lean ====
abbrev S32x8x1024 : Shape := ⟨3, ![32, 8, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x2816 : Shape := ⟨3, ![32, 8, 2816]⟩
abbrev S256x1024 : Shape := ⟨2, ![256, 1024]⟩

abbrev nBuf : Space → Nat
  | .hbm => 84
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x8x1024, .f32⟩
  | .hbm, ⟨4, _⟩ => ⟨S32x8x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32x8x1024, .f32⟩
  | .hbm, ⟨13, _⟩ => ⟨S32x8x1024, .f32⟩
  | .hbm, ⟨14, _⟩ => ⟨S_, .f32⟩
  | .hbm, ⟨15, _⟩ => ⟨S32x8x1024, .f32⟩
  | .hbm, ⟨16, _⟩ => ⟨S32x8x1024, .f32⟩
  | .hbm, ⟨17, _⟩ => ⟨S_, .f32⟩
  | .hbm, ⟨18, _⟩ => ⟨S32x8x1024, .f32⟩
  | .hbm, ⟨19, _⟩ => ⟨S32x8x1024, .f32⟩
  | .hbm, ⟨20, _⟩ => ⟨S32x8x1024, .f32⟩
  | .hbm, ⟨21, _⟩ => ⟨S32x8x1024, .f32⟩
  | .hbm, ⟨22, _⟩ => ⟨S32x8x1024, .f32⟩
  | .hbm, ⟨23, _⟩ => ⟨S_, .f32⟩
  | .hbm, ⟨24, _⟩ => ⟨S32x8x1024, .f32⟩
  | .hbm, ⟨25, _⟩ => ⟨S32x8x1024, .f32⟩
  | .hbm, ⟨26, _⟩ => ⟨S_, .f32⟩
  | .hbm, ⟨27, _⟩ => ⟨S32x8x1024, .f32⟩
  | .hbm, ⟨28, _⟩ => ⟨S32x8x1024, .f32⟩
  | .hbm, ⟨29, _⟩ => ⟨S32x8x1024, .f32⟩
  | .hbm, ⟨30, _⟩ => ⟨S32x8x1024, .f32⟩
  | .hbm, ⟨31, _⟩ => ⟨S32x8x1024, .f32⟩
  | .hbm, ⟨32, _⟩ => ⟨S32x8x1024, .f32⟩
  | .hbm, ⟨33, _⟩ => ⟨S32x8x1024, .f32⟩
  | .hbm, ⟨34, _⟩ => ⟨S32x8x1024, .f32⟩
  | .hbm, ⟨35, _⟩ => ⟨S_, .f32⟩
  | .hbm, ⟨36, _⟩ => ⟨S32x8, .f32⟩
  | .hbm, ⟨37, _⟩ => ⟨S32x8x1, .f32⟩
  | .hbm, ⟨38, _⟩ => ⟨S_, .f32⟩
  | .hbm, ⟨39, _⟩ => ⟨S32x8x1, .f32⟩
  | .hbm, ⟨40, _⟩ => ⟨S32x8x1, .f32⟩
  | .hbm, ⟨41, _⟩ => ⟨S_, .f32⟩
  | .hbm, ⟨42, _⟩ => ⟨S32x8x1, .f32⟩
  | .hbm, ⟨43, _⟩ => ⟨S32x8x1, .f32⟩
  | .hbm, ⟨44, _⟩ => ⟨S32x8x1, .f32⟩
  | .hbm, ⟨45, _⟩ => ⟨S32x8x1024, .f32⟩
  | .hbm, ⟨46, _⟩ => ⟨S32x8x1024, .f32⟩
  | .hbm, ⟨47, _⟩ => ⟨S1x1x1024, .f32⟩
  | .hbm, ⟨48, _⟩ => ⟨S32x8x1024, .f32⟩
  | .hbm, ⟨49, _⟩ => ⟨S32x8x1024, .f32⟩
  | .hbm, ⟨50, _⟩ => ⟨S32x8x2816, .f32⟩
  | .hbm, ⟨51, _⟩ => ⟨S32x8x2816, .f32⟩
  | .hbm, ⟨52, _⟩ => ⟨S32x8x2816, .f32⟩
  | .hbm, ⟨53, _⟩ => ⟨S_, .f32⟩
  | .hbm, ⟨54, _⟩ => ⟨S32x8x2816, .f32⟩
  | .hbm, ⟨55, _⟩ => ⟨S32x8x2816, .f32⟩
  | .hbm, ⟨56, _⟩ => ⟨S_, .f32⟩
  | .hbm, ⟨57, _⟩ => ⟨S32x8x2816, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S32x8x2816, .f32⟩
  | .hbm, ⟨62, _⟩ => ⟨S32x8x1024, .f32⟩
  | .hbm, ⟨63, _⟩ => ⟨S_, .f32⟩
  | .hbm, ⟨64, _⟩ => ⟨S32x8x1024, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S_, .f32⟩
  | .hbm, ⟨69, _⟩ => ⟨S32x8, .f32⟩
  | .hbm, ⟨70, _⟩ => ⟨S32x8x1, .f32⟩
  | .hbm, ⟨71, _⟩ => ⟨S_, .f32⟩
  | .hbm, ⟨72, _⟩ => ⟨S32x8x1, .f32⟩
  | .hbm, ⟨73, _⟩ => ⟨S32x8x1, .f32⟩
  | .hbm, ⟨74, _⟩ => ⟨S_, .f32⟩
  | .hbm, ⟨75, _⟩ => ⟨S32x8x1, .f32⟩
  | .hbm, ⟨76, _⟩ => ⟨S32x8x1, .f32⟩
  | .hbm, ⟨77, _⟩ => ⟨S32x8x1, .f32⟩
  | .hbm, ⟨78, _⟩ => ⟨S32x8x1024, .f32⟩
  | .hbm, ⟨79, _⟩ => ⟨S32x8x1024, .f32⟩
  | .hbm, ⟨80, _⟩ => ⟨S1x1x1024, .f32⟩
  | .hbm, ⟨81, _⟩ => ⟨S32x8x1024, .f32⟩
  | .hbm, ⟨82, _⟩ => ⟨S32x8x1024, .f32⟩
  | .hbm, ⟨83, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Project.lean ====
abbrev S4x8192x1024 : Shape := ⟨3, ![4, 8192, 1024]⟩
abbrev S1024 : Shape := ⟨1, ![1024]⟩
abbrev S1024x7184 : Shape := ⟨2, ![1024, 7184]⟩
abbrev S16 : Shape := ⟨1, ![16]⟩
abbrev S1024x1024 : Shape := ⟨2, ![1024, 1024]⟩
abbrev S1024x16 : Shape := ⟨2, ![1024, 16]⟩
abbrev S1x1024 : Shape := ⟨2, ![1, 1024]⟩
abbrev S1x16 : Shape := ⟨2, ![1, 16]⟩
abbrev S4x1024x8192 : Shape := ⟨3, ![4, 1024, 8192]⟩
abbrev S4x8192x16 : Shape := ⟨3, ![4, 8192, 16]⟩
abbrev S1x256x1024 : Shape := ⟨3, ![1, 256, 1024]⟩
abbrev S1x1024x256 : Shape := ⟨3, ![1, 1024, 256]⟩
abbrev S1x256x16 : Shape := ⟨3, ![1, 256, 16]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x16 : Shape := ⟨2, ![256, 16]⟩
abbrev S256x256 : Shape := ⟨2, ![256, 256]⟩
abbrev S1x1x16 : Shape := ⟨3, ![1, 1, 16]⟩
abbrev S48x1024 : Shape := ⟨2, ![48, 1024]⟩
abbrev S256x48 : Shape := ⟨2, ![256, 48]⟩

abbrev nBuf : Space → Nat
  | .hbm => 29
  | .vmem => 35
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7184, .f32⟩
  | .hbm, ⟨3, _⟩ => ⟨S16, .f32⟩
  | .hbm, ⟨4, _⟩ => ⟨S1024x7184, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x16, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x16, .f32⟩
  | .hbm, ⟨18, _⟩ => ⟨S4x8192x1024, .f32⟩
  | .hbm, ⟨19, _⟩ => ⟨S4x1024x8192, .bf16⟩
  | .hbm, ⟨20, _⟩ => ⟨S4x1024x8192, .f32⟩
  | .hbm, ⟨21, _⟩ => ⟨S4x1024x8192, .f32⟩
  | .hbm, ⟨22, _⟩ => ⟨S4x8192x1024, .bf16⟩
  | .hbm, ⟨23, _⟩ => ⟨S4x8192x1024, .bf16⟩
  | .hbm, ⟨24, _⟩ => ⟨S4x1024x8192, .bf16⟩
  | .hbm, ⟨25, _⟩ => ⟨S4x8192x16, .f32⟩
  | .hbm, ⟨26, _⟩ => ⟨S4x8192x16, .f32⟩
  | .hbm, ⟨27, _⟩ => ⟨S4x8192x1024, .f32⟩
  | .hbm, ⟨28, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x16, .bf16⟩
  | .local _ .vmem, ⟨9, _⟩ => ⟨S1024x1024, .bf16⟩
  | .local _ .vmem, ⟨10, _⟩ => ⟨S1024x1024, .bf16⟩
  | .local _ .vmem, ⟨11, _⟩ => ⟨S1x16, .f32⟩
  | .local _ .vmem, ⟨12, _⟩ => ⟨S1x256x1024, .f32⟩
  | .local _ .vmem, ⟨13, _⟩ => ⟨S1x256x1024, .f32⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x256x16, .f32⟩
  | .local _ .vmem, ⟨27, _⟩ => ⟨S1x256x16, .f32⟩
  | .local _ .vmem, ⟨28, _⟩ => ⟨S1x256x16, .f32⟩
  | .local _ .vmem, ⟨29, _⟩ => ⟨S1x256x16, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x16, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_v14_6 : Ref sig .tc := ⟨.hbm, 24, rfl⟩
abbrev main_v14_7 : Ref sig .tc := ⟨.hbm, 25, rfl⟩
abbrev main_v14_8 : Ref sig .tc := ⟨.hbm, 26, rfl⟩
abbrev main_v14_9 : Ref sig .tc := ⟨.hbm, 27, rfl⟩
abbrev main_v14_10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ProjectRefIdeal.lean ====
abbrev S4x8192x1024 : Shape := ⟨3, ![4, 8192, 1024]⟩
abbrev S1024 : Shape := ⟨1, ![1024]⟩
abbrev S1024x7184 : Shape := ⟨2, ![1024, 7184]⟩
abbrev S16 : Shape := ⟨1, ![16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7184 : Shape := ⟨3, ![4, 8192, 7184]⟩
abbrev S4x8192x16 : Shape := ⟨3, ![4, 8192, 16]⟩
abbrev S1x1x16 : Shape := ⟨3, ![1, 1, 16]⟩
abbrev S4x1024x8192 : Shape := ⟨3, ![4, 1024, 8192]⟩

abbrev nBuf : Space → Nat
  | .hbm => 75
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7184, .f32⟩
  | .hbm, ⟨3, _⟩ => ⟨S16, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x7184, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x16, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S1x1x16, .f32⟩
  | .hbm, ⟨39, _⟩ => ⟨S4x8192x16, .f32⟩
  | .hbm, ⟨40, _⟩ => ⟨S4x8192x16, .f32⟩
  | .hbm, ⟨41, _⟩ => ⟨S4x8192x16, .f32⟩
  | .hbm, ⟨42, _⟩ => ⟨S_, .f32⟩
  | .hbm, ⟨43, _⟩ => ⟨S4x8192x16, .f32⟩
  | .hbm, ⟨44, _⟩ => ⟨S4x8192x16, .f32⟩
  | .hbm, ⟨45, _⟩ => ⟨S4x8192x16, .f32⟩
  | .hbm, ⟨46, _⟩ => ⟨S4x8192x16, .f32⟩
  | .hbm, ⟨47, _⟩ => ⟨S4x8192x16, .i1⟩
  | .hbm, ⟨48, _⟩ => ⟨S4x8192x16, .f32⟩
  | .hbm, ⟨49, _⟩ => ⟨S4x8192x16, .f32⟩
  | .hbm, ⟨50, _⟩ => ⟨S4x8192x16, .f32⟩
  | .hbm, ⟨51, _⟩ => ⟨S4x8192x16, .f32⟩
  | .hbm, ⟨52, _⟩ => ⟨S4x8192x16, .f32⟩
  | .hbm, ⟨53, _⟩ => ⟨S4x8192x16, .f32⟩
  | .hbm, ⟨54, _⟩ => ⟨S4x8192x16, .f32⟩
  | .hbm, ⟨55, _⟩ => ⟨S4x8192x16, .f32⟩
  | .hbm, ⟨56, _⟩ => ⟨S4x8192x16, .f32⟩
  | .hbm, ⟨57, _⟩ => ⟨S4x1024x8192, .f32⟩
  | .hbm, ⟨58, _⟩ => ⟨S4x1024x8192, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192x1024, .f32⟩
  | .hbm, ⟨74, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Proof.Run.lean ====
module
public import proofs.«01_k».proof.Proof.Gen.KernelIdeal.Frame.Runs
public import proofs.«01_k».proof.Proof.Gen.KernelIdeal.Loops
@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
noncomputable def run0 (c : Dev nD) (i : grid0.Coords) (arg3 : Memref sig .tc .vmem S1x128x1024 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .bf16) (harg6 : arg6.IsWhole) (arg7 : Memref sig .tc .vmem S1x1x2x1024 .f32) (harg7 : arg7.IsWhole) (arg8 : Memref sig .tc .vmem S1x1024x128 .bf16) (harg8 : arg8.IsWhole) (arg9 : Memref sig .tc .vmem S2x256x1024 .f32) (harg9 : arg9.IsWhole) (arg10 : Memref sig .tc .vmem S2x256x1024 .f32) (harg10 : arg10.IsWhole)
    (x0 : Vec F S1x128x1024 .bf16) (x1 : Vec F S1x8192x128 .bf16) (x2 : Vec F S1x8192x128 .bf16) (x3 : Vec F S1x128x8192 .bf16) (x4 : Vec F S1x1x2x1024 .f32) :
    { L5 : BufTy.Contents (Elt F) arg9.view.ty → BufTy.Contents (Elt F) arg10.view.ty → List (View.Piece (Elt F) S1x1024x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f g9 g10, arg8.view.loc (c : Thread nD τ) ↦[arg8.view.set]{fullShare} arg8.view.writes (Elt F) f (L5 g9 g10)) ∗ (∃ d, owns (c : Thread nD τ) arg9 fullShare d) ∗ (∃ d, owns (c : Thread nD τ) arg10 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10) K } := by
  refine ⟨?_, fun E K => ?run⟩
  case run =>
    simp only [cc0_attn_eq_skeleton]; unfold cc0_attn_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _, fs0, fs1; iexact H5
    isplitl [HS0]
    · iexists _, _; isplitr; swap; · iexact HS0
      ipureintro; rfl
    iexists _, _; isplitr; swap; · iexact HS1
    ipureintro; rfl

end Cert.KernelIdeal.Att
-- ==== Proof.Words.lean ====
module
public import proofs.«01_k».proof.Proof.Run
public import Idealize.ShloMosaic.Lib.Pipeline.ReadBack
public import Idealize.ShloMosaic.Lib.LoopRemainder
public import Idealize.ShloMosaic.Lib.ValueLayout
@[expose] public section

/-! # The attention kernel's loop in closed form

What the loop over whole key chunks leaves, as a recursion over the chunks: a pure step on the running
maxima and accumulators of the two heads of a pair, one chunk of 256 keys a step. -/

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.ValueIdx

variable {F : FTy → Type} [FloatOps F] [Named F]

/-! ## Reading back what was stored -/

section ReadBack
variable {sig' : RefSig} {κ' : Kind} {sp' : Space} {s : Shape} {e : EltTy} {Val : EltTy → Type}

/-- A load through the last store's own rectangle reads what that store wrote. -/
theorem readAt_hit (v : View sig' κ' sp' s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load that misses the last store reads what the stores before it left. -/
theorem readAt_skip (v : View sig' κ' sp' s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) :=
  funext fun x => View.read_writes_cons_miss v f ⟨r, w⟩ L _ (LoadRect.idx_not_mem_of_disj h x)

end ReadBack

/-! ## The rows of a chunk -/

/-- The 256 rows of chunk `j` of a key array laid out by rows. -/
def krow (x : Vec F S1x8192x128 .bf16) (j : ℕ) : Vec F S1x256x128 .bf16 :=
  fun y => x (ix3 0 ⟨(256 * j + (y 1).val) % 8192, Nat.mod_lt _ (by decide)⟩ (y 2))

/-- The 256 columns of chunk `j` of the transposed values, the first head's 64 rows. -/
def vrow0 (x : Vec F S1x128x8192 .bf16) (j : ℕ) : Vec F S1x64x256 .bf16 :=
  fun y => x (ix3 0 ⟨(y 1).val, lt_of_lt_of_le (y 1).isLt (by decide)⟩ ⟨(256 * j + (y 2).val) % 8192, Nat.mod_lt _ (by decide)⟩)

/-- The 256 columns of chunk `j` of the transposed values, the second head's 64 rows. -/
def vrow1 (x : Vec F S1x128x8192 .bf16) (j : ℕ) : Vec F S1x64x256 .bf16 :=
  fun y => x (ix3 0 ⟨64 + (y 1).val, lt_of_lt_of_le (Nat.add_lt_add_left (y 1).isLt 64) (by decide)⟩ ⟨(256 * j + (y 2).val) % 8192, Nat.mod_lt _ (by decide)⟩)

/-- A load of 256 rows at row `256 j` reads chunk `j`. -/
theorem read_krow (m : Memref sig .tc .vmem S1x8192x128 .bf16) (hm : m.IsWhole) (x : Vec F S1x8192x128 .bf16) (j : ℕ) (hj : j < 32)
    (off : Fin 3 → ℕ) (ho : off = ![0, 256 * j, 0]) (inb : ∀ a, off a + S1x256x128.size a ≤ S1x8192x128.size a) :
    View.readAt (Elt F) m.view (Rect.unit (s := S1x8192x128) off S1x256x128.size inb).toLoadRect (hm.unread x) = krow x j := by
  subst ho
  rw [View.readAt_eq_ld, hm.read_unread]
  funext y
  have h1 : (y 1).val < 256 := (y 1).isLt
  have h0 : (y 0).val < 1 := (y 0).isLt
  refine congrArg x (funext fun a => Fin.ext ?_)
  match a with
  | 0 => show 0 + 1 * (y 0).val = 0; omega
  | 1 => show 256 * j + 1 * (y 1).val = (256 * j + (y 1).val) % 8192; omega
  | 2 => show 0 + 1 * (y 2).val = (y 2).val; omega

/-- A load of 64 rows and 256 columns at column `256 j` reads the first head's chunk `j` of the values. -/
theorem read_vrow0 (m : Memref sig .tc .vmem S1x128x8192 .bf16) (hm : m.IsWhole) (x : Vec F S1x128x8192 .bf16) (j : ℕ) (hj : j < 32)
    (off : Fin 3 → ℕ) (ho : off = ![0, 0, 256 * j]) (inb : ∀ a, off a + S1x64x256.size a ≤ S1x128x8192.size a) :
    View.readAt (Elt F) m.view (Rect.unit (s := S1x128x8192) off S1x64x256.size inb).toLoadRect (hm.unread x) = vrow0 x j := by
  subst ho
  rw [View.readAt_eq_ld, hm.read_unread]
  funext y
  have h1 : (y 2).val < 256 := (y 2).isLt
  have h0 : (y 0).val < 1 := (y 0).isLt
  refine congrArg x (funext fun a => Fin.ext ?_)
  match a with
  | 0 => show 0 + 1 * (y 0).val = 0; omega
  | 1 => show 0 + 1 * (y 1).val = (y 1).val; omega
  | 2 => show 256 * j + 1 * (y 2).val = (256 * j + (y 2).val) % 8192; omega

/-- A load of 64 rows from row 64 and 256 columns at column `256 j` reads the second head's chunk `j` of the values. -/
theorem read_vrow1 (m : Memref sig .tc .vmem S1x128x8192 .bf16) (hm : m.IsWhole) (x : Vec F S1x128x8192 .bf16) (j : ℕ) (hj : j < 32)
    (off : Fin 3 → ℕ) (ho : off = ![0, 64, 256 * j]) (inb : ∀ a, off a + S1x64x256.size a ≤ S1x128x8192.size a) :
    View.readAt (Elt F) m.view (Rect.unit (s := S1x128x8192) off S1x64x256.size inb).toLoadRect (hm.unread x) = vrow1 x j := by
  subst ho
  rw [View.readAt_eq_ld, hm.read_unread]
  funext y
  have h1 : (y 2).val < 256 := (y 2).isLt
  have h0 : (y 0).val < 1 := (y 0).isLt
  refine congrArg x (funext fun a => Fin.ext ?_)
  match a with
  | 0 => show 0 + 1 * (y 0).val = 0; omega
  | 1 => show 64 + 1 * (y 1).val = 64 + (y 1).val; omega
  | 2 => show 256 * j + 1 * (y 2).val = (256 * j + (y 2).val) % 8192; omega

/-! ## The step -/

/-- The logits of chunk `j` for all 1024 queries of the tile, as they lie in the scratch page. -/
def page (q : FVec F S256x1024 .bf16) (x1 x2 : Vec F S1x8192x128 .bf16) (j : ℕ) : Vec F S1x256x1024 .f32 :=
  k0_pay14 (k0_pay13 q (krow x1 j) (krow x2 j))

/-- What the loop carries: maximum and accumulator, for the two heads. -/
abbrev Car (F : FTy → Type) := FVec F S1x1024 .f32 × FVec F S80x1024 .f32 × FVec F S1x1024 .f32 × FVec F S80x1024 .f32

/-- One chunk absorbed by both heads. -/
def stp (q0 q1 : FVec F S256x1024 .bf16) (x1 x2 : Vec F S1x8192x128 .bf16) (x3 : Vec F S1x128x8192 .bf16) (j : ℕ) (s : Car F) : Car F :=
  (k0_pay6 s.1 (page q0 x1 x2 j), k0_pay11 k0_pay100 s.1 s.2.1 (page q0 x1 x2 j) (vrow0 x3 j),
   k0_pay6 s.2.2.1 (page q1 x1 x2 j), k0_pay11 k0_pay100 s.2.2.1 s.2.2.2 (page q1 x1 x2 j) (vrow1 x3 j))

/-- What the first `n` chunks leave. -/
def ST (q0 q1 : FVec F S256x1024 .bf16) (x1 x2 : Vec F S1x8192x128 .bf16) (x3 : Vec F S1x128x8192 .bf16) : ℕ → Car F
  | 0 => (k0_pay101, k0_pay102, k0_pay103, k0_pay104)
  | n + 1 => stp q0 q1 x1 x2 x3 n (ST q0 q1 x1 x2 x3 n)

/-- The loop makes as many trips as there are query tiles before this one. -/
theorem trips_eq (i : grid0.Coords) : (k0_t1_loop i).trips = (i 2).val := by
  have h_c0_i32_42 : Affine.IsInt 0#32 (0) := Affine.ofNat _ (by omega)
  have r_i2 : (i 2).val < 8 := (i 2).isLt
  have h_arg2 : Affine.IsInt (BitVec.ofNat 32 (i 2).val) (((i 2).val : Int)) := Affine.ofNat _ (by omega)
  have h_v119 : Affine.IsInt _ (((i 2).val : Int)) := Affine.subi h_arg2 h_c0_i32_42 (by omega)
  have h_c1_i32 : Affine.IsInt 1#32 (1) := Affine.ofNat _ (by omega)
  have h_v121 : Affine.IsInt _ (((i 2).val : Int)) := Affine.divsi h_v119 h_c1_i32 (by omega)
  have h_v122 : Affine.IsInt _ (((i 2).val : Int)) := Affine.muli h_v121 h_c1_i32 (by omega)
  have h_v123 : Affine.IsInt _ (((i 2).val : Int)) := Affine.addi h_c0_i32_42 h_v122 (by omega)
  have h_c1_i32_43 : Affine.IsInt 1#32 (1) := Affine.ofNat _ (by omega)
  exact Affine.trips_eq h_c0_i32_42 h_v123 h_c1_i32_43 _ (by omega)

abbrev pg0 : LoadRect S2x256x1024 := (Rect.unit (s := S2x256x1024) ![0, 0, 0] S1x256x1024.size inb_S2x256x1024_S1x256x1024_0_0_0).toLoadRect
abbrev pg1 : LoadRect S2x256x1024 := (Rect.unit (s := S2x256x1024) ![1, 0, 0] S1x256x1024.size inb_S2x256x1024_S1x256x1024_1_0_0).toLoadRect

/-- One trip absorbs four chunks, the first of which lies in the pages before it, and leaves the fifth in the pages. -/
theorem trip_val (c : Dev nD) (i : grid0.Coords) (arg3 : Memref sig .tc .vmem S1x128x1024 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x128x8192 .bf16) (harg6 : arg6.IsWhole) (arg7 : Memref sig .tc .vmem S1x1x2x1024 .f32) (harg7 : arg7.IsWhole) (arg8 : Memref sig .tc .vmem S1x1024x128 .bf16) (harg8 : arg8.IsWhole)
    (arg9 : Memref sig .tc .vmem S2x256x1024 .f32) (harg9 : arg9.IsWhole) (arg10 : Memref sig .tc .vmem S2x256x1024 .f32) (harg10 : arg10.IsWhole)
    (arg2 : BitVec 32) (q0 q1 : FVec F S256x1024 .bf16)
    (v99 : FVec F S1x1024 .f32) (v100 : FVec F S80x1024 .f32) (v101 : FVec F S1x1024 .f32) (v102 : FVec F S80x1024 .f32) (c0_i32_42 v119 : BitVec 32)
    (x1 x2 : Vec F S1x8192x128 .bf16) (x3 : Vec F S1x128x8192 .bf16)
    (k : Fin (k0_t1_loop i).trips) (acc : Car F) (f9 : BufTy.Contents (Elt F) arg9.view.ty) (f10 : BufTy.Contents (Elt F) arg10.view.ty)
    (h0 : arg9.view.readAt (Elt F) pg0 f9 = page q0 x1 x2 (4 * k.val)) (h1 : arg9.view.readAt (Elt F) pg1 f9 = page q1 x1 x2 (4 * k.val)) :
    tripR_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) k acc f9 f10
      = stp q0 q1 x1 x2 x3 (4 * k.val + 3) (stp q0 q1 x1 x2 x3 (4 * k.val + 2) (stp q0 q1 x1 x2 x3 (4 * k.val + 1) (stp q0 q1 x1 x2 x3 (4 * k.val) acc)))
    ∧ arg9.view.readAt (Elt F) pg0 (arg9.view.writes (Elt F) f9 (tripL_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) k acc f9 f10).1) = page q0 x1 x2 (4 * k.val + 4)
    ∧ arg9.view.readAt (Elt F) pg1 (arg9.view.writes (Elt F) f9 (tripL_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) k acc f9 f10).1) = page q1 x1 x2 (4 * k.val + 4) := by
  have hk : k.val < 7 := Nat.lt_of_lt_of_le k.isLt (k0_t1_abs i).2.1
  have o1 : ∀ r : Fin 4, k0_off1 i k (BitVec.ofNat 32 r.val) = ![0, 256 * (4 * k.val + r.val + 1), 0] := fun r => by
    rw [Gen.k0_off1_eq, show 1024 * k.val + 256 * r.val + 256 = 256 * (4 * k.val + r.val + 1) by omega]
  have o2 : ∀ r : Fin 4, k0_off2 i k (BitVec.ofNat 32 r.val) = ![0, 0, 256 * (4 * k.val + r.val)] := fun r => by
    rw [Gen.k0_off2_eq, show 1024 * k.val + 256 * r.val = 256 * (4 * k.val + r.val) by omega]
  have o3 : ∀ r : Fin 4, k0_off3 i k (BitVec.ofNat 32 r.val) = ![0, 64, 256 * (4 * k.val + r.val)] := fun r => by
    rw [Gen.k0_off3_eq, show 1024 * k.val + 256 * r.val = 256 * (4 * k.val + r.val) by omega]
  have a0 : ∀ inb, View.readAt (Elt F) arg4.view (Rect.unit (s := S1x8192x128) (k0_off1 i k 0#32) ![1, 256, 128] inb).toLoadRect (harg4.unread x1) = krow x1 (4 * k.val + 1) := fun inb => read_krow arg4 harg4 x1 (4 * k.val + 1) (by omega) _ (o1 0) inb
  have b0 : ∀ inb, View.readAt (Elt F) arg5.view (Rect.unit (s := S1x8192x128) (k0_off1 i k 0#32) ![1, 256, 128] inb).toLoadRect (harg5.unread x2) = krow x2 (4 * k.val + 1) := fun inb => read_krow arg5 harg5 x2 (4 * k.val + 1) (by omega) _ (o1 0) inb
  have c0 : ∀ inb, View.readAt (Elt F) arg6.view (Rect.unit (s := S1x128x8192) (k0_off2 i k 0#32) ![1, 64, 256] inb).toLoadRect (harg6.unread x3) = vrow0 x3 (4 * k.val) := fun inb => read_vrow0 arg6 harg6 x3 (4 * k.val) (by omega) _ (o2 0) inb
  have d0 : ∀ inb, View.readAt (Elt F) arg6.view (Rect.unit (s := S1x128x8192) (k0_off3 i k 0#32) ![1, 64, 256] inb).toLoadRect (harg6.unread x3) = vrow1 x3 (4 * k.val) := fun inb => read_vrow1 arg6 harg6 x3 (4 * k.val) (by omega) _ (o3 0) inb
  have a1 : ∀ inb, View.readAt (Elt F) arg4.view (Rect.unit (s := S1x8192x128) (k0_off1 i k 1#32) ![1, 256, 128] inb).toLoadRect (harg4.unread x1) = krow x1 (4 * k.val + 2) := fun inb => read_krow arg4 harg4 x1 (4 * k.val + 2) (by omega) _ (o1 1) inb
  have b1 : ∀ inb, View.readAt (Elt F) arg5.view (Rect.unit (s := S1x8192x128) (k0_off1 i k 1#32) ![1, 256, 128] inb).toLoadRect (harg5.unread x2) = krow x2 (4 * k.val + 2) := fun inb => read_krow arg5 harg5 x2 (4 * k.val + 2) (by omega) _ (o1 1) inb
  have c1 : ∀ inb, View.readAt (Elt F) arg6.view (Rect.unit (s := S1x128x8192) (k0_off2 i k 1#32) ![1, 64, 256] inb).toLoadRect (harg6.unread x3) = vrow0 x3 (4 * k.val + 1) := fun inb => read_vrow0 arg6 harg6 x3 (4 * k.val + 1) (by omega) _ (o2 1) inb
  have d1 : ∀ inb, View.readAt (Elt F) arg6.view (Rect.unit (s := S1x128x8192) (k0_off3 i k 1#32) ![1, 64, 256] inb).toLoadRect (harg6.unread x3) = vrow1 x3 (4 * k.val + 1) := fun inb => read_vrow1 arg6 harg6 x3 (4 * k.val + 1) (by omega) _ (o3 1) inb
  have a2 : ∀ inb, View.readAt (Elt F) arg4.view (Rect.unit (s := S1x8192x128) (k0_off1 i k 2#32) ![1, 256, 128] inb).toLoadRect (harg4.unread x1) = krow x1 (4 * k.val + 3) := fun inb => read_krow arg4 harg4 x1 (4 * k.val + 3) (by omega) _ (o1 2) inb
  have b2 : ∀ inb, View.readAt (Elt F) arg5.view (Rect.unit (s := S1x8192x128) (k0_off1 i k 2#32) ![1, 256, 128] inb).toLoadRect (harg5.unread x2) = krow x2 (4 * k.val + 3) := fun inb => read_krow arg5 harg5 x2 (4 * k.val + 3) (by omega) _ (o1 2) inb
  have c2 : ∀ inb, View.readAt (Elt F) arg6.view (Rect.unit (s := S1x128x8192) (k0_off2 i k 2#32) ![1, 64, 256] inb).toLoadRect (harg6.unread x3) = vrow0 x3 (4 * k.val + 2) := fun inb => read_vrow0 arg6 harg6 x3 (4 * k.val + 2) (by omega) _ (o2 2) inb
  have d2 : ∀ inb, View.readAt (Elt F) arg6.view (Rect.unit (s := S1x128x8192) (k0_off3 i k 2#32) ![1, 64, 256] inb).toLoadRect (harg6.unread x3) = vrow1 x3 (4 * k.val + 2) := fun inb => read_vrow1 arg6 harg6 x3 (4 * k.val + 2) (by omega) _ (o3 2) inb
  have a3 : ∀ inb, View.readAt (Elt F) arg4.view (Rect.unit (s := S1x8192x128) (k0_off1 i k 3#32) ![1, 256, 128] inb).toLoadRect (harg4.unread x1) = krow x1 (4 * k.val + 4) := fun inb => read_krow arg4 harg4 x1 (4 * k.val + 4) (by omega) _ (o1 3) inb
  have b3 : ∀ inb, View.readAt (Elt F) arg5.view (Rect.unit (s := S1x8192x128) (k0_off1 i k 3#32) ![1, 256, 128] inb).toLoadRect (harg5.unread x2) = krow x2 (4 * k.val + 4) := fun inb => read_krow arg5 harg5 x2 (4 * k.val + 4) (by omega) _ (o1 3) inb
  have c3 : ∀ inb, View.readAt (Elt F) arg6.view (Rect.unit (s := S1x128x8192) (k0_off2 i k 3#32) ![1, 64, 256] inb).toLoadRect (harg6.unread x3) = vrow0 x3 (4 * k.val + 3) := fun inb => read_vrow0 arg6 harg6 x3 (4 * k.val + 3) (by omega) _ (o2 3) inb
  have d3 : ∀ inb, View.readAt (Elt F) arg6.view (Rect.unit (s := S1x128x8192) (k0_off3 i k 3#32) ![1, 64, 256] inb).toLoadRect (harg6.unread x3) = vrow1 x3 (4 * k.val + 3) := fun inb => read_vrow1 arg6 harg6 x3 (4 * k.val + 3) (by omega) _ (o3 3) inb
  unfold tripR_k0_t1 tripL_k0_t1 trip_k0_t1
  dsimp only
  sl_unfold_run_names
  rw [a0, a1, a2, a3, b0, b1, b2, b3, c0, c1, c2, c3, d0, d1, d2, d3, h0, h1]
  simp (disch := decide) only [View.readCov_skip, View.readCov_cons_toLoadRect, readAt_skip, readAt_hit]
  exact ⟨rfl, rfl, rfl⟩

/-- Before trip `n` the loop carries what the first `4 n` chunks leave, and the pages hold chunk `4 n`. -/
theorem st_val (c : Dev nD) (i : grid0.Coords) (arg3 : Memref sig .tc .vmem S1x128x1024 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x128x8192 .bf16) (harg6 : arg6.IsWhole) (arg7 : Memref sig .tc .vmem S1x1x2x1024 .f32) (harg7 : arg7.IsWhole) (arg8 : Memref sig .tc .vmem S1x1024x128 .bf16) (harg8 : arg8.IsWhole)
    (arg9 : Memref sig .tc .vmem S2x256x1024 .f32) (harg9 : arg9.IsWhole) (arg10 : Memref sig .tc .vmem S2x256x1024 .f32) (harg10 : arg10.IsWhole)
    (arg2 : BitVec 32) (q0 q1 : FVec F S256x1024 .bf16)
    (v99 : FVec F S1x1024 .f32) (v100 : FVec F S80x1024 .f32) (v101 : FVec F S1x1024 .f32) (v102 : FVec F S80x1024 .f32) (c0_i32_42 v119 : BitVec 32)
    (x1 x2 : Vec F S1x8192x128 .bf16) (x3 : Vec F S1x128x8192 .bf16)
    (G9 : BufTy.Contents (Elt F) arg9.view.ty) (G10 : BufTy.Contents (Elt F) arg10.view.ty)
    (h0 : arg9.view.readAt (Elt F) pg0 G9 = page q0 x1 x2 0) (h1 : arg9.view.readAt (Elt F) pg1 G9 = page q1 x1 x2 0) :
    ∀ n : ℕ, n ≤ (k0_t1_loop i).trips →
      (st_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) G9 G10 (k0_pay101, k0_pay102, k0_pay103, k0_pay104) n).1 = ST q0 q1 x1 x2 x3 (4 * n)
      ∧ arg9.view.readAt (Elt F) pg0 (arg9.view.writes (Elt F) G9 (st_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) G9 G10 (k0_pay101, k0_pay102, k0_pay103, k0_pay104) n).2.1) = page q0 x1 x2 (4 * n)
      ∧ arg9.view.readAt (Elt F) pg1 (arg9.view.writes (Elt F) G9 (st_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) G9 G10 (k0_pay101, k0_pay102, k0_pay103, k0_pay104) n).2.1) = page q1 x1 x2 (4 * n)
  | 0, _ => ⟨rfl, h0, h1⟩
  | n + 1, hn => by
    obtain ⟨e, e0, e1⟩ := st_val c i arg3 harg3 arg4 harg4 arg5 harg5 arg6 harg6 arg7 harg7 arg8 harg8 arg9 harg9 arg10 harg10 arg2 q0 q1 v99 v100 v101 v102 c0_i32_42 v119 x1 x2 x3 G9 G10 h0 h1 n (Nat.le_of_succ_le hn)
    rw [show n + 1 = (⟨n, hn⟩ : Fin (k0_t1_loop i).trips).val + 1 from rfl, st_k0_t1_succ]
    obtain ⟨t, t0, t1⟩ := trip_val c i arg3 harg3 arg4 harg4 arg5 harg5 arg6 harg6 arg7 harg7 arg8 harg8 arg9 harg9 arg10 harg10 arg2 q0 q1 v99 v100 v101 v102 c0_i32_42 v119 x1 x2 x3 ⟨n, hn⟩ _ _
      (arg10.view.writes (Elt F) G10 (st_k0_t1 (F := F) Variants.none c none i arg3 harg3 arg4 harg4 arg5 harg5 arg6 harg6 arg7 harg7 arg8 harg8 arg9 harg9 arg10 harg10 arg2 q0 q1 k0_pay100 v99 v100 v101 v102 c0_i32_42 v119 (harg4.unread x1) (harg5.unread x2) (harg6.unread x3) G9 G10 (k0_pay101, k0_pay102, k0_pay103, k0_pay104) n).2.2) e0 e1
    dsimp only
    rw [View.writes_append]
    refine ⟨t.trans ?_, t0, t1⟩
    rw [e]
    rfl

end Cert.KernelIdeal.Att

end
-- ==== Proof.Point.lean ====
module
public import proofs.«01_k».proof.Proof.Words
public import Idealize.ShloMosaic.Lib.Pipeline.ReadBack
public import Idealize.ShloMosaic.Lib.LoopRemainder
public import Idealize.ShloMosaic.Lib.ValueLayout
@[expose] public section

/-! # What one grid point stores

The loop's result, then the four chunks that hold the diagonal, then the division of the accumulated sums by
the accumulated weights: the one block the kernel stores, as a function of the blocks it reads. -/

set_option maxRecDepth 16384

noncomputable section

namespace Cert.KernelIdeal.Att

open Cert.KernelIdeal Cert.KernelIdeal.Gen
open Idealize.ShloMosaic Idealize.ShloMosaic.TcCoe Idealize.ShloMosaic.Tactic
open Idealize.ShloMosaic.ValueIdx

variable {F : FTy → Type} [FloatOps F] [Named F]

/-- The coefficients of head `a`'s 1024 queries. -/
def crow (a : Fin 2) (x : Vec F S1x1x2x1024 .f32) : Vec F S1x1x1x1024 .f32 := fun y => x (ix4 0 0 a (y 3))

/-- The row numbers of the 128 lanes. -/
abbrev lane : IVec S128x1024 32 := iota .tc S128x1024 32 [0] iota_S128x1024_d0_w32

/-- The first head's queries with their 128 extra rows. -/
def QA0 (x0 : Vec F S1x128x1024 .bf16) (x4 : Vec F S1x1x2x1024 .f32) : FVec F S256x1024 .bf16 :=
  k0_pay91 lane (k0_pay83 x0) (k0_pay87 (crow 0 x4)) (k0_pay88 (crow 0 x4)) (k0_pay89 (crow 0 x4)) k0_pay90

/-- The second head's queries with their 128 extra rows. -/
def QA1 (x0 : Vec F S1x128x1024 .bf16) (x4 : Vec F S1x1x2x1024 .f32) : FVec F S256x1024 .bf16 :=
  k0_pay99 lane (k0_pay92 (k0_pay82 x0) lane) (k0_pay96 (crow 1 x4)) (k0_pay97 (crow 1 x4)) (k0_pay98 lane (crow 1 x4))

/-- The logits of the second diagonal chunk, for the queries from 256 on. -/
def pg1a (q : FVec F S256x1024 .bf16) (x1 x2 : Vec F S1x8192x128 .bf16) (j : ℕ) : Vec F S1x256x768 .f32 := k0_pay111 q (krow x1 j) (krow x2 j)
/-- The logits of the third diagonal chunk, for the queries from 512 on. -/
def pg2a (q : FVec F S256x1024 .bf16) (x1 x2 : Vec F S1x8192x128 .bf16) (j : ℕ) : Vec F S1x256x512 .f32 := k0_pay121 q (krow x1 j) (krow x2 j)
/-- The logits of the fourth diagonal chunk, for the queries from 768 on. -/
def pg3a (q : FVec F S256x1024 .bf16) (x1 x2 : Vec F S1x8192x128 .bf16) (j : ℕ) : Vec F S1x256x256 .f32 := k0_pay136 q (krow x1 j) (krow x2 j)

/-- After the first diagonal chunk. -/
def D0 (q0 q1 : FVec F S256x1024 .bf16) (x1 x2 : Vec F S1x8192x128 .bf16) (x3 : Vec F S1x128x8192 .bf16) (n : ℕ) : Car F :=
  let s := ST q0 q1 x1 x2 x3 (4 * n)
  (k0_pay115 s.1 (k0_pay113 (page q0 x1 x2 (4 * n))) (iota .tc S256x1024 32 [0] iota_S256x1024_d0_w32) (iota .tc S256x1024 32 [1] iota_S256x1024_d1_w32),
   k0_pay116 k0_pay100 s.1 s.2.1 (k0_pay113 (page q0 x1 x2 (4 * n))) (iota .tc S256x1024 32 [0] iota_S256x1024_d0_w32) (iota .tc S256x1024 32 [1] iota_S256x1024_d1_w32) (vrow0 x3 (4 * n)),
   k0_pay118 s.2.2.1 (page q1 x1 x2 (4 * n)),
   k0_pay119 k0_pay100 s.2.2.1 s.2.2.2 (page q1 x1 x2 (4 * n)) (vrow1 x3 (4 * n)))

/-- After the second diagonal chunk. -/
def D1 (q0 q1 : FVec F S256x1024 .bf16) (x1 x2 : Vec F S1x8192x128 .bf16) (x3 : Vec F S1x128x8192 .bf16) (n : ℕ) : Car F :=
  let s := D0 q0 q1 x1 x2 x3 n
  let P0 := pg1a q0 x1 x2 (4 * n + 1)
  let P1 := pg1a q1 x1 x2 (4 * n + 1)
  (k0_pay128 s.1 (k0_pay126 s.1 P0),
   k0_pay129 k0_pay100 s.2.1 (k0_pay123 s.1) (k0_pay124 s.2.1) (k0_pay126 s.1 P0) (k0_pay127 s.1 P0) (vrow0 x3 (4 * n + 1)),
   k0_pay133 s.2.2.1 P1,
   k0_pay134 k0_pay100 s.2.2.1 s.2.2.2 P1 (vrow1 x3 (4 * n + 1)))

/-- After the third diagonal chunk. -/
def D2 (q0 q1 : FVec F S256x1024 .bf16) (x1 x2 : Vec F S1x8192x128 .bf16) (x3 : Vec F S1x128x8192 .bf16) (n : ℕ) : Car F :=
  let s := D1 q0 q1 x1 x2 x3 n
  let P0 := pg2a q0 x1 x2 (4 * n + 2)
  let P1 := pg2a q1 x1 x2 (4 * n + 2)
  (k0_pay143 s.1 (k0_pay141 s.1 P0),
   k0_pay144 k0_pay100 s.2.1 (k0_pay138 s.1) (k0_pay139 s.2.1) (k0_pay141 s.1 P0) (k0_pay142 s.1 P0) (vrow0 x3 (4 * n + 2)),
   k0_pay148 s.2.2.1 P1,
   k0_pay149 k0_pay100 s.2.2.1 s.2.2.2 P1 (vrow1 x3 (4 * n + 2)))

/-- After the fourth diagonal chunk, divided and laid out. -/
def OUT (q0 q1 : FVec F S256x1024 .bf16) (x1 x2 : Vec F S1x8192x128 .bf16) (x3 : Vec F S1x128x8192 .bf16) (n : ℕ) : FVec F S1x1024x128 .bf16 :=
  let s := D2 q0 q1 x1 x2 x3 n
  let P0 := pg3a q0 x1 x2 (4 * n + 3)
  let P1 := pg3a q1 x1 x2 (4 * n + 3)
  k0_pay1 k0_pay100 s.2.2.2 (k0_pay150 k0_pay100 s.1 s.2.1 P0 (vrow0 x3 (4 * n + 3))) (k0_pay151 s.2.2.1) (k0_pay152 s.2.2.2)
    (k0_pay154 s.2.2.1 P1) (k0_pay155 s.2.2.1 P1) (vrow1 x3 (4 * n + 3))

/-- The block a grid point stores. -/
def OUTB (i : grid0.Coords) (x0 : Vec F S1x128x1024 .bf16) (x1 x2 : Vec F S1x8192x128 .bf16) (x3 : Vec F S1x128x8192 .bf16) (x4 : Vec F S1x1x2x1024 .f32) :
    FVec F S1x1024x128 .bf16 := OUT (QA0 x0 x4) (QA1 x0 x4) x1 x2 x3 (i 2).val

/-- A load of head `a`'s row of the coefficients. -/
theorem read_crow (m : Memref sig .tc .vmem S1x1x2x1024 .f32) (hm : m.IsWhole) (x : Vec F S1x1x2x1024 .f32) (a : Fin 2)
    (off : Fin 4 → ℕ) (ho : off = ![0, 0, a.val, 0]) (inb : ∀ a, off a + S1x1x1x1024.size a ≤ S1x1x2x1024.size a) :
    View.readAt (Elt F) m.view (Rect.unit (s := S1x1x2x1024) off S1x1x1x1024.size inb).toLoadRect (hm.unread x) = crow a x := by
  subst ho
  rw [View.readAt_eq_ld, hm.read_unread]
  funext y
  have h0 : (y 0).val < 1 := (y 0).isLt
  have h1 : (y 1).val < 1 := (y 1).isLt
  have h2 : (y 2).val < 1 := (y 2).isLt
  refine congrArg x (funext fun b => Fin.ext ?_)
  match b with
  | 0 => show 0 + 1 * (y 0).val = 0; omega
  | 1 => show 0 + 1 * (y 1).val = 0; omega
  | 2 => show a.val + 1 * (y 2).val = a.val; omega
  | 3 => show 0 + 1 * (y 3).val = (y 3).val; omega

/-- A load of the whole query block. -/
theorem read_q (m : Memref sig .tc .vmem S1x128x1024 .bf16) (hm : m.IsWhole) (x : Vec F S1x128x1024 .bf16)
    (inb : ∀ a, (![0, 0, 0] : Fin 3 → ℕ) a + S1x128x1024.size a ≤ S1x128x1024.size a) :
    View.readAt (Elt F) m.view (Rect.unit (s := S1x128x1024) ![0, 0, 0] S1x128x1024.size inb).toLoadRect (hm.unread x) = x := by
  rw [View.readAt_eq_ld, hm.read_unread]
  refine View.ld_unit_zero ?_ _ _
  funext a
  match a with
  | 0 => rfl
  | 1 => rfl
  | 2 => rfl

set_option maxHeartbeats 2000000 in
/-- The one store of a grid point is the block `OUTB`, whatever the scratch pages held before. -/
theorem L5_eq (c : Dev nD) (i : grid0.Coords) (arg3 : Memref sig .tc .vmem S1x128x1024 .bf16) (harg3 : arg3.IsWhole) (arg4 : Memref sig .tc .vmem S1x8192x128 .bf16) (harg4 : arg4.IsWhole) (arg5 : Memref sig .tc .vmem S1x8192x128 .bf16) (harg5 : arg5.IsWhole)
    (arg6 : Memref sig .tc .vmem S1x128x8192 .bf16) (harg6 : arg6.IsWhole) (arg7 : Memref sig .tc .vmem S1x1x2x1024 .f32) (harg7 : arg7.IsWhole) (arg8 : Memref sig .tc .vmem S1x1024x128 .bf16) (harg8 : arg8.IsWhole)
    (arg9 : Memref sig .tc .vmem S2x256x1024 .f32) (harg9 : arg9.IsWhole) (arg10 : Memref sig .tc .vmem S2x256x1024 .f32) (harg10 : arg10.IsWhole)
    (x0 : Vec F S1x128x1024 .bf16) (x1 : Vec F S1x8192x128 .bf16) (x2 : Vec F S1x8192x128 .bf16) (x3 : Vec F S1x128x8192 .bf16) (x4 : Vec F S1x1x2x1024 .f32) (g9 g10) :
    (run0 (F := F) c i arg3 harg3 arg4 harg4 arg5 harg5 arg6 harg6 arg7 harg7 arg8 harg8 arg9 harg9 arg10 harg10 x0 x1 x2 x3 x4).1 g9 g10
      = [⟨Rect.unit (s := S1x1024x128) ![0, 0, 0] S1x1024x128.size inb_S1x1024x128_S1x1024x128_0_0_0, OUTB i x0 x1 x2 x3 x4⟩] := by
  have hi : (i 2).val < 8 := (i 2).isLt
  have o7 : ∀ r : Fin 3, k0_off7 i (BitVec.ofNat 32 r.val) = ![0, 256 * (4 * (i 2).val + r.val + 1), 0] := fun r => by
    rw [Gen.k0_off7_eq, show 1024 * (i 2).val + 256 * r.val + 256 = 256 * (4 * (i 2).val + r.val + 1) by omega]
  have o8 : ∀ r : Fin 4, k0_off8 i (BitVec.ofNat 32 r.val) = ![0, 0, 256 * (4 * (i 2).val + r.val)] := fun r => by
    rw [Gen.k0_off8_eq, show 1024 * (i 2).val + 256 * r.val = 256 * (4 * (i 2).val + r.val) by omega]
  have o9 : ∀ r : Fin 4, k0_off9 i (BitVec.ofNat 32 r.val) = ![0, 64, 256 * (4 * (i 2).val + r.val)] := fun r => by
    rw [Gen.k0_off9_eq, show 1024 * (i 2).val + 256 * r.val = 256 * (4 * (i 2).val + r.val) by omega]
  have a0 : ∀ inb, View.readAt (Elt F) arg4.view (Rect.unit (s := S1x8192x128) (k0_off7 i 0#32) S1x256x128.size inb).toLoadRect (harg4.unread x1) = krow x1 (4 * (i 2).val + 1) := fun inb => read_krow arg4 harg4 x1 (4 * (i 2).val + 1) (by omega) _ (o7 0) inb
  have b0 : ∀ inb, View.readAt (Elt F) arg5.view (Rect.unit (s := S1x8192x128) (k0_off7 i 0#32) S1x256x128.size inb).toLoadRect (harg5.unread x2) = krow x2 (4 * (i 2).val + 1) := fun inb => read_krow arg5 harg5 x2 (4 * (i 2).val + 1) (by omega) _ (o7 0) inb
  have a1 : ∀ inb, View.readAt (Elt F) arg4.view (Rect.unit (s := S1x8192x128) (k0_off7 i 1#32) S1x256x128.size inb).toLoadRect (harg4.unread x1) = krow x1 (4 * (i 2).val + 2) := fun inb => read_krow arg4 harg4 x1 (4 * (i 2).val + 2) (by omega) _ (o7 1) inb
  have b1 : ∀ inb, View.readAt (Elt F) arg5.view (Rect.unit (s := S1x8192x128) (k0_off7 i 1#32) S1x256x128.size inb).toLoadRect (harg5.unread x2) = krow x2 (4 * (i 2).val + 2) := fun inb => read_krow arg5 harg5 x2 (4 * (i 2).val + 2) (by omega) _ (o7 1) inb
  have a2 : ∀ inb, View.readAt (Elt F) arg4.view (Rect.unit (s := S1x8192x128) (k0_off7 i 2#32) S1x256x128.size inb).toLoadRect (harg4.unread x1) = krow x1 (4 * (i 2).val + 3) := fun inb => read_krow arg4 harg4 x1 (4 * (i 2).val + 3) (by omega) _ (o7 2) inb
  have b2 : ∀ inb, View.readAt (Elt F) arg5.view (Rect.unit (s := S1x8192x128) (k0_off7 i 2#32) S1x256x128.size inb).toLoadRect (harg5.unread x2) = krow x2 (4 * (i 2).val + 3) := fun inb => read_krow arg5 harg5 x2 (4 * (i 2).val + 3) (by omega) _ (o7 2) inb
  have c0 : ∀ inb, View.readAt (Elt F) arg6.view (Rect.unit (s := S1x128x8192) (k0_off8 i 0#32) S1x64x256.size inb).toLoadRect (harg6.unread x3) = vrow0 x3 (4 * (i 2).val) := fun inb => read_vrow0 arg6 harg6 x3 (4 * (i 2).val) (by omega) _ (o8 0) inb
  have d0 : ∀ inb, View.readAt (Elt F) arg6.view (Rect.unit (s := S1x128x8192) (k0_off9 i 0#32) S1x64x256.size inb).toLoadRect (harg6.unread x3) = vrow1 x3 (4 * (i 2).val) := fun inb => read_vrow1 arg6 harg6 x3 (4 * (i 2).val) (by omega) _ (o9 0) inb
  have c1 : ∀ inb, View.readAt (Elt F) arg6.view (Rect.unit (s := S1x128x8192) (k0_off8 i 1#32) S1x64x256.size inb).toLoadRect (harg6.unread x3) = vrow0 x3 (4 * (i 2).val + 1) := fun inb => read_vrow0 arg6 harg6 x3 (4 * (i 2).val + 1) (by omega) _ (o8 1) inb
  have d1 : ∀ inb, View.readAt (Elt F) arg6.view (Rect.unit (s := S1x128x8192) (k0_off9 i 1#32) S1x64x256.size inb).toLoadRect (harg6.unread x3) = vrow1 x3 (4 * (i 2).val + 1) := fun inb => read_vrow1 arg6 harg6 x3 (4 * (i 2).val + 1) (by omega) _ (o9 1) inb
  have c2 : ∀ inb, View.readAt (Elt F) arg6.view (Rect.unit (s := S1x128x8192) (k0_off8 i 2#32) S1x64x256.size inb).toLoadRect (harg6.unread x3) = vrow0 x3 (4 * (i 2).val + 2) := fun inb => read_vrow0 arg6 harg6 x3 (4 * (i 2).val + 2) (by omega) _ (o8 2) inb
  have d2 : ∀ inb, View.readAt (Elt F) arg6.view (Rect.unit (s := S1x128x8192) (k0_off9 i 2#32) S1x64x256.size inb).toLoadRect (harg6.unread x3) = vrow1 x3 (4 * (i 2).val + 2) := fun inb => read_vrow1 arg6 harg6 x3 (4 * (i 2).val + 2) (by omega) _ (o9 2) inb
  have c3 : ∀ inb, View.readAt (Elt F) arg6.view (Rect.unit (s := S1x128x8192) (k0_off8 i 3#32) S1x64x256.size inb).toLoadRect (harg6.unread x3) = vrow0 x3 (4 * (i 2).val + 3) := fun inb => read_vrow0 arg6 harg6 x3 (4 * (i 2).val + 3) (by omega) _ (o8 3) inb
  have d3 : ∀ inb, View.readAt (Elt F) arg6.view (Rect.unit (s := S1x128x8192) (k0_off9 i 3#32) S1x64x256.size inb).toLoadRect (harg6.unread x3) = vrow1 x3 (4 * (i 2).val + 3) := fun inb => read_vrow1 arg6 harg6 x3 (4 * (i 2).val + 3) (by omega) _ (o9 3) inb
  have a : ∀ inb, View.readAt (Elt F) arg4.view (Rect.unit (s := S1x8192x128) (![0, 0, 0]) S1x256x128.size inb).toLoadRect (harg4.unread x1) = krow x1 (0) := fun inb => read_krow arg4 harg4 x1 (0) (by omega) _ (rfl) inb
  have b : ∀ inb, View.readAt (Elt F) arg5.view (Rect.unit (s := S1x8192x128) (![0, 0, 0]) S1x256x128.size inb).toLoadRect (harg5.unread x2) = krow x2 (0) := fun inb => read_krow arg5 harg5 x2 (0) (by omega) _ (rfl) inb
  have e0 := fun inb => read_q arg3 harg3 x0 inb
  have f0 : ∀ inb, View.readAt (Elt F) arg7.view (Rect.unit (s := S1x1x2x1024) ![0, 0, 0, 0] S1x1x1x1024.size inb).toLoadRect (harg7.unread x4) = crow 0 x4 := fun inb => read_crow arg7 harg7 x4 0 _ rfl inb
  have f1 : ∀ inb, View.readAt (Elt F) arg7.view (Rect.unit (s := S1x1x2x1024) ![0, 0, 1, 0] S1x1x1x1024.size inb).toLoadRect (harg7.unread x4) = crow 1 x4 := fun inb => read_crow arg7 harg7 x4 1 _ rfl inb
  have n2 : Scf.trips (k0_t2_loop i).lb (k0_t2_loop i).ub (k0_t2_loop i).st = 0 := Nat.le_zero.mp (k0_t2_abs i).2.1
  have n1 : Scf.trips (k0_t1_loop i).lb (k0_t1_loop i).ub (k0_t1_loop i).st = (i 2).val := trips_eq i
  obtain ⟨q0, hq0⟩ : ∃ q, QA0 x0 x4 = q := ⟨_, rfl⟩
  obtain ⟨q1, hq1⟩ : ∃ q, QA1 x0 x4 = q := ⟨_, rfl⟩
  have hQ0 : k0_pay91 (iota .tc S128x1024 32 [0] iota_S128x1024_d0_w32) (k0_pay83 x0) (k0_pay87 (crow 0 x4)) (k0_pay88 (crow 0 x4)) (k0_pay89 (crow 0 x4)) k0_pay90 = q0 := hq0
  have hQ1 : k0_pay99 (iota .tc S128x1024 32 [0] iota_S128x1024_d0_w32) (k0_pay92 (k0_pay82 x0) (iota .tc S128x1024 32 [0] iota_S128x1024_d0_w32)) (k0_pay96 (crow 1 x4)) (k0_pay97 (crow 1 x4)) (k0_pay98 (iota .tc S128x1024 32 [0] iota_S128x1024_d0_w32) (crow 1 x4)) = q1 := hq1
  have hP0 : k0_pay106 q0 (krow x1 0) (krow x2 0) = page q0 x1 x2 0 := rfl
  have hP1 : k0_pay107 (iota .tc S128x1024 32 [0] iota_S128x1024_d0_w32) (k0_pay92 (k0_pay82 x0) (iota .tc S128x1024 32 [0] iota_S128x1024_d0_w32)) (k0_pay96 (crow 1 x4)) (k0_pay97 (crow 1 x4)) (k0_pay98 (iota .tc S128x1024 32 [0] iota_S128x1024_d0_w32) (crow 1 x4)) (krow x1 0) (krow x2 0) = page q1 x1 x2 0 := by
    rw [← hQ1]; rfl
  unfold run0
  dsimp only
  sl_unfold_run_names
  rw [a0, b0, a1, b1, a2, b2, c0, d0, c1, d1, c2, d2, c3, d3, a, b, e0, f0, f1, hQ0, hP1, hQ1, hP0]
  obtain ⟨f, g, hf⟩ : ∃ f : Car F → Car F × List (View.Piece (Elt F) S2x256x1024 .f32) × List (View.Piece (Elt F) S2x256x1024 .f32),
      (∀ v119 v123 G9 G10 init, st_k0_t2 (F := F) Variants.none c none i arg3 harg3 arg4 harg4 arg5 harg5 arg6 harg6 arg7 harg7 arg8 harg8 arg9 harg9 arg10 harg10 (BitVec.ofNat 32 (i 2).val) (q0) (q1) k0_pay100 k0_pay101 k0_pay102 k0_pay103 k0_pay104 0#32 v119 v123 (harg4.unread x1) (harg5.unread x2) (harg6.unread x3) G9 G10 init (Scf.trips (k0_t2_loop i).lb (k0_t2_loop i).ub (k0_t2_loop i).st) = f init)
      ∧ (∀ s, f s = (s, [], [])) :=
    ⟨fun s => (s, [], []), fun _ _ _ _ _ => by rw [n2]; rfl, fun _ => rfl⟩
  rw [g]
  obtain ⟨S, hS, hS1, hS2, hS3⟩ : ∃ S : Car F × List (View.Piece (Elt F) S2x256x1024 .f32) × List (View.Piece (Elt F) S2x256x1024 .f32),
      st_k0_t1 (F := F) Variants.none c none i arg3 harg3 arg4 harg4 arg5 harg5 arg6 harg6 arg7 harg7 arg8 harg8 arg9 harg9 arg10 harg10 (BitVec.ofNat 32 (i 2).val) q0 q1 k0_pay100 k0_pay101 k0_pay102 k0_pay103 k0_pay104 0#32 (Scalar.subi (BitVec.ofNat 32 (i 2).val) 0#32) (harg4.unread x1) (harg5.unread x2) (harg6.unread x3) (arg9.view.writes (Elt F) arg9.view.junk [⟨Rect.unit (s := S2x256x1024) ![1, 0, 0] S1x256x1024.size inb_S2x256x1024_S1x256x1024_1_0_0, page q1 x1 x2 0⟩, ⟨Rect.unit (s := S2x256x1024) ![0, 0, 0] S1x256x1024.size inb_S2x256x1024_S1x256x1024_0_0_0, page q0 x1 x2 0⟩]) g10 (k0_pay101, k0_pay102, k0_pay103, k0_pay104) (Scf.trips (k0_t1_loop i).lb (k0_t1_loop i).ub (k0_t1_loop i).st) = S
      ∧ S.1 = ST q0 q1 x1 x2 x3 (4 * (i 2).val)
      ∧ arg9.view.readCov (S.2.1 ++ [⟨Rect.unit (s := S2x256x1024) ![1, 0, 0] S1x256x1024.size inb_S2x256x1024_S1x256x1024_1_0_0, page q1 x1 x2 0⟩, ⟨Rect.unit (s := S2x256x1024) ![0, 0, 0] S1x256x1024.size inb_S2x256x1024_S1x256x1024_0_0_0, page q0 x1 x2 0⟩]) pg0 = page q0 x1 x2 (4 * (i 2).val)
      ∧ arg9.view.readCov (S.2.1 ++ [⟨Rect.unit (s := S2x256x1024) ![1, 0, 0] S1x256x1024.size inb_S2x256x1024_S1x256x1024_1_0_0, page q1 x1 x2 0⟩, ⟨Rect.unit (s := S2x256x1024) ![0, 0, 0] S1x256x1024.size inb_S2x256x1024_S1x256x1024_0_0_0, page q0 x1 x2 0⟩]) pg1 = page q1 x1 x2 (4 * (i 2).val) := by
    refine ⟨_, rfl, ?_⟩
    rw [n1]
    obtain ⟨t, t0, t1⟩ := st_val c i arg3 harg3 arg4 harg4 arg5 harg5 arg6 harg6 arg7 harg7 arg8 harg8 arg9 harg9 arg10 harg10 (BitVec.ofNat 32 (i 2).val) q0 q1 k0_pay101 k0_pay102 k0_pay103 k0_pay104 0#32 (Scalar.subi (BitVec.ofNat 32 (i 2).val) 0#32) x1 x2 x3
      (arg9.view.writes (Elt F) arg9.view.junk [⟨Rect.unit (s := S2x256x1024) ![1, 0, 0] S1x256x1024.size inb_S2x256x1024_S1x256x1024_1_0_0, page q1 x1 x2 0⟩, ⟨Rect.unit (s := S2x256x1024) ![0, 0, 0] S1x256x1024.size inb_S2x256x1024_S1x256x1024_0_0_0, page q0 x1 x2 0⟩]) g10 ((readAt_skip _ _ _ _ _ _ (by decide)).trans (readAt_hit _ _ _ _ _)) (readAt_hit _ _ _ _ _) (i 2).val (trips_eq i).ge
    rw [← View.writes_append] at t0 t1
    exact ⟨t, t0, t1⟩
  rw [hS]
  have hs : f (S.1.1, S.1.2.1, S.1.2.2.1, S.1.2.2.2) = f S.1 := rfl
  rw [hs, hf]
  clear hs hS
  obtain ⟨s, Ls, Ms⟩ := S
  subst hS1
  simp (disch := decide) only [View.readCov_skip, View.readCov_cons_toLoadRect, List.nil_append]
  simp only at hS2 hS3
  rw [hS2, hS3]
  unfold OUTB
  rw [hq0, hq1]
  rfl

end Cert.KernelIdeal.Att

end
-- ==== Proof.Launch.lean ====
module
public import proofs.«01_k».proof.Proof.Point
public import Idealize.ShloMosaic.Lib.Pipeline.Value
public import Idealize.ShloMosaic.Lib.Quiescent
public import Idealize.ShloMosaic.Lib.Claim
@[expose] public section

/-! # The attention kernel's run

Every grid point stores the block `OUTB` of the blocks it reads, so the whole run ends with the result array
made of these blocks and the four arguments unchanged. -/

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block point `t` leaves for the result. -/
def left (c : Dev nD) (t : Fin cfg0.N) : Vec F S1x1024x128 .bf16 :=
  OUTB (grid0.coords t) (iblk m c 0 t) (iblk m c 1 t) (iblk m c 2 t) (iblk m c 3 t) (iblk m c 4 t)

/-- What the pipeline's buffers hold: inputs keep their blocks, the output gets `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ _ := Pipeline.ΦA spec0 c
  q _ := fullShare
  owed _ := 0

/-- The arrays are those the region starts from. -/
theorem start_eq (c : Dev nD) (w : Fin cfg0.W) : (dats m 0 c).A w = V m c (Pipeline.arrRef spec0 w) := by
  dsimp only [dats]

theorem keep0 (c : Dev nD) (t : Fin cfg0.N) : (dats m 0 c).after 0 t = iblk m c 0 t := by dsimp only [dats]
theorem keep1 (c : Dev nD) (t : Fin cfg0.N) : (dats m 0 c).after 1 t = iblk m c 1 t := by dsimp only [dats]
theorem keep2 (c : Dev nD) (t : Fin cfg0.N) : (dats m 0 c).after 2 t = iblk m c 2 t := by dsimp only [dats]
theorem keep3 (c : Dev nD) (t : Fin cfg0.N) : (dats m 0 c).after 3 t = iblk m c 3 t := by dsimp only [dats]
theorem keep4 (c : Dev nD) (t : Fin cfg0.N) : (dats m 0 c).after 4 t = iblk m c 4 t := by dsimp only [dats]
theorem keep5 (c : Dev nD) (t : Fin cfg0.N) : (dats m 0 c).after 5 t = left m c t := by dsimp only [dats]

/-- One store that covers a whole buffer leaves what was stored. -/
theorem stored {S : Shape} {e : EltTy} (v : View sig .tc .vmem S e) (f : v.ty.Contents (Elt F)) {off : Fin S.rank → ℕ} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_cons_self, View.mem_set_unit_zero hz inb y⟩)]
  exact View.canon_cons_unit_zero hz inb w []

/-- The offsets of a store at the start of a rank-3 buffer. -/
theorem start3 : (![0, 0, 0] : Fin 3 → ℕ) = fun _ => 0 := funext fun a => match a with | 0 => rfl | 1 => rfl | 2 => rfl

set_option maxHeartbeats 800000 in
/-- One grid point: from its blocks and any scratch contents, it leaves `left`. -/
theorem at_point (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t))) := by
  unfold bodyAt0
  simp only [before0_0_of m (dats m 0 c) (start_eq m c 0) (keep0 m c), before0_1_of m (dats m 0 c) (start_eq m c 1) (keep1 m c),
    before0_2_of m (dats m 0 c) (start_eq m c 2) (keep2 m c), before0_3_of m (dats m 0 c) (start_eq m c 3) (keep3 m c),
    before0_4_of m (dats m 0 c) (start_eq m c 4) (keep4 m c)]
  rw [show (dats m 0 c).Φ t.succ = (dats m 0 c).Φ t.castSucc from rfl,
    show (dats m 0 c).owesAt () t.succ = (dats m 0 c).owesAt () t.castSucc from rfl, keep0, keep1, keep2, keep3, keep4, keep5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((run0 c (grid0.coords t) _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, %g9, %g10, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  rw [L5_eq]
  exact stored (S := S1x1024x128) _ _ start3 _ _

/-- The pipeline's obligation for the body, at every point. -/
theorem every_point (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (at_point m c t) rfl .rfl fun _ => .rfl

set_option backward.isDefEq.respectTransparency.types false in
/-- The run ends, with every array at what the pipeline computes and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := start_eq m) (hΦ := fun _ _ => rfl)

/-- The run ends with the four arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (start_eq m) ((θ_run defs _ _).mono (fun _ h => h.1) (run_counters m ρ)))
    ((θ_run defs _ _).mono (fun _ h => h.2) (run_counters m ρ))

/-- The result array after the run, as the pipeline's own account of it. -/
theorem run_array : θ_run defs (onTc (τ := τ) (main (F := F))) ⟨m, fun _ => 0, ρ⟩ (fun r => ∀ c : Dev nD,
      r.2.mem ((c : Thread nD τ).loc main_v36) = (dats m 0 c).arrAt 5 cfg0.N) :=
  (θ_run defs _ _).mono (fun _ h c => (h.1 c).1 5) (run_counters m ρ)

/-- What point `t` writes back is the block `left`. -/
theorem flushed_eq (c : Dev nD) (t : Fin cfg0.N) :
    (dats m 0 c).flushed 5 t = (cfg0.win 5).cut (grid0.coords t) (left m c t) := by
  show (cfg0.win 5).cut (grid0.coords t) ((dats m 0 c).after 5 t) = _
  rw [keep5]

end Cert.KernelIdeal.Att

end
-- ==== Proof.Finite.lean ====
module
public import proofs.«01_k».proof.Proof.Gen.Pre_finite_logits
public import Idealize.ShloMosaic.Lib.ReduceAll
public import Idealize.ShloMosaic.Lib.WordCmp
public import Idealize.ShloMosaic.Lib.IdealHost
public import Idealize.ShloMosaic.Lib.ValueLayout
@[expose] public section

/-! # What the precondition says

The queries, the keys and the coefficients are real numbers. -/

set_option maxRecDepth 16384

noncomputable section

namespace Cert.Pre_finite_logits.Att

open Cert.Pre_finite_logits Cert.Pre_finite_logits.Gen
open Idealize.ShloMosaic

theorem ofBits_inf : Ideal.ofBits .f32 0x7F800000#32 = ⊤ := by simp [Ideal.ofBits, Ideal.ieee]

/-- A number whose absolute value is below the infinite is real. -/
theorem real_of_below (x : EReal) (h : Ideal.cmp .olt (max x (-x)) ⊤ = 1#1) : x = ((x.toReal : ℝ) : EReal) := by
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h; exact absurd h (by decide)
  have h1 : x ≠ ⊤ := fun e => by rw [e] at hlt; simp at hlt
  have h2 : x ≠ ⊥ := fun e => by rw [e] at hlt; simp at hlt
  exact (EReal.coe_toReal h1 h2).symm

/-- Both of two one-bit words are one when their conjunction is. -/
theorem both (x y : BitVec 1) (h : IntOp.andi x y = 1#1) : x = 1#1 ∧ y = 1#1 := by
  revert x y; decide

instance : Subsingleton S_.Idx := ⟨fun a b => funext fun i => i.elim0⟩

theorem finite {q k v : FVec Ideal S4x8192x16x64 .f32} {c : FVec Ideal S4x8192x16 .f32} (h : fn q k v c = fun _ => 1#1) :
    (∀ i, q i = (((q i).toReal : ℝ) : EReal)) ∧ (∀ i, k i = (((k i).toReal : ℝ) : EReal)) ∧ (∀ i, c i = (((c i).toReal : ℝ) : EReal)) := by
  have hj := congrFun h (fun i => i.elim0 : S_.Idx)
  have h1 := both _ _ hj
  have h2 := both _ _ h1.1
  refine ⟨fun i => ?_, fun i => ?_, fun i => ?_⟩
  · have e := Host.reduce_andi_all _ _ _ _ _ h2.1 i
    exact real_of_below _ (by rw [← ofBits_inf]; exact e)
  · have e := Host.reduce_andi_all _ _ _ _ _ h2.2 i
    exact real_of_below _ (by rw [← ofBits_inf]; exact e)
  · have e := Host.reduce_andi_all _ _ _ _ _ h1.2 i
    exact real_of_below _ (by rw [← ofBits_inf]; exact e)

end Cert.Pre_finite_logits.Att

end
-- ==== Proof.Softmax.lean ====
module
public import Idealize.ShloMosaic.PureOps.Ideal
@[expose] public section

/-! # The running softmax over the extended reals

A block of queries reads its keys in chunks. It keeps the greatest logit seen and a sum of values weighted by
powers of two relative to that maximum, and it rescales the sum when the maximum grows. These lemmas say that the
sum is at any time the whole sum over the keys seen, and that the division at the end gives the softmax in base e. -/

noncomputable section

namespace Cert.Softmax

open Idealize.ShloMosaic

/-- Powers of two of extended reals are not negative. -/
theorem exp2_nonneg (x : EReal) : 0 ≤ Ideal.exp2 x := by
  induction x using EReal.rec with
  | bot => exact le_rfl
  | top => exact le_top
  | coe r => exact EReal.coe_nonneg.mpr (Real.rpow_nonneg (by norm_num) r)

/-- A power of two is infinite only at infinity. -/
theorem exp2_ne_top {x : EReal} (h : x ≠ ⊤) : Ideal.exp2 x ≠ ⊤ := by
  induction x using EReal.rec with
  | bot => exact EReal.zero_ne_top
  | top => exact absurd rfl h
  | coe r => exact EReal.coe_ne_top _

/-- Nothing below the infinite: a difference from a maximum is not infinite. -/
theorem sub_ne_top_of_le {a b : EReal} (h : a ≤ b) (hb : b ≠ ⊤) : a - b ≠ ⊤ := by
  intro e
  induction b using EReal.rec with
  | bot => rw [le_bot_iff.mp h] at e; exact absurd e (by decide)
  | top => exact hb rfl
  | coe r =>
    induction a using EReal.rec with
    | bot => exact absurd e (by simp)
    | top => exact absurd (top_le_iff.mp h) (EReal.coe_ne_top _)
    | coe s => rw [← EReal.coe_sub] at e; exact EReal.coe_ne_top _ e

/-- Rescaling a weight from an old maximum to a new one. -/
theorem exp2_rescale {s m m' : EReal} (h : s ≤ m) (h' : m ≤ m') (ht : m' ≠ ⊤) :
    Ideal.exp2 (m - m') * Ideal.exp2 (s - m) = Ideal.exp2 (s - m') := by
  induction s using EReal.rec with
  | bot =>
    rw [EReal.bot_sub, EReal.bot_sub]
    exact mul_zero _
  | top => exact absurd (top_le_iff.mp ((top_le_iff.mp h) ▸ h')) ht
  | coe s =>
    induction m using EReal.rec with
    | bot => exact absurd (le_bot_iff.mp h) (EReal.coe_ne_bot _)
    | top => exact absurd (top_le_iff.mp h') ht
    | coe m =>
      induction m' using EReal.rec with
      | bot => exact absurd (le_bot_iff.mp h') (EReal.coe_ne_bot _)
      | top => exact absurd rfl ht
      | coe m' =>
        rw [← EReal.coe_sub, ← EReal.coe_sub, ← EReal.coe_sub]
        show ((Real.rpow 2 (m - m') : ℝ) : EReal) * ((Real.rpow 2 (s - m) : ℝ) : EReal) = ((Real.rpow 2 (s - m') : ℝ) : EReal)
        rw [← EReal.coe_mul]
        congr 1
        show (2 : ℝ) ^ (m - m') * (2 : ℝ) ^ (s - m) = (2 : ℝ) ^ (s - m')
        rw [← Real.rpow_add (by norm_num)]
        congr 1; ring

/-- A nonnegative real factor goes inside a sum of extended reals. -/
theorem mul_sum_of_nonneg {ι : Type*} (A : Finset ι) (f : ι → EReal) {c : EReal} (h : 0 ≤ c) (ht : c ≠ ⊤) :
    c * ∑ i ∈ A, f i = ∑ i ∈ A, c * f i := by
  classical
  induction A using Finset.induction_on with
  | empty => simp
  | insert a A ha ih => rw [Finset.sum_insert ha, Finset.sum_insert ha, EReal.left_distrib_of_nonneg_of_ne_top h ht, ih]

/-- A sum of reals is the same sum over the extended reals. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The greatest of the first `n` logits. -/
def top (S : ℕ → EReal) (n : ℕ) : EReal := (Finset.range n).sup S

/-- The sum of the first `n` values, weighted relative to `m`. -/
def wsum (S V : ℕ → EReal) (n : ℕ) (m : EReal) : EReal := ∑ j ∈ Finset.range n, V j * Ideal.exp2 (S j - m)

theorem top_zero (S : ℕ → EReal) : top S 0 = ⊥ := rfl
theorem wsum_zero (S V : ℕ → EReal) (m : EReal) : wsum S V 0 m = 0 := rfl

theorem top_add (S : ℕ → EReal) (n w : ℕ) : top S (n + w) = max (top S n) ((Finset.univ : Finset (Fin w)).sup fun k => S (n + k.val)) := by
  apply le_antisymm
  · refine Finset.sup_le fun j hj => ?_
    rw [Finset.mem_range] at hj
    rcases lt_or_ge j n with h | h
    · exact le_max_of_le_left (Finset.le_sup (f := S) (Finset.mem_range.mpr h))
    · refine le_max_of_le_right ?_
      have := Finset.le_sup (f := fun k : Fin w => S (n + k.val)) (Finset.mem_univ ⟨j - n, by omega⟩)
      rwa [show n + (⟨j - n, by omega⟩ : Fin w).val = j by show n + (j - n) = j; omega] at this
  · refine max_le (Finset.sup_mono (by intro j; simp only [Finset.mem_range]; omega)) (Finset.sup_le fun k _ => ?_)
    exact Finset.le_sup (f := S) (Finset.mem_range.mpr (by have := k.isLt; omega))

theorem top_ne_top {S : ℕ → EReal} (hS : ∀ j, S j ≠ ⊤) (n : ℕ) : top S n ≠ ⊤ := by
  unfold top
  have : (Finset.range n).sup S < ⊤ := (Finset.sup_lt_iff (by exact bot_lt_top)).mpr fun j _ => lt_top_iff_ne_top.mpr (hS j)
  exact this.ne

/-- One chunk of `w` keys: the new maximum and the rescaled sum are those of all the keys seen. -/
theorem wsum_add {S : ℕ → EReal} (hS : ∀ j, S j ≠ ⊤) (V : ℕ → EReal) (n w : ℕ) :
    Ideal.exp2 (top S n - top S (n + w)) * wsum S V n (top S n)
      + ∑ k : Fin w, V (n + k.val) * Ideal.exp2 (S (n + k.val) - top S (n + w)) = wsum S V (n + w) (top S (n + w)) := by
  have hle : top S n ≤ top S (n + w) := by rw [top_add]; exact le_max_left _ _
  unfold wsum
  rw [mul_sum_of_nonneg _ _ (exp2_nonneg _) (exp2_ne_top (sub_ne_top_of_le hle (top_ne_top hS _))), Finset.sum_range_add,
    ← Fin.sum_univ_eq_sum_range (fun k => V (n + k) * Ideal.exp2 (S (n + k) - top S (n + w)))]
  congr 1
  refine Finset.sum_congr rfl fun j hj => ?_
  have hj' : S j ≤ top S n := Finset.le_sup (f := S) hj
  rw [mul_left_comm, exp2_rescale hj' hle (top_ne_top hS _)]

/-- Base two with scaled logits is base e. -/
theorem exp2_scaled {t T : EReal} {L : ℝ} (hL : L = (Real.log 2)⁻¹) (ht : t ≠ ⊤) (hT : T ≠ ⊤) (hT' : T ≠ ⊥) :
    Ideal.exp2 ((L : EReal) * t - (L : EReal) * T) = Ideal.exp (t - T) := by
  have h2 : 0 < Real.log 2 := Real.log_pos (by norm_num)
  have hpos : 0 < L := by rw [hL]; exact inv_pos.mpr h2
  induction T using EReal.rec with
  | bot => exact absurd rfl hT'
  | top => exact absurd rfl hT
  | coe T =>
    induction t using EReal.rec with
    | bot => rw [EReal.coe_mul_bot_of_pos hpos, EReal.bot_sub, EReal.bot_sub]; rfl
    | top => exact absurd rfl ht
    | coe t =>
      rw [← EReal.coe_mul, ← EReal.coe_mul, ← EReal.coe_sub, ← EReal.coe_sub]
      show ((Real.rpow 2 (L * t - L * T) : ℝ) : EReal) = ((Real.exp (t - T) : ℝ) : EReal)
      congr 1
      show (2 : ℝ) ^ (L * t - L * T) = _
      rw [Real.rpow_def_of_pos (by norm_num), hL]
      congr 1
      field_simp

/-- A positive real factor goes through a maximum of extended reals. -/
theorem top_scaled {L : ℝ} (hL : 0 < L) (t : ℕ → EReal) (n : ℕ) : top (fun j => (L : EReal) * t j) n = (L : EReal) * top t n := by
  have hm : Monotone fun x : EReal => (L : EReal) * x := fun a b h => mul_le_mul_of_nonneg_left h (EReal.coe_nonneg.mpr hL.le)
  induction n with
  | zero => exact (EReal.coe_mul_bot_of_pos hL).symm
  | succ n ih =>
    unfold top at ih ⊢
    rw [Finset.range_add_one, Finset.sup_insert, Finset.sup_insert, ih]
    exact (hm.map_max).symm

/-- Masked keys do not change a maximum. -/
theorem top_masked {t : ℕ → EReal} {n N : ℕ} (h : n ≤ N) (hm : ∀ j, n ≤ j → t j = ⊥) : top t N = top t n := by
  apply le_antisymm
  · refine Finset.sup_le fun j _ => ?_
    rcases lt_or_ge j n with h' | h'
    · exact Finset.le_sup (f := t) (Finset.mem_range.mpr h')
    · rw [hm j h']; exact bot_le
  · exact Finset.sup_mono (by intro j; simp only [Finset.mem_range]; omega)

/-- THE ATTENTION OF ONE QUERY. The values summed with powers of two over the keys seen, divided by the summed weights,
are the values summed with the softmax of the logits over all keys, the keys not seen being masked. -/
theorem softmax_of_sums {L : ℝ} (hL : L = (Real.log 2)⁻¹) {t : ℕ → EReal} (ht : ∀ j, t j ≠ ⊤) {n N : ℕ} (h : n ≤ N)
    (hm : ∀ j, n ≤ j → t j = ⊥) {j₀ : ℕ} (hj : j₀ < n) (hj' : t j₀ ≠ ⊥) (V : ℕ → EReal) :
    Ideal.div (wsum (fun j => (L : EReal) * t j) V n (top (fun j => (L : EReal) * t j) n))
        (wsum (fun j => (L : EReal) * t j) (fun _ => 1) n (top (fun j => (L : EReal) * t j) n))
      = ∑ j ∈ Finset.range N, V j * Ideal.div (Ideal.exp (t j - top t N)) (∑ k ∈ Finset.range N, Ideal.exp (t k - top t N)) := by
  have hpos : 0 < L := by rw [hL]; exact inv_pos.mpr (Real.log_pos (by norm_num))
  have hT : top t N ≠ ⊤ := top_ne_top ht N
  have hT' : top t N ≠ ⊥ := fun e => hj' (le_bot_iff.mp (e ▸ Finset.le_sup (f := t) (Finset.mem_range.mpr (lt_of_lt_of_le hj h))))
  rw [top_scaled hpos, ← top_masked h hm]
  generalize hTT : top t N = T at hT hT' ⊢
  have e : ∀ W : ℕ → EReal, wsum (fun j => (L : EReal) * t j) W n ((L : EReal) * T) = ∑ j ∈ Finset.range N, W j * Ideal.exp (t j - T) := fun W => by
    unfold wsum
    rw [Finset.sum_congr rfl fun j _ => by rw [exp2_scaled hL (ht j) hT hT']]
    refine Finset.sum_subset (by intro j; simp only [Finset.mem_range]; omega) fun j _ hj => ?_
    rw [hm j (by simpa using hj), EReal.bot_sub]
    exact mul_zero _
  rw [e V, e fun _ => 1]
  simp only [one_mul]
  -- the weights are nonnegative reals, one of them positive
  have hw : ∀ j, ∃ r : ℝ, 0 ≤ r ∧ Ideal.exp (t j - T) = (r : EReal) ∧ (t j ≠ ⊥ → 0 < r) := fun j => by
    induction T using EReal.rec with
    | bot => exact absurd rfl hT'
    | top => exact absurd rfl hT
    | coe T =>
      have := ht j
      generalize t j = x at this ⊢
      induction x using EReal.rec with
      | bot => exact ⟨0, le_rfl, by rw [EReal.bot_sub]; rfl, fun h => absurd rfl h⟩
      | top => exact absurd rfl this
      | coe s => exact ⟨Real.exp (s - T), (Real.exp_pos _).le, by rw [← EReal.coe_sub]; rfl, fun _ => Real.exp_pos _⟩
  choose r hr0 hr hrp using hw
  have hsum : ∑ k ∈ Finset.range N, Ideal.exp (t k - T) = ((∑ k ∈ Finset.range N, r k : ℝ) : EReal) := by
    rw [coe_sum]
    exact Finset.sum_congr rfl fun j _ => hr j
  have hl : 0 < ∑ k ∈ Finset.range N, r k :=
    Finset.sum_pos' (fun j _ => hr0 j) ⟨j₀, Finset.mem_range.mpr (lt_of_lt_of_le hj h), hrp j₀ hj'⟩
  rw [hsum]
  generalize ∑ k ∈ Finset.range N, r k = l at hl
  rw [Ideal.div_coe hl.ne', mul_comm, mul_sum_of_nonneg _ _ (EReal.coe_nonneg.mpr (one_div_pos.mpr hl).le) (EReal.coe_ne_top _)]
  refine Finset.sum_congr rfl fun j _ => ?_
  rw [Ideal.div_coe hl.ne', mul_left_comm, mul_comm (Ideal.exp _)]

end Cert.Softmax

end
-- ==== Proof.Chunk.lean ====
module
public import proofs.«01_k».proof.Proof.Softmax
public import proofs.«01_k».proof.Proof.Gen.KernelIdeal.Skeleton
public import Idealize.ShloMosaic.Lib.ValueLayout
public import Idealize.ShloMosaic.Lib.MatmulPlain
public import Idealize.ShloMosaic.Lib.Pointwise.Reduce
public import Idealize.ShloMosaic.Lib.Pipeline.Value
public import Idealize.ShloMosaic.Lib.WordCmp
public import Idealize.ShloMosaic.Lib.IdealHost
@[expose] public section

/-! # One chunk of keys, at any number of queries

The new maxima and the rescaled sums of one chunk of 256 keys against `w` queries, and what they are at one query. -/

set_option maxRecDepth 16384

noncomputable section

namespace Cert.KernelIdeal.Att

open Cert.KernelIdeal Cert.KernelIdeal.Gen
open Idealize.ShloMosaic hiding ix1 ix2 ix3 ix4 ix5
open Idealize.ShloMosaic.ValueIdx
open Cert.Softmax

/-- The shape of a matrix. -/
abbrev Mat (a b : ℕ) : Shape := ⟨2, ![a, b]⟩

variable {w : ℕ}

/-- The maxima after a chunk. -/
def nmax (hr : (Mat 256 w).Reduces [0] ⟨1, ![w]⟩) (hc : (⟨1, ![w]⟩ : Shape).ShapeCasts (Mat 1 w))
    (m : FVec Ideal (Mat 1 w) .f32) (P : FVec Ideal (Mat 256 w) .f32) : FVec Ideal (Mat 1 w) .f32 :=
  maximumf m (shapeCast (Mat 1 w) (multiReduction .maximumf [0] ⟨1, ![w]⟩ P 0xFF800000#32 hr (.inl rfl) rfl) hc)

/-- The weighted sums after a chunk. -/
def nacc (d : DotDims (Mat 80 256) (Mat 256 w) (Mat 80 w)) (hb : (Mat 1 w).Broadcasts (Mat 256 w)) (hb' : (Mat 1 w).Broadcasts (Mat 80 w))
    (m m' : FVec Ideal (Mat 1 w) .f32) (acc : FVec Ideal (Mat 80 w) .f32) (P : FVec Ideal (Mat 256 w) .f32) (V : FVec Ideal (Mat 80 256) .bf16) :
    FVec Ideal (Mat 80 w) .f32 :=
  addf (mulf (broadcastTo (Mat 80 w) (exp2 (subf m m')) hb') acc)
    (matmul d none V (truncf .bf16 (exp2 (subf P (broadcastTo (Mat 256 w) m' hb))) bitsLt_bf16_f32) (constant (Mat 80 w) .f32 0x00000000#32))

/-- A fold of maxima from the bottom is the least upper bound. -/
theorem fold_max_eq_sup {ι : Type} (A : Finset ι) (f : ι → EReal) : A.fold max ⊥ f = A.sup f := rfl

/-- The 32-bit pattern of minus infinity. -/
theorem ofBits_ninf : Ideal.ofBits .f32 0xFF800000#32 = ⊥ := by simp [Ideal.ofBits, Ideal.ieee]

theorem nmax_apply (hr : (Mat 256 w).Reduces [0] ⟨1, ![w]⟩) (hc : (⟨1, ![w]⟩ : Shape).ShapeCasts (Mat 1 w))
    (m : FVec Ideal (Mat 1 w) .f32) (P : FVec Ideal (Mat 256 w) .f32) (u : Fin 1) (i : Fin w) :
    nmax hr hc m P (ix2 u i) = max (m (ix2 u i)) ((Finset.univ : Finset (Fin 256)).sup fun k => P (ix2 k i)) := by
  unfold nmax
  show max (m (ix2 u i)) _ = _
  rw [shapeCast_a_1a_apply]
  refine congrArg _ ((multiReduction_maximumf_eq_fold P 0xFF800000#32 hr (.inl rfl) rfl (ix1 i)).trans ?_)
  rw [hr.fold_fiber_r2_a0]
  rw [show (FloatOps.ofBits (F := Ideal) .f32 0xFF800000#32 : EReal) = ⊥ from ofBits_ninf]
  rfl

theorem nacc_apply (d : DotDims (Mat 80 256) (Mat 256 w) (Mat 80 w)) (hd : d = DotDims.plain 80 256 w) (hb : (Mat 1 w).Broadcasts (Mat 256 w)) (hb' : (Mat 1 w).Broadcasts (Mat 80 w))
    (m m' : FVec Ideal (Mat 1 w) .f32) (acc : FVec Ideal (Mat 80 w) .f32) (P : FVec Ideal (Mat 256 w) .f32) (V : FVec Ideal (Mat 80 256) .bf16)
    (e : Fin 80) (i : Fin w) :
    nacc d hb hb' m m' acc P V (ix2 e i)
      = Ideal.exp2 (m (ix2 0 i) - m' (ix2 0 i)) * acc (ix2 e i) + ∑ k : Fin 256, V (ix2 e k) * Ideal.exp2 (P (ix2 k i) - m' (ix2 0 i)) := by
  subst hd
  unfold nacc
  show broadcastTo (Mat 80 w) (exp2 (subf m m')) hb' (ix2 e i) * acc (ix2 e i) + FloatOps.matmul (DotDims.plain 80 256 w) none V _ _ (ix2 e i) = _
  rw [broadcastTo_1b_ab_apply, Ideal.matmul_plain_apply]
  rw [show constant (F := Ideal) (Mat 80 w) .f32 0x00000000#32 (ix2 e i) = (0 : EReal) from Ideal.ofBits_zero_f32, zero_add]
  refine congrArg₂ _ rfl (Finset.sum_congr rfl fun k _ => ?_)
  show V (ix2 e k) * Ideal.exp2 (P (ix2 k i) - broadcastTo (Mat 256 w) m' hb (ix2 k i)) = _
  rw [broadcastTo_1b_ab_apply]

/-- One chunk at one query: if the state is that of the first `n` keys, it becomes that of the first `n + 256`. -/
theorem nmax_step (hr : (Mat 256 w).Reduces [0] ⟨1, ![w]⟩) (hc : (⟨1, ![w]⟩ : Shape).ShapeCasts (Mat 1 w))
    (m : FVec Ideal (Mat 1 w) .f32) (P : FVec Ideal (Mat 256 w) .f32) (i : Fin w) (S : ℕ → EReal) (n : ℕ)
    (hm : m (ix2 0 i) = top S n) (hP : ∀ k : Fin 256, P (ix2 k i) = S (n + k.val)) : nmax hr hc m P (ix2 0 i) = top S (n + 256) := by
  rw [nmax_apply, hm, Softmax.top_add]
  simp only [hP]

theorem nacc_step (d : DotDims (Mat 80 256) (Mat 256 w) (Mat 80 w)) (hd : d = DotDims.plain 80 256 w) (hb : (Mat 1 w).Broadcasts (Mat 256 w)) (hb' : (Mat 1 w).Broadcasts (Mat 80 w))
    (m m' : FVec Ideal (Mat 1 w) .f32) (acc : FVec Ideal (Mat 80 w) .f32) (P : FVec Ideal (Mat 256 w) .f32) (V : FVec Ideal (Mat 80 256) .bf16)
    (e : Fin 80) (i : Fin w) (S W : ℕ → EReal) (hS : ∀ j, S j ≠ ⊤) (n : ℕ)
    (hm : m (ix2 0 i) = top S n) (hm' : m' (ix2 0 i) = top S (n + 256)) (hP : ∀ k : Fin 256, P (ix2 k i) = S (n + k.val))
    (hV : ∀ k : Fin 256, V (ix2 e k) = W (n + k.val)) (ha : acc (ix2 e i) = wsum S W n (top S n)) :
    nacc d hb hb' m m' acc P V (ix2 e i) = wsum S W (n + 256) (top S (n + 256)) := by
  rw [nacc_apply d hd, hm, hm', ha, ← wsum_add hS]
  simp only [hP, hV]

/-- The causal mask of a diagonal chunk. -/
def msk (h0 : (Mat 256 w).Iotas .tc 32 [0]) (h1 : (Mat 256 w).Iotas .tc 32 [1]) (P : FVec Ideal (Mat 256 w) .f32) : FVec Ideal (Mat 256 w) .f32 :=
  select (cmpi .sle (iota .tc (Mat 256 w) 32 [0] h0) (iota .tc (Mat 256 w) 32 [1] h1)) P (broadcast (Mat 256 w) (Scalar.ofBits .f32 0xFF800000#32))

theorem msk_apply (hw : w ≤ 1024) (h0 : (Mat 256 w).Iotas .tc 32 [0]) (h1 : (Mat 256 w).Iotas .tc 32 [1]) (P : FVec Ideal (Mat 256 w) .f32)
    (k : Fin 256) (i : Fin w) : msk h0 h1 P (ix2 k i) = if k.val ≤ i.val then P (ix2 k i) else ⊥ := by
  unfold msk
  show Scalar.select (IntOp.cmpi .sle (iota .tc (Mat 256 w) 32 [0] h0 (ix2 k i)) (iota .tc (Mat 256 w) 32 [1] h1 (ix2 k i))) (P (ix2 k i))
    (Ideal.ofBits .f32 0xFF800000#32) = _
  rw [iota_single_apply, iota_single_apply, ofBits_ninf]
  have hk := k.isLt
  have hi := i.isLt
  show Scalar.select (IntOp.cmpi .sle (BitVec.ofNat 32 k.val) (BitVec.ofNat 32 i.val)) _ _ = _
  rw [WordCmp.cmpi_sle_ofNat (by omega) (by omega)]
  by_cases h : k.val ≤ i.val
  · rw [if_pos h, decide_eq_true h]; rfl
  · rw [if_neg h, decide_eq_false h]; rfl

/-- The values of a chunk with the sixteen rows of ones below them. -/
def vones (hc : S1x64x256.ShapeCasts S64x256) (V : FVec Ideal S1x64x256 .bf16) : FVec Ideal S80x256 .bf16 :=
  concatenate S80x256 0 [⟨S64x256, shapeCast S64x256 V shapeCasts_S1x64x256_S64x256⟩, ⟨S16x256, k0_pay100⟩] concatenates_S64x256_S16x256_S80x256_d0

theorem vones_apply (hc) (V : FVec Ideal S1x64x256 .bf16) (e : Fin 80) (k : Fin 256) :
    vones hc V (ix2 e k) = if h : e.val < 64 then V (ix3 0 ⟨e.val, h⟩ k) else 1 := by
  unfold vones
  by_cases h : e.val < 64
  · rw [dif_pos h, concatenate_pair_apply_left (s₁ := S64x256) (s₂ := S16x256) (0 : Fin S80x256.rank) _ _ _ (ix2 e k) rfl (ix2 (⟨e.val, h⟩ : Fin 64) k)
      (by intro b; match b with | ⟨0, _⟩ => rfl | ⟨1, _⟩ => rfl)]
    exact shapeCast_1ab_ab_apply _ _ _ _
  · have he := e.isLt
    rw [dif_neg h, concatenate_pair_apply_right (s₁ := S64x256) (s₂ := S16x256) (0 : Fin S80x256.rank) _ _ _ (ix2 e k) rfl rfl (ix2 (⟨e.val - 64, by omega⟩ : Fin 16) k)
      (by intro b hb; match b with | ⟨0, _⟩ => exact absurd rfl hb | ⟨1, _⟩ => rfl)
      (by show e.val - 64 + 64 = e.val; omega)]
    exact Ideal.ofBits_one_bf16

end Cert.KernelIdeal.Att

end
-- ==== Proof.Column.lean ====
module
public import proofs.«01_k».proof.Proof.Chunk
public import proofs.«01_k».proof.Proof.Words
public import proofs.«01_k».proof.Proof.Point
@[expose] public section

/-! # The state of one query

One head's running maxima and sums, chunk by chunk, read at one query: after `n` keys they are the maximum of
the first `n` scores and the sums of the values weighted by the powers of two of the scores above it. -/

set_option maxRecDepth 16384

noncomputable section

namespace Cert.KernelIdeal.Att

open Cert.KernelIdeal Cert.KernelIdeal.Gen
open Idealize.ShloMosaic hiding ix1 ix2 ix3 ix4 ix5
open Idealize.ShloMosaic.ValueIdx
open Cert.Softmax

/-! ## The scores of a chunk -/

/-- The keys of chunk `j` with their 128 extra columns. -/
def kcat (x1 x2 : Vec Ideal S1x8192x128 .bf16) (j : ℕ) : FVec Ideal S256x256 .bf16 :=
  concatenate S256x256 1 [⟨S256x128, shapeCast S256x128 (krow x1 j) shapeCasts_S1x256x128_S256x128⟩,
    ⟨S256x128, shapeCast S256x128 (krow x2 j) shapeCasts_S1x256x128_S256x128⟩] concatenates_S256x128_S256x128_S256x256_d1

/-- Entry `l` of key `j` with its extra columns. -/
def kent (x1 x2 : Vec Ideal S1x8192x128 .bf16) (j : ℕ) (l : Fin 256) : EReal :=
  if h : l.val < 128 then x1 (ix3 0 ⟨j % 8192, Nat.mod_lt _ (by decide)⟩ ⟨l.val, h⟩)
  else x2 (ix3 0 ⟨j % 8192, Nat.mod_lt _ (by decide)⟩ ⟨l.val - 128, by have := l.isLt; omega⟩)

/-- The score of key `j` at query `i`: the product over the 256 lanes. -/
def raw (q : FVec Ideal S256x1024 .bf16) (x1 x2 : Vec Ideal S1x8192x128 .bf16) (i : Fin 1024) (j : ℕ) : EReal :=
  ∑ l : Fin 256, kent x1 x2 j l * q (ix2 l i)

theorem kcat_apply (x1 x2 : Vec Ideal S1x8192x128 .bf16) (j : ℕ) (k : Fin 256) (l : Fin 256) :
    kcat x1 x2 j (ix2 k l) = kent x1 x2 (256 * j + k.val) l := by
  unfold kcat kent
  by_cases h : l.val < 128
  · rw [dif_pos h, concatenate_pair_apply_left (s₁ := S256x128) (s₂ := S256x128) (1 : Fin S256x256.rank) _ _ _ (ix2 k l) rfl (ix2 k (⟨l.val, h⟩ : Fin 128))
      (by intro b; match b with | ⟨0, _⟩ => rfl | ⟨1, _⟩ => rfl)]
    exact shapeCast_1ab_ab_apply _ _ _ _
  · have hl := l.isLt
    rw [dif_neg h, concatenate_pair_apply_right (s₁ := S256x128) (s₂ := S256x128) (1 : Fin S256x256.rank) _ _ _ (ix2 k l) rfl rfl (ix2 k (⟨l.val - 128, by omega⟩ : Fin 128))
      (by intro b hb; match b with | ⟨0, _⟩ => rfl | ⟨1, _⟩ => exact absurd rfl hb)
      (by show l.val - 128 + 128 = l.val; omega)]
    exact shapeCast_1ab_ab_apply _ _ _ _

/-- The scores of a chunk for `w` queries, as stored in a scratch page and read back. -/
def pgm {w : ℕ} (d : DotDims (Mat 256 256) (Mat 256 w) (Mat 256 w)) (h1 : (Mat 256 w).ShapeCasts ⟨3, ![1, 256, w]⟩) (h2 : (⟨3, ![1, 256, w]⟩ : Shape).ShapeCasts (Mat 256 w))
    (K : FVec Ideal (Mat 256 256) .bf16) (q : FVec Ideal (Mat 256 w) .bf16) : FVec Ideal (Mat 256 w) .f32 :=
  shapeCast (Mat 256 w) (shapeCast ⟨3, ![1, 256, w]⟩ (matmul d none K q (constant (Mat 256 w) .f32 0x00000000#32)) h1) h2

theorem pgm_apply {w : ℕ} (d : DotDims (Mat 256 256) (Mat 256 w) (Mat 256 w)) (hd : d = DotDims.plain 256 256 w) (h1 h2)
    (K : FVec Ideal (Mat 256 256) .bf16) (q : FVec Ideal (Mat 256 w) .bf16) (k : Fin 256) (i : Fin w) :
    pgm d h1 h2 K q (ix2 k i) = ∑ l : Fin 256, K (ix2 k l) * q (ix2 l i) := by
  subst hd
  unfold pgm
  rw [shapeCast_1ab_ab_apply, shapeCast_ab_1ab_apply]
  refine (Ideal.matmul_plain_apply none K q _ k i).trans ?_
  rw [show constant (F := Ideal) (Mat 256 w) .f32 0x00000000#32 (ix2 k i) = (0 : EReal) from Ideal.ofBits_zero_f32, zero_add]

/-! ## A diagonal chunk, for the queries from `o` on -/

variable {o w : ℕ}

/-- The maxima after a diagonal chunk: those of the first `o` queries stay. -/
def dm (hs0 : (Mat 1 1024).Slices ![0, 0] (Mat 1 o)) (hs : (Mat 1 1024).Slices ![0, o] (Mat 1 w)) (hc : Shape.Concatenates [Mat 1 o, Mat 1 w] (Mat 1 1024) 1)
    (m : FVec Ideal (Mat 1 1024) .f32) (m' : FVec Ideal (Mat 1 w) .f32) : FVec Ideal (Mat 1 1024) .f32 :=
  concatenate (Mat 1 1024) 1 [⟨Mat 1 o, extractStridedSlice (Mat 1 o) ![0, 0] m hs0⟩, ⟨Mat 1 w, m'⟩] hc

/-- The sums after a diagonal chunk: those of the first `o` queries stay. -/
def da (hs0 : (Mat 80 1024).Slices ![0, 0] (Mat 80 o)) (hc : Shape.Concatenates [Mat 80 o, Mat 80 w] (Mat 80 1024) 1)
    (a : FVec Ideal (Mat 80 1024) .f32) (a' : FVec Ideal (Mat 80 w) .f32) : FVec Ideal (Mat 80 1024) .f32 :=
  concatenate (Mat 80 1024) 1 [⟨Mat 80 o, extractStridedSlice (Mat 80 o) ![0, 0] a hs0⟩, ⟨Mat 80 w, a'⟩] hc

/-- Two blocks of columns side by side, at a column of the first, itself the first columns of a wider matrix. -/
theorem beside_left {n : ℕ} (hs0 : (Mat n 1024).Slices ![0, 0] (Mat n o)) (hc : Shape.Concatenates [Mat n o, Mat n w] (Mat n 1024) 1)
    (a : FVec Ideal (Mat n 1024) .f32) (a' : FVec Ideal (Mat n w) .f32) (e : Fin n) (i : Fin 1024) (hi : i.val < o) :
    concatenate (Mat n 1024) 1 [⟨Mat n o, extractStridedSlice (Mat n o) ![0, 0] a hs0⟩, ⟨Mat n w, a'⟩] hc (ix2 e i) = a (ix2 e i) := by
  rw [concatenate_pair_apply_left (s₁ := Mat n o) (s₂ := Mat n w) (1 : Fin (Mat n 1024).rank) _ _ _ (ix2 e i) rfl (ix2 e (⟨i.val, hi⟩ : Fin o))
      (by intro b; match b with | ⟨0, _⟩ => rfl | ⟨1, _⟩ => rfl)]
  exact slice2_axis1_apply 0 a hs0 e ⟨i.val, hi⟩ i (Nat.zero_add _).symm

/-- Two blocks of columns side by side, at a column of the second. -/
theorem beside_right {n : ℕ} (how : o + w = 1024) (hs0 : (Mat n 1024).Slices ![0, 0] (Mat n o)) (hc : Shape.Concatenates [Mat n o, Mat n w] (Mat n 1024) 1)
    (a : FVec Ideal (Mat n 1024) .f32) (a' : FVec Ideal (Mat n w) .f32) (e : Fin n) (i : Fin 1024) (i' : Fin w) (hi : i.val = o + i'.val) :
    concatenate (Mat n 1024) 1 [⟨Mat n o, extractStridedSlice (Mat n o) ![0, 0] a hs0⟩, ⟨Mat n w, a'⟩] hc (ix2 e i) = a' (ix2 e i') := by
  rw [concatenate_pair_apply_right (s₁ := Mat n o) (s₂ := Mat n w) (1 : Fin (Mat n 1024).rank) _ _ _ (ix2 e i) rfl rfl (ix2 e i')
      (by intro b hb; match b with | ⟨0, _⟩ => rfl | ⟨1, _⟩ => exact absurd rfl hb)
      (by show i'.val + o = i.val; omega)]

/-! ## The state of one query -/

/-- The state at query `i` is that of the first `n` keys, for scores `S` and values `W`. -/
def At (m : FVec Ideal (Mat 1 1024) .f32) (a : FVec Ideal (Mat 80 1024) .f32) (S : ℕ → EReal) (W : Fin 80 → ℕ → EReal) (n : ℕ) (i : Fin 1024) : Prop :=
  m (ix2 0 i) = top S n ∧ ∀ e : Fin 80, a (ix2 e i) = wsum S (W e) n (top S n)

/-- A whole chunk absorbed. -/
theorem At.step {m : FVec Ideal (Mat 1 1024) .f32} {a : FVec Ideal (Mat 80 1024) .f32} {S : ℕ → EReal} {W : Fin 80 → ℕ → EReal} {n : ℕ} {i : Fin 1024}
    (hA : At m a S W n i) (hS : ∀ j, S j ≠ ⊤) (hr hc) (d : DotDims (Mat 80 256) (Mat 256 1024) (Mat 80 1024)) (hd : d = DotDims.plain 80 256 1024) (hb hb')
    (P : FVec Ideal (Mat 256 1024) .f32) (V : FVec Ideal (Mat 80 256) .bf16)
    (hP : ∀ k : Fin 256, P (ix2 k i) = S (n + k.val)) (hV : ∀ (e : Fin 80) (k : Fin 256), V (ix2 e k) = W e (n + k.val)) :
    At (nmax hr hc m P) (nacc d hb hb' m (nmax hr hc m P) a P V) S W (n + 256) i :=
  ⟨nmax_step hr hc m P i S n hA.1 hP,
   fun e => nacc_step d hd hb hb' m _ a P V e i S (W e) hS n hA.1 (nmax_step hr hc m P i S n hA.1 hP) hP (hV e) (hA.2 e)⟩

/-- A diagonal chunk leaves the queries before it alone. -/
theorem At.keep {m : FVec Ideal (Mat 1 1024) .f32} {a : FVec Ideal (Mat 80 1024) .f32} {S : ℕ → EReal} {W : Fin 80 → ℕ → EReal} {n : ℕ} {i : Fin 1024}
    (hA : At m a S W n i) (hi : i.val < o) (hs0 : (Mat 1 1024).Slices ![0, 0] (Mat 1 o)) (hc : Shape.Concatenates [Mat 1 o, Mat 1 w] (Mat 1 1024) 1)
    (hs0' : (Mat 80 1024).Slices ![0, 0] (Mat 80 o)) (hc' : Shape.Concatenates [Mat 80 o, Mat 80 w] (Mat 80 1024) 1)
    (m' : FVec Ideal (Mat 1 w) .f32) (a' : FVec Ideal (Mat 80 w) .f32) :
    At (concatenate (Mat 1 1024) 1 [⟨Mat 1 o, extractStridedSlice (Mat 1 o) ![0, 0] m hs0⟩, ⟨Mat 1 w, m'⟩] hc)
      (concatenate (Mat 80 1024) 1 [⟨Mat 80 o, extractStridedSlice (Mat 80 o) ![0, 0] a hs0'⟩, ⟨Mat 80 w, a'⟩] hc') S W n i :=
  ⟨(beside_left hs0 hc m m' 0 i hi).trans hA.1, fun e => (beside_left hs0' hc' a a' e i hi).trans (hA.2 e)⟩

/-- A diagonal chunk at a query from `o` on. -/
theorem At.stepFrom {m : FVec Ideal (Mat 1 1024) .f32} {a : FVec Ideal (Mat 80 1024) .f32} {S : ℕ → EReal} {W : Fin 80 → ℕ → EReal} {n : ℕ} {i : Fin 1024}
    (hA : At m a S W n i) (hS : ∀ j, S j ≠ ⊤) (how : o + w = 1024) (hi : o ≤ i.val) (hs0 : (Mat 1 1024).Slices ![0, 0] (Mat 1 o)) (hc : Shape.Concatenates [Mat 1 o, Mat 1 w] (Mat 1 1024) 1)
    (hs0' : (Mat 80 1024).Slices ![0, 0] (Mat 80 o)) (hc' : Shape.Concatenates [Mat 80 o, Mat 80 w] (Mat 80 1024) 1)
    (hs : (Mat 1 1024).Slices ![0, o] (Mat 1 w)) (hs' : (Mat 80 1024).Slices ![0, o] (Mat 80 w))
    (hr hc2) (d : DotDims (Mat 80 256) (Mat 256 w) (Mat 80 w)) (hd : d = DotDims.plain 80 256 w) (hb hb')
    (P : FVec Ideal (Mat 256 w) .f32) (V : FVec Ideal (Mat 80 256) .bf16)
    (hP : ∀ (k : Fin 256) (i' : Fin w), i.val = o + i'.val → P (ix2 k i') = S (n + k.val)) (hV : ∀ (e : Fin 80) (k : Fin 256), V (ix2 e k) = W e (n + k.val)) :
    At (concatenate (Mat 1 1024) 1 [⟨Mat 1 o, extractStridedSlice (Mat 1 o) ![0, 0] m hs0⟩, ⟨Mat 1 w, nmax hr hc2 (extractStridedSlice (Mat 1 w) ![0, o] m hs) P⟩] hc)
      (concatenate (Mat 80 1024) 1 [⟨Mat 80 o, extractStridedSlice (Mat 80 o) ![0, 0] a hs0'⟩,
        ⟨Mat 80 w, nacc d hb hb' (extractStridedSlice (Mat 1 w) ![0, o] m hs) (nmax hr hc2 (extractStridedSlice (Mat 1 w) ![0, o] m hs) P) (extractStridedSlice (Mat 80 w) ![0, o] a hs') P V⟩] hc')
      S W (n + 256) i := by
  have hlt := i.isLt
  have hi' : i.val = o + (⟨i.val - o, by omega⟩ : Fin w).val := by show i.val = o + (i.val - o); omega
  have hm : extractStridedSlice (Mat 1 w) ![0, o] m hs (ix2 0 (⟨i.val - o, by omega⟩ : Fin w)) = top S n :=
    (slice2_axis1_apply o m hs 0 _ i hi').trans hA.1
  have hP' : ∀ k : Fin 256, P (ix2 k (⟨i.val - o, by omega⟩ : Fin w)) = S (n + k.val) := fun k => hP k _ hi'
  refine ⟨(beside_right how hs0 hc m _ 0 i _ hi').trans (nmax_step hr hc2 _ P _ S n hm hP'), fun e => (beside_right how hs0' hc' a _ e i _ hi').trans ?_⟩
  exact nacc_step d hd hb hb' _ _ _ P V e _ S (W e) hS n hm (nmax_step hr hc2 _ P _ S n hm hP') hP' (hV e)
    ((slice2_axis1_apply o a hs' e _ i hi').trans (hA.2 e))

/-! ## One head -/

/-- The scores of query `i` of tile `n`, the keys after it left out. -/
def sco (q : FVec Ideal S256x1024 .bf16) (x1 x2 : Vec Ideal S1x8192x128 .bf16) (n : ℕ) (i : Fin 1024) (j : ℕ) : EReal :=
  if j ≤ 1024 * n + i.val then raw q x1 x2 i j else ⊥

/-- One head's maxima and sums. -/
abbrev Hd := FVec Ideal S1x1024 .f32 × FVec Ideal S80x1024 .f32

/-- One head's scores of a whole chunk. -/
def PG (q : FVec Ideal S256x1024 .bf16) (x1 x2 : Vec Ideal S1x8192x128 .bf16) (j : ℕ) : FVec Ideal S256x1024 .f32 :=
  pgm (w := 1024) dot_S256x256_S256x1024_S256x1024_1_0_0_1_n_n shapeCasts_S256x1024_S1x256x1024 shapeCasts_S1x256x1024_S256x1024 (kcat x1 x2 j) q

theorem PG_apply (q : FVec Ideal S256x1024 .bf16) (x1 x2 : Vec Ideal S1x8192x128 .bf16) (j : ℕ) (k : Fin 256) (i : Fin 1024) :
    PG q x1 x2 j (ix2 k i) = raw q x1 x2 i (256 * j + k.val) := by
  refine (pgm_apply (w := 1024) dot_S256x256_S256x1024_S256x1024_1_0_0_1_n_n rfl _ _ _ q k i).trans ?_
  exact Finset.sum_congr rfl fun l _ => by rw [kcat_apply]

/-- One head, one chunk more. -/
def absorb (P : FVec Ideal S256x1024 .f32) (V : FVec Ideal S1x64x256 .bf16) (s : Hd) : Hd :=
  (nmax (w := 1024) reduces_S256x1024_S1024 shapeCasts_S1024_S1x1024 s.1 P,
   nacc (w := 1024) dot_S80x256_S256x1024_S80x1024_1_0_0_1_n_n broadcasts_S1x1024_S256x1024 broadcasts_S1x1024_S80x1024 s.1
     (nmax (w := 1024) reduces_S256x1024_S1024 shapeCasts_S1024_S1x1024 s.1 P) s.2 P (vones shapeCasts_S1x64x256_S64x256 V))

/-- One head after `n` whole chunks. -/
def H (q : FVec Ideal S256x1024 .bf16) (x1 x2 : Vec Ideal S1x8192x128 .bf16) (vr : ℕ → FVec Ideal S1x64x256 .bf16) : ℕ → Hd
  | 0 => (k0_pay101, k0_pay102)
  | n + 1 => absorb (PG q x1 x2 n) (vr n) (H q x1 x2 vr n)

theorem ST_eq (q0 q1 : FVec Ideal S256x1024 .bf16) (x1 x2 : Vec Ideal S1x8192x128 .bf16) (x3 : Vec Ideal S1x128x8192 .bf16) (n : ℕ) :
    ST q0 q1 x1 x2 x3 n = ((H q0 x1 x2 (vrow0 x3) n).1, (H q0 x1 x2 (vrow0 x3) n).2, (H q1 x1 x2 (vrow1 x3) n).1, (H q1 x1 x2 (vrow1 x3) n).2) := by
  induction n with
  | zero => rfl
  | succ n ih =>
    show stp q0 q1 x1 x2 x3 n (ST q0 q1 x1 x2 x3 n) = _
    rw [ih]
    rfl

/-- After the first diagonal chunk. -/
def E0 (q : FVec Ideal S256x1024 .bf16) (x1 x2 : Vec Ideal S1x8192x128 .bf16) (vr : ℕ → FVec Ideal S1x64x256 .bf16) (n : ℕ) : Hd :=
  absorb (msk (w := 1024) iota_S256x1024_d0_w32 iota_S256x1024_d1_w32 (PG q x1 x2 (4 * n))) (vr (4 * n)) (H q x1 x2 vr (4 * n))

theorem D0_eq (q0 q1 : FVec Ideal S256x1024 .bf16) (x1 x2 : Vec Ideal S1x8192x128 .bf16) (x3 : Vec Ideal S1x128x8192 .bf16) (n : ℕ) :
    D0 q0 q1 x1 x2 x3 n = ((E0 q0 x1 x2 (vrow0 x3) n).1, (E0 q0 x1 x2 (vrow0 x3) n).2, (E0 q1 x1 x2 (vrow1 x3) n).1, (E0 q1 x1 x2 (vrow1 x3) n).2) := by
  unfold D0
  rw [ST_eq]
  rfl

/-- One head's scores of a diagonal chunk, for the queries from 256 on. -/
def PG256 (q : FVec Ideal S256x1024 .bf16) (x1 x2 : Vec Ideal S1x8192x128 .bf16) (j : ℕ) : FVec Ideal S256x768 .f32 :=
  pgm (w := 768) dot_S256x256_S256x768_S256x768_1_0_0_1_n_n shapeCasts_S256x768_S1x256x768 shapeCasts_S1x256x768_S256x768 (kcat x1 x2 j)
    (extractStridedSlice S256x768 ![0, 256] q slices_S256x1024_o0_256_S256x768)

theorem PG256_apply (q : FVec Ideal S256x1024 .bf16) (x1 x2 : Vec Ideal S1x8192x128 .bf16) (j : ℕ) (k : Fin 256) (i' : Fin 768) (i : Fin 1024) (hi : i.val = 256 + i'.val) :
    PG256 q x1 x2 j (ix2 k i') = raw q x1 x2 i (256 * j + k.val) := by
  refine (pgm_apply (w := 768) dot_S256x256_S256x768_S256x768_1_0_0_1_n_n rfl _ _ _ _ k i').trans ?_
  refine Finset.sum_congr rfl fun l _ => ?_
  rw [kcat_apply]
  exact congrArg _ (slice2_axis1_apply 256 q slices_S256x1024_o0_256_S256x768 l i' i hi)

/-- A diagonal chunk absorbed by the queries from 256 on. -/
def absorb256 (P : FVec Ideal S256x768 .f32) (V : FVec Ideal S1x64x256 .bf16) (s : Hd) : Hd :=
  (concatenate S1x1024 1 [⟨S1x256, extractStridedSlice S1x256 ![0, 0] s.1 slices_S1x1024_o0_0_S1x256⟩,
     ⟨S1x768, nmax (w := 768) reduces_S256x768_S768 shapeCasts_S768_S1x768 (extractStridedSlice S1x768 ![0, 256] s.1 slices_S1x1024_o0_256_S1x768) P⟩] concatenates_S1x256_S1x768_S1x1024_d1,
   concatenate S80x1024 1 [⟨S80x256, extractStridedSlice S80x256 ![0, 0] s.2 slices_S80x1024_o0_0_S80x256⟩,
     ⟨S80x768, nacc (w := 768) dot_S80x256_S256x768_S80x768_1_0_0_1_n_n broadcasts_S1x768_S256x768 broadcasts_S1x768_S80x768 (extractStridedSlice S1x768 ![0, 256] s.1 slices_S1x1024_o0_256_S1x768)
       (nmax (w := 768) reduces_S256x768_S768 shapeCasts_S768_S1x768 (extractStridedSlice S1x768 ![0, 256] s.1 slices_S1x1024_o0_256_S1x768) P)
       (extractStridedSlice S80x768 ![0, 256] s.2 slices_S80x1024_o0_256_S80x768) P (vones shapeCasts_S1x64x256_S64x256 V)⟩] concatenates_S80x256_S80x768_S80x1024_d1)

/-- After diagonal chunk 1, counted from zero. -/
def E1 (q : FVec Ideal S256x1024 .bf16) (x1 x2 : Vec Ideal S1x8192x128 .bf16) (vr : ℕ → FVec Ideal S1x64x256 .bf16) (n : ℕ) : Hd :=
  absorb256 (msk (w := 768) iota_S256x768_d0_w32 iota_S256x768_d1_w32 (PG256 q x1 x2 (4 * n + 1))) (vr (4 * n + 1)) (E0 q x1 x2 vr n)

theorem D1_eq (q0 q1 : FVec Ideal S256x1024 .bf16) (x1 x2 : Vec Ideal S1x8192x128 .bf16) (x3 : Vec Ideal S1x128x8192 .bf16) (n : ℕ) :
    D1 q0 q1 x1 x2 x3 n = ((E1 q0 x1 x2 (vrow0 x3) n).1, (E1 q0 x1 x2 (vrow0 x3) n).2, (E1 q1 x1 x2 (vrow1 x3) n).1, (E1 q1 x1 x2 (vrow1 x3) n).2) := by
  unfold D1
  rw [D0_eq]
  rfl

/-- One head's scores of a diagonal chunk, for the queries from 512 on. -/
def PG512 (q : FVec Ideal S256x1024 .bf16) (x1 x2 : Vec Ideal S1x8192x128 .bf16) (j : ℕ) : FVec Ideal S256x512 .f32 :=
  pgm (w := 512) dot_S256x256_S256x512_S256x512_1_0_0_1_n_n shapeCasts_S256x512_S1x256x512 shapeCasts_S1x256x512_S256x512 (kcat x1 x2 j)
    (extractStridedSlice S256x512 ![0, 512] q slices_S256x1024_o0_512_S256x512)

theorem PG512_apply (q : FVec Ideal S256x1024 .bf16) (x1 x2 : Vec Ideal S1x8192x128 .bf16) (j : ℕ) (k : Fin 256) (i' : Fin 512) (i : Fin 1024) (hi : i.val = 512 + i'.val) :
    PG512 q x1 x2 j (ix2 k i') = raw q x1 x2 i (256 * j + k.val) := by
  refine (pgm_apply (w := 512) dot_S256x256_S256x512_S256x512_1_0_0_1_n_n rfl _ _ _ _ k i').trans ?_
  refine Finset.sum_congr rfl fun l _ => ?_
  rw [kcat_apply]
  exact congrArg _ (slice2_axis1_apply 512 q slices_S256x1024_o0_512_S256x512 l i' i hi)

/-- A diagonal chunk absorbed by the queries from 512 on. -/
def absorb512 (P : FVec Ideal S256x512 .f32) (V : FVec Ideal S1x64x256 .bf16) (s : Hd) : Hd :=
  (concatenate S1x1024 1 [⟨S1x512, extractStridedSlice S1x512 ![0, 0] s.1 slices_S1x1024_o0_0_S1x512⟩,
     ⟨S1x512, nmax (w := 512) reduces_S256x512_S512 shapeCasts_S512_S1x512 (extractStridedSlice S1x512 ![0, 512] s.1 slices_S1x1024_o0_512_S1x512) P⟩] concatenates_S1x512_S1x512_S1x1024_d1,
   concatenate S80x1024 1 [⟨S80x512, extractStridedSlice S80x512 ![0, 0] s.2 slices_S80x1024_o0_0_S80x512⟩,
     ⟨S80x512, nacc (w := 512) dot_S80x256_S256x512_S80x512_1_0_0_1_n_n broadcasts_S1x512_S256x512 broadcasts_S1x512_S80x512 (extractStridedSlice S1x512 ![0, 512] s.1 slices_S1x1024_o0_512_S1x512)
       (nmax (w := 512) reduces_S256x512_S512 shapeCasts_S512_S1x512 (extractStridedSlice S1x512 ![0, 512] s.1 slices_S1x1024_o0_512_S1x512) P)
       (extractStridedSlice S80x512 ![0, 512] s.2 slices_S80x1024_o0_512_S80x512) P (vones shapeCasts_S1x64x256_S64x256 V)⟩] concatenates_S80x512_S80x512_S80x1024_d1)

/-- After diagonal chunk 2, counted from zero. -/
def E2 (q : FVec Ideal S256x1024 .bf16) (x1 x2 : Vec Ideal S1x8192x128 .bf16) (vr : ℕ → FVec Ideal S1x64x256 .bf16) (n : ℕ) : Hd :=
  absorb512 (msk (w := 512) iota_S256x512_d0_w32 iota_S256x512_d1_w32 (PG512 q x1 x2 (4 * n + 2))) (vr (4 * n + 2)) (E1 q x1 x2 vr n)

theorem D2_eq (q0 q1 : FVec Ideal S256x1024 .bf16) (x1 x2 : Vec Ideal S1x8192x128 .bf16) (x3 : Vec Ideal S1x128x8192 .bf16) (n : ℕ) :
    D2 q0 q1 x1 x2 x3 n = ((E2 q0 x1 x2 (vrow0 x3) n).1, (E2 q0 x1 x2 (vrow0 x3) n).2, (E2 q1 x1 x2 (vrow1 x3) n).1, (E2 q1 x1 x2 (vrow1 x3) n).2) := by
  unfold D2
  rw [D1_eq]
  rfl

/-- One head's scores of a diagonal chunk, for the queries from 768 on. -/
def PG768 (q : FVec Ideal S256x1024 .bf16) (x1 x2 : Vec Ideal S1x8192x128 .bf16) (j : ℕ) : FVec Ideal S256x256 .f32 :=
  pgm (w := 256) dot_S256x256_S256x256_S256x256_1_0_0_1_n_n shapeCasts_S256x256_S1x256x256 shapeCasts_S1x256x256_S256x256 (kcat x1 x2 j)
    (extractStridedSlice S256x256 ![0, 768] q slices_S256x1024_o0_768_S256x256)

theorem PG768_apply (q : FVec Ideal S256x1024 .bf16) (x1 x2 : Vec Ideal S1x8192x128 .bf16) (j : ℕ) (k : Fin 256) (i' : Fin 256) (i : Fin 1024) (hi : i.val = 768 + i'.val) :
    PG768 q x1 x2 j (ix2 k i') = raw q x1 x2 i (256 * j + k.val) := by
  refine (pgm_apply (w := 256) dot_S256x256_S256x256_S256x256_1_0_0_1_n_n rfl _ _ _ _ k i').trans ?_
  refine Finset.sum_congr rfl fun l _ => ?_
  rw [kcat_apply]
  exact congrArg _ (slice2_axis1_apply 768 q slices_S256x1024_o0_768_S256x256 l i' i hi)

theorem cat768 : Shape.Concatenates [Mat 1 768, Mat 1 256] (Mat 1 1024) 1 := by decide

/-- A diagonal chunk absorbed by the queries from 768 on. -/
def absorb768 (P : FVec Ideal S256x256 .f32) (V : FVec Ideal S1x64x256 .bf16) (s : Hd) : Hd :=
  (concatenate S1x1024 1 [⟨S1x768, extractStridedSlice S1x768 ![0, 0] s.1 (by decide)⟩,
     ⟨S1x256, nmax (w := 256) reduces_S256x256_S256 shapeCasts_S256_S1x256 (extractStridedSlice S1x256 ![0, 768] s.1 slices_S1x1024_o0_768_S1x256) P⟩] cat768,
   concatenate S80x1024 1 [⟨S80x768, extractStridedSlice S80x768 ![0, 0] s.2 slices_S80x1024_o0_0_S80x768⟩,
     ⟨S80x256, nacc (w := 256) dot_S80x256_S256x256_S80x256_1_0_0_1_n_n broadcasts_S1x256_S256x256 broadcasts_S1x256_S80x256 (extractStridedSlice S1x256 ![0, 768] s.1 slices_S1x1024_o0_768_S1x256)
       (nmax (w := 256) reduces_S256x256_S256 shapeCasts_S256_S1x256 (extractStridedSlice S1x256 ![0, 768] s.1 slices_S1x1024_o0_768_S1x256) P)
       (extractStridedSlice S80x256 ![0, 768] s.2 slices_S80x1024_o0_768_S80x256) P (vones shapeCasts_S1x64x256_S64x256 V)⟩] concatenates_S80x768_S80x256_S80x1024_d1)

/-- After diagonal chunk 3, counted from zero. -/
def E3 (q : FVec Ideal S256x1024 .bf16) (x1 x2 : Vec Ideal S1x8192x128 .bf16) (vr : ℕ → FVec Ideal S1x64x256 .bf16) (n : ℕ) : Hd :=
  absorb768 (msk (w := 256) iota_S256x256_d0_w32 iota_S256x256_d1_w32 (PG768 q x1 x2 (4 * n + 3))) (vr (4 * n + 3)) (E2 q x1 x2 vr n)

/-- The sums of the two heads, divided by the sums of weights and laid out with the queries as rows. -/
def lay (a b : FVec Ideal S80x1024 .f32) : FVec Ideal S1x1024x128 .bf16 :=
  shapeCast S1x1024x128 (truncf .bf16 (transpose S1024x128 [1, 0] (concatenate S128x1024 0
    [⟨S64x1024, divf (extractStridedSlice S64x1024 ![0, 0] a slices_S80x1024_o0_0_S64x1024) (broadcastTo S64x1024 (extractStridedSlice S1x1024 ![64, 0] a slices_S80x1024_o64_0_S1x1024) broadcasts_S1x1024_S64x1024)⟩,
     ⟨S64x1024, divf (extractStridedSlice S64x1024 ![0, 0] b slices_S80x1024_o0_0_S64x1024) (broadcastTo S64x1024 (extractStridedSlice S1x1024 ![64, 0] b slices_S80x1024_o64_0_S1x1024) broadcasts_S1x1024_S64x1024)⟩]
    concatenates_S64x1024_S64x1024_S128x1024_d0) transposes_S128x1024_p1_0_S1024x128) bitsLt_bf16_f32) shapeCasts_S1024x128_S1x1024x128

/-- The last diagonal chunk and the division, from any state. -/
def OUTof (q0 q1 : FVec Ideal S256x1024 .bf16) (x1 x2 : Vec Ideal S1x8192x128 .bf16) (x3 : Vec Ideal S1x128x8192 .bf16) (n : ℕ) (s : Car Ideal) : FVec Ideal S1x1024x128 .bf16 :=
  k0_pay1 k0_pay100 s.2.2.2 (k0_pay150 k0_pay100 s.1 s.2.1 (pg3a q0 x1 x2 (4 * n + 3)) (vrow0 x3 (4 * n + 3))) (k0_pay151 s.2.2.1) (k0_pay152 s.2.2.2)
    (k0_pay154 s.2.2.1 (pg3a q1 x1 x2 (4 * n + 3))) (k0_pay155 s.2.2.1 (pg3a q1 x1 x2 (4 * n + 3))) (vrow1 x3 (4 * n + 3))

theorem OUT_eq (q0 q1 : FVec Ideal S256x1024 .bf16) (x1 x2 : Vec Ideal S1x8192x128 .bf16) (x3 : Vec Ideal S1x128x8192 .bf16) (n : ℕ) :
    OUT q0 q1 x1 x2 x3 n = lay (E3 q0 x1 x2 (vrow0 x3) n).2 (E3 q1 x1 x2 (vrow1 x3) n).2 := by
  show OUTof q0 q1 x1 x2 x3 n (D2 q0 q1 x1 x2 x3 n) = _
  rw [D2_eq]
  rfl

/-! ## What is left at a query -/

section AtQuery

variable (q : FVec Ideal S256x1024 .bf16) (x1 x2 : Vec Ideal S1x8192x128 .bf16) (vr : ℕ → FVec Ideal S1x64x256 .bf16) (W : Fin 80 → ℕ → EReal)

theorem At_zero (S : ℕ → EReal) (i : Fin 1024) : At k0_pay101 k0_pay102 S W 0 i :=
  ⟨ofBits_ninf, fun e => Ideal.ofBits_zero_f32⟩

variable (hV : ∀ (j : ℕ) (e : Fin 80) (k : Fin 256), vones shapeCasts_S1x64x256_S64x256 (vr j) (ix2 e k) = W e (256 * j + k.val))
  (n : ℕ) (i : Fin 1024) (hR : ∀ j, raw q x1 x2 i j ≠ ⊤)

include hR in
theorem sco_ne_top (j : ℕ) : sco q x1 x2 n i j ≠ ⊤ := by
  unfold sco
  split
  · exact hR j
  · exact bot_ne_top

include hV hR in
theorem H_at (j : ℕ) (hj : j ≤ 4 * n) : At (H q x1 x2 vr j).1 (H q x1 x2 vr j).2 (sco q x1 x2 n i) W (256 * j) i := by
  induction j with
  | zero => exact At_zero W _ i
  | succ j ih =>
    refine (ih (by omega)).step (sco_ne_top q x1 x2 n i hR) _ _ _ rfl _ _ _ _ (fun k => ?_) (hV j)
    rw [PG_apply]
    have := k.isLt
    exact (if_pos (by omega)).symm

include hV hR in
theorem E0_at : At (E0 q x1 x2 vr n).1 (E0 q x1 x2 vr n).2 (sco q x1 x2 n i) W (1024 * n + 256) i := by
  have h := H_at q x1 x2 vr W hV n i hR (4 * n) le_rfl
  rw [show 256 * (4 * n) = 1024 * n by omega] at h
  refine h.step (sco_ne_top q x1 x2 n i hR) _ _ _ rfl _ _ _ _ (fun k => ?_) (fun e k => ?_)
  · rw [msk_apply (w := 1024) le_rfl, PG_apply, show 256 * (4 * n) = 1024 * n by omega]
    unfold sco
    have := k.isLt
    by_cases hk : k.val ≤ i.val
    · rw [if_pos hk, if_pos (by omega)]
    · rw [if_neg hk, if_neg (by omega)]
  · rw [hV, show 256 * (4 * n) = 1024 * n by omega]

/-- How many keys query `i` of tile `n` has absorbed after the diagonal chunk `c`. -/
def upto (n c : ℕ) (i : Fin 1024) : ℕ := 1024 * n + 256 * (min c (i.val / 256) + 1)

include hV hR in
theorem E1_at : At (E1 q x1 x2 vr n).1 (E1 q x1 x2 vr n).2 (sco q x1 x2 n i) W (upto n 1 i) i := by
  have h := E0_at q x1 x2 vr W hV n i hR
  by_cases hi : i.val < 256
  · rw [show upto n 1 i = 1024 * n + 256 by unfold upto; omega]
    exact h.keep hi _ concatenates_S1x256_S1x768_S1x1024_d1 _ concatenates_S80x256_S80x768_S80x1024_d1 _ _
  · have hlt := i.isLt
    rw [show 1024 * n + 256 = 256 * (4 * n + 1) by omega] at h
    rw [show upto n 1 i = 256 * (4 * n + 1) + 256 by unfold upto; omega]
    refine h.stepFrom (o := 256) (w := 768) (sco_ne_top q x1 x2 n i hR) rfl (by omega) _ concatenates_S1x256_S1x768_S1x1024_d1 _ concatenates_S80x256_S80x768_S80x1024_d1 _ _ _ _ _ rfl _ _ _ _ (fun k i' hi' => ?_) (hV (4 * n + 1))
    rw [msk_apply (w := 768) (by decide), PG256_apply q x1 x2 _ k i' i hi']
    unfold sco
    have := k.isLt
    by_cases hk : k.val ≤ i'.val
    · rw [if_pos hk, if_pos (by omega)]
    · rw [if_neg hk, if_neg (by omega)]

include hV hR in
theorem E2_at : At (E2 q x1 x2 vr n).1 (E2 q x1 x2 vr n).2 (sco q x1 x2 n i) W (upto n 2 i) i := by
  have h := E1_at q x1 x2 vr W hV n i hR
  by_cases hi : i.val < 512
  · rw [show upto n 2 i = upto n 1 i by unfold upto; omega]
    exact h.keep hi _ concatenates_S1x512_S1x512_S1x1024_d1 _ concatenates_S80x512_S80x512_S80x1024_d1 _ _
  · have hlt := i.isLt
    rw [show upto n 1 i = 256 * (4 * n + 2) by unfold upto; omega] at h
    rw [show upto n 2 i = 256 * (4 * n + 2) + 256 by unfold upto; omega]
    refine h.stepFrom (o := 512) (w := 512) (sco_ne_top q x1 x2 n i hR) rfl (by omega) _ concatenates_S1x512_S1x512_S1x1024_d1 _ concatenates_S80x512_S80x512_S80x1024_d1 _ _ _ _ _ rfl _ _ _ _ (fun k i' hi' => ?_) (hV (4 * n + 2))
    rw [msk_apply (w := 512) (by decide), PG512_apply q x1 x2 _ k i' i hi']
    unfold sco
    have := k.isLt
    by_cases hk : k.val ≤ i'.val
    · rw [if_pos hk, if_pos (by omega)]
    · rw [if_neg hk, if_neg (by omega)]

include hV hR in
theorem E3_at : At (E3 q x1 x2 vr n).1 (E3 q x1 x2 vr n).2 (sco q x1 x2 n i) W (upto n 3 i) i := by
  have h := E2_at q x1 x2 vr W hV n i hR
  by_cases hi : i.val < 768
  · rw [show upto n 3 i = upto n 2 i by unfold upto; omega]
    exact h.keep hi _ cat768 _ concatenates_S80x768_S80x256_S80x1024_d1 _ _
  · have hlt := i.isLt
    rw [show upto n 2 i = 256 * (4 * n + 3) by unfold upto; omega] at h
    rw [show upto n 3 i = 256 * (4 * n + 3) + 256 by unfold upto; omega]
    refine h.stepFrom (o := 768) (w := 256) (sco_ne_top q x1 x2 n i hR) rfl (by omega) _ cat768 _ concatenates_S80x768_S80x256_S80x1024_d1 _ _ _ _ _ rfl _ _ _ _ (fun k i' hi' => ?_) (hV (4 * n + 3))
    rw [msk_apply (w := 256) (by decide), PG768_apply q x1 x2 _ k i' i hi']
    unfold sco
    have := k.isLt
    by_cases hk : k.val ≤ i'.val
    · rw [if_pos hk, if_pos (by omega)]
    · rw [if_neg hk, if_neg (by omega)]

end AtQuery

end Cert.KernelIdeal.Att

end
-- ==== Proof.Logit.lean ====
module
public import proofs.«01_k».proof.Proof.Column
@[expose] public section

/-! # The queries with their extra rows, and the scores they give

The product over the 256 lanes is the product over a head's 64 lanes, plus the query's coefficient, minus the key's. -/

set_option maxRecDepth 16384

noncomputable section

namespace Cert.KernelIdeal.Att

open Cert.KernelIdeal Cert.KernelIdeal.Gen
open Idealize.ShloMosaic hiding ix1 ix2 ix3 ix4 ix5
open Idealize.ShloMosaic.ValueIdx
open Cert.Softmax

/-- The base-two logarithm of e. -/
abbrev L2E : ℝ := (Real.log 2)⁻¹

/-- Extra row `s` of head `a`'s queries, for a query with coefficient `X`. -/
def qext (a : ℕ) (X : EReal) (s : ℕ) : EReal :=
  if s = 8 then (X - X) - (X - X) else if s = 7 then X - X else if s = 6 then X else if 3 * a ≤ s ∧ s < 3 * a + 3 then 1 else 0

/-- Row `l` of head `a`'s queries with their extra rows. -/
def qent (a : Fin 2) (x0 : Vec Ideal S1x128x1024 .bf16) (x4 : Vec Ideal S1x1x2x1024 .f32) (i : Fin 1024) (l : Fin 256) : EReal :=
  if h : l.val < 128 then (if l.val / 64 = a.val then x0 (ix3 0 ⟨l.val, h⟩ i) else 0) else qext a.val (x4 (ix4 0 0 a i) * (L2E : EReal)) (l.val - 128)

theorem crow_cast (a : Fin 2) (x4 : Vec Ideal S1x1x2x1024 .f32) (i : Fin 1024) :
    shapeCast S1x1024 (crow a x4) shapeCasts_S1x1x1x1024_S1x1024 (ix2 0 i) = x4 (ix4 0 0 a i) := by
  rw [shapeCast_apply (crow a x4) shapeCasts_S1x1x1x1024_S1x1024 (ix2 0 i) (ix4 0 0 0 i) (by
    rw [Shape.rowMajor_val_four, Shape.rowMajor_val_two]; rfl)]
  rfl

theorem pay84_apply (a : Fin 2) (x4 : Vec Ideal S1x1x2x1024 .f32) (i : Fin 1024) :
    k0_pay84 (F := Ideal) (crow a x4) (ix2 0 i) = x4 (ix4 0 0 a i) * (L2E : EReal) := congrArg (· * (L2E : EReal)) (crow_cast a x4 i)

theorem pay93_apply (a : Fin 2) (x4 : Vec Ideal S1x1x2x1024 .f32) (i : Fin 1024) :
    k0_pay93 (F := Ideal) (crow a x4) (ix2 0 i) = x4 (ix4 0 0 a i) * (L2E : EReal) := congrArg (· * (L2E : EReal)) (crow_cast a x4 i)

/-- A row spread over 128 rows. -/
theorem spread (v : FVec Ideal S1x1024 .f32) (s : Fin 128) (i : Fin 1024) :
    broadcastTo S128x1024 (shapeCast S1x1024 v shapeCasts_S1x1024_S1x1024) broadcasts_S1x1024_S128x1024 (ix2 s i) = v (ix2 0 i) := by
  rw [shapeCast_self]
  exact broadcastTo_1b_ab_apply v broadcasts_S1x1024_S128x1024 s i

theorem lane_apply (s : Fin 128) (i : Fin 1024) : lane (ix2 s i) = BitVec.ofNat 32 s.val := iota_single_apply _ _ _ _ _ _

theorem is_lane (c : ℕ) (hc : c < 128) (s : Fin 128) : IntOp.cmpi .eq (BitVec.ofNat 32 s.val) (BitVec.ofNat 32 c) = BitVec.ofBool (decide (s.val = c)) := by
  revert hc
  have : ∀ c : Fin 128, ∀ s : Fin 128, IntOp.cmpi .eq (BitVec.ofNat 32 s.val) (BitVec.ofNat 32 c.val) = BitVec.ofBool (decide (s.val = c.val)) := by decide +kernel
  exact fun hc => this ⟨c, hc⟩ s

theorem ones_lane0 (s : Fin 128) : IntOp.andi (IntOp.cmpi .sge (BitVec.ofNat 32 s.val) 0#32) (IntOp.cmpi .slt (BitVec.ofNat 32 s.val) 3#32)
    = BitVec.ofBool (decide (3 * 0 ≤ s.val ∧ s.val < 3 * 0 + 3)) := by
  revert s; decide +kernel

theorem ones_lane1 (s : Fin 128) : IntOp.andi (IntOp.cmpi .sge (BitVec.ofNat 32 s.val) 3#32) (IntOp.cmpi .slt (BitVec.ofNat 32 s.val) 6#32)
    = BitVec.ofBool (decide (3 * 1 ≤ s.val ∧ s.val < 3 * 1 + 3)) := by
  revert s; decide +kernel

theorem head_lane0 (s : Fin 128) : IntOp.xori (IntOp.xori (IntOp.cmpi .sge (BitVec.ofNat 32 s.val) 64#32) 0#1) 1#1
    = BitVec.ofBool (decide (s.val / 64 = 0)) := by
  revert s; decide +kernel

theorem head_lane1 (s : Fin 128) : IntOp.xori (IntOp.xori (IntOp.cmpi .sge (BitVec.ofNat 32 s.val) 64#32) 1#1) 1#1
    = BitVec.ofBool (decide (s.val / 64 = 1)) := by
  revert s; decide +kernel

theorem pay82_apply (x0 : Vec Ideal S1x128x1024 .bf16) (s : Fin 128) (i : Fin 1024) : k0_pay82 (F := Ideal) x0 (ix2 s i) = x0 (ix3 0 s i) :=
  shapeCast_1ab_ab_apply x0 shapeCasts_S1x128x1024_S128x1024 s i

theorem pay83_apply (x0 : Vec Ideal S1x128x1024 .bf16) (s : Fin 128) (i : Fin 1024) :
    k0_pay83 (F := Ideal) x0 (ix2 s i) = if s.val / 64 = 0 then x0 (ix3 0 s i) else 0 := by
  show Scalar.select (IntOp.xori (IntOp.xori (IntOp.cmpi .sge (lane (ix2 s i)) 64#32) 0#1) 1#1) (k0_pay82 (F := Ideal) x0 (ix2 s i)) (Ideal.ofBits .f32 0x00000000#32) = _
  rw [lane_apply, head_lane0, WordCmp.select_decide, Ideal.ofBits_zero_f32, pay82_apply]

theorem pay92_apply (x0 : Vec Ideal S1x128x1024 .bf16) (s : Fin 128) (i : Fin 1024) :
    k0_pay92 (F := Ideal) (k0_pay82 x0) lane (ix2 s i) = if s.val / 64 = 1 then x0 (ix3 0 s i) else 0 := by
  show Scalar.select (IntOp.xori (IntOp.xori (IntOp.cmpi .sge (lane (ix2 s i)) 64#32) 1#1) 1#1) (k0_pay82 (F := Ideal) x0 (ix2 s i)) (Ideal.ofBits .f32 0x00000000#32) = _
  rw [lane_apply, head_lane1, WordCmp.select_decide, Ideal.ofBits_zero_f32, pay82_apply]

/-- Two blocks of 128 rows, one above the other. -/
theorem above (A B : FVec Ideal S128x1024 .f32) (l : Fin 256) (i : Fin 1024) :
    concatenate S256x1024 0 [⟨S128x1024, A⟩, ⟨S128x1024, B⟩] concatenates_S128x1024_S128x1024_S256x1024_d0 (ix2 l i)
      = if h : l.val < 128 then A (ix2 ⟨l.val, h⟩ i) else B (ix2 ⟨l.val - 128, by have := l.isLt; omega⟩ i) := by
  by_cases h : l.val < 128
  · rw [dif_pos h, concatenate_pair_apply_left (s₁ := S128x1024) (s₂ := S128x1024) (0 : Fin S256x1024.rank) _ _ _ (ix2 l i) rfl (ix2 (⟨l.val, h⟩ : Fin 128) i)
      (by intro b; match b with | ⟨0, _⟩ => rfl | ⟨1, _⟩ => rfl)]
  · have hl := l.isLt
    rw [dif_neg h, concatenate_pair_apply_right (s₁ := S128x1024) (s₂ := S128x1024) (0 : Fin S256x1024.rank) _ _ _ (ix2 l i) rfl rfl (ix2 (⟨l.val - 128, by omega⟩ : Fin 128) i)
      (by intro b hb; match b with | ⟨0, _⟩ => exact absurd rfl hb | ⟨1, _⟩ => rfl)
      (by show l.val - 128 + 128 = l.val; omega)]

/-- The first head's queries at a row. -/
theorem QA0_apply (x0 : Vec Ideal S1x128x1024 .bf16) (x4 : Vec Ideal S1x1x2x1024 .f32) (l : Fin 256) (i : Fin 1024) :
    QA0 x0 x4 (ix2 l i) = qent 0 x0 x4 i l := by
  refine (above _ _ l i).trans ?_
  unfold qent
  by_cases h : l.val < 128
  · rw [dif_pos h, dif_pos h]
    exact pay83_apply x0 ⟨l.val, h⟩ i
  · rw [dif_neg h, dif_neg h]
    have hl := l.isLt
    generalize hs : (⟨l.val - 128, by omega⟩ : Fin 128) = s
    rw [show l.val - 128 = s.val from congrArg Fin.val hs]
    show Scalar.select (IntOp.cmpi .eq (lane (ix2 s i)) (BitVec.ofNat 32 8)) (broadcastTo S128x1024 (shapeCast S1x1024 (extf (F := Ideal) .f32 (k0_pay88 (crow 0 x4)) bitsLt_bf16_f32) shapeCasts_S1x1024_S1x1024) broadcasts_S1x1024_S128x1024 (ix2 s i))
      (Scalar.select (IntOp.cmpi .eq (lane (ix2 s i)) (BitVec.ofNat 32 7)) (broadcastTo S128x1024 (shapeCast S1x1024 (extf (F := Ideal) .f32 (k0_pay87 (crow 0 x4)) bitsLt_bf16_f32) shapeCasts_S1x1024_S1x1024) broadcasts_S1x1024_S128x1024 (ix2 s i))
        (Scalar.select (IntOp.cmpi .eq (lane (ix2 s i)) (BitVec.ofNat 32 6)) (broadcastTo S128x1024 (shapeCast S1x1024 (extf (F := Ideal) .f32 (k0_pay85 (crow 0 x4)) bitsLt_bf16_f32) shapeCasts_S1x1024_S1x1024) broadcasts_S1x1024_S128x1024 (ix2 s i))
          (Scalar.select (IntOp.andi (IntOp.cmpi .sge (lane (ix2 s i)) 0#32) (IntOp.cmpi .slt (lane (ix2 s i)) 3#32)) (Ideal.ofBits .f32 0x3F800000#32) (Ideal.ofBits .f32 0x00000000#32)))) = _
    rw [lane_apply, is_lane 8 (by decide), is_lane 7 (by decide), is_lane 6 (by decide), ones_lane0]
    simp only [WordCmp.select_decide]
    rw [spread, spread, spread, Ideal.ofBits_zero_f32, Ideal.ofBits_one_f32, ← pay84_apply 0 x4 i]
    rfl

/-- The second head's queries at a row. -/
theorem QA1_apply (x0 : Vec Ideal S1x128x1024 .bf16) (x4 : Vec Ideal S1x1x2x1024 .f32) (l : Fin 256) (i : Fin 1024) :
    QA1 x0 x4 (ix2 l i) = qent 1 x0 x4 i l := by
  refine (above _ _ l i).trans ?_
  unfold qent
  by_cases h : l.val < 128
  · rw [dif_pos h, dif_pos h]
    exact pay92_apply x0 ⟨l.val, h⟩ i
  · rw [dif_neg h, dif_neg h]
    have hl := l.isLt
    generalize hs : (⟨l.val - 128, by omega⟩ : Fin 128) = s
    rw [show l.val - 128 = s.val from congrArg Fin.val hs]
    show Scalar.select (IntOp.cmpi .eq (lane (ix2 s i)) (BitVec.ofNat 32 8)) (broadcastTo S128x1024 (shapeCast S1x1024 (extf (F := Ideal) .f32 (k0_pay97 (crow 1 x4)) bitsLt_bf16_f32) shapeCasts_S1x1024_S1x1024) broadcasts_S1x1024_S128x1024 (ix2 s i))
      (Scalar.select (IntOp.cmpi .eq (lane (ix2 s i)) (BitVec.ofNat 32 7)) (broadcastTo S128x1024 (shapeCast S1x1024 (extf (F := Ideal) .f32 (k0_pay96 (crow 1 x4)) bitsLt_bf16_f32) shapeCasts_S1x1024_S1x1024) broadcasts_S1x1024_S128x1024 (ix2 s i))
        (Scalar.select (IntOp.cmpi .eq (lane (ix2 s i)) (BitVec.ofNat 32 6)) (broadcastTo S128x1024 (shapeCast S1x1024 (extf (F := Ideal) .f32 (k0_pay94 (crow 1 x4)) bitsLt_bf16_f32) shapeCasts_S1x1024_S1x1024) broadcasts_S1x1024_S128x1024 (ix2 s i))
          (Scalar.select (IntOp.andi (IntOp.cmpi .sge (lane (ix2 s i)) 3#32) (IntOp.cmpi .slt (lane (ix2 s i)) 6#32)) (Ideal.ofBits .f32 0x3F800000#32) (Ideal.ofBits .f32 0x00000000#32)))) = _
    rw [lane_apply, is_lane 8 (by decide), is_lane 7 (by decide), is_lane 6 (by decide), ones_lane1]
    simp only [WordCmp.select_decide]
    rw [spread, spread, spread, Ideal.ofBits_zero_f32, Ideal.ofBits_one_f32, ← pay93_apply 1 x4 i]
    rfl

/-! ## The score -/

theorem sum_half (f : Fin 128 → EReal) : ∑ l, f l = (∑ d : Fin 64, f ⟨d.val, by omega⟩) + ∑ d : Fin 64, f ⟨64 + d.val, by omega⟩ :=
  Fin.sum_univ_add (a := 64) (b := 64) f

/-- The extra columns of a key whose two heads' coefficients are `y 0` and `y 1`. -/
def kext (y : ℕ → ℝ) (s : ℕ) : EReal :=
  if s < 6 then (if s % 3 = 0 then -(y (s / 3) : EReal) else 0) else if s < 9 then 1 else 0

/-- The extra lanes add the query's coefficient and take off the key's. -/
theorem sum_ext (a : Fin 2) (X : ℝ) (y : ℕ → ℝ) : ∑ s : Fin 128, kext y s.val * qext a.val X s.val = (X : EReal) - (y a.val : EReal) := by
  have ha := a.isLt
  have e : ∀ s : Fin 128, kext y s.val * qext a.val X s.val
      = (if s = (⟨3 * a.val, by omega⟩ : Fin 128) then -(y a.val : EReal) else 0) + (if s = (6 : Fin 128) then (X : EReal) else 0) := fun s => by
    have hz : (X : EReal) - (X : EReal) = 0 := by rw [← EReal.coe_sub, sub_self, EReal.coe_zero]
    have h6 : (s = (6 : Fin 128)) ↔ s.val = 6 := Fin.ext_iff
    have h3 : (s = (⟨3 * a.val, by omega⟩ : Fin 128)) ↔ s.val = 3 * a.val := Fin.ext_iff
    simp only [h6, h3]
    unfold kext qext
    rw [hz, sub_zero]
    by_cases c8 : s.val = 8
    · rw [if_pos c8, mul_zero, if_neg (by omega), if_neg (by omega), add_zero]
    rw [if_neg c8]
    by_cases c7 : s.val = 7
    · rw [if_pos c7, mul_zero, if_neg (by omega), if_neg (by omega), add_zero]
    rw [if_neg c7]
    by_cases c6 : s.val = 6
    · rw [if_pos c6, if_pos c6, if_neg (by omega), if_pos (by omega), if_neg (by omega), one_mul, zero_add]
    rw [if_neg c6, if_neg c6, add_zero]
    by_cases c : 3 * a.val ≤ s.val ∧ s.val < 3 * a.val + 3
    · rw [if_pos c, mul_one, if_pos (by omega)]
      by_cases c' : s.val = 3 * a.val
      · rw [if_pos c', if_pos (by omega), show s.val / 3 = a.val by omega]
      · rw [if_neg c', if_neg (by omega)]
    · rw [if_neg c, mul_zero, if_neg (by omega)]
  rw [Finset.sum_congr rfl fun s _ => e s, Finset.sum_add_distrib, Finset.sum_ite_eq', Finset.sum_ite_eq', if_pos (Finset.mem_univ _), if_pos (Finset.mem_univ _),
    add_comm, ← sub_eq_add_neg]

/-- The lanes of the other head add nothing. -/
theorem sum_head (a : Fin 2) (f g : Fin 128 → EReal) :
    ∑ l : Fin 128, f l * (if l.val / 64 = a.val then g l else 0) = ∑ d : Fin 64, f ⟨64 * a.val + d.val, by omega⟩ * g ⟨64 * a.val + d.val, by omega⟩ := by
  rw [sum_half]
  have h0 : ∀ d : Fin 64, (d.val / 64 = a.val) ↔ a.val = 0 := fun d => by omega
  have h1 : ∀ d : Fin 64, ((64 + d.val) / 64 = a.val) ↔ a.val = 1 := fun d => by omega
  simp only [h0, h1]
  match a with
  | ⟨0, _⟩ => simp
  | ⟨1, _⟩ => simp

/-- The score of key `j` at query `i`, from the head's own lanes and the two coefficients. -/
theorem raw_eq (a : Fin 2) (q : FVec Ideal S256x1024 .bf16) (x0 : Vec Ideal S1x128x1024 .bf16) (x4 : Vec Ideal S1x1x2x1024 .f32)
    (hq : ∀ l i, q (ix2 l i) = qent a x0 x4 i l) (x1 x2 : Vec Ideal S1x8192x128 .bf16) (i : Fin 1024) (j : ℕ)
    (X : ℝ) (hX : x4 (ix4 0 0 a i) * (L2E : EReal) = X) (y : ℕ → ℝ) (hy : ∀ s : Fin 128, x2 (ix3 0 ⟨j % 8192, Nat.mod_lt _ (by decide)⟩ s) = kext y s.val) :
    raw q x1 x2 i j = (∑ d : Fin 64, x1 (ix3 0 ⟨j % 8192, Nat.mod_lt _ (by decide)⟩ ⟨64 * a.val + d.val, by omega⟩) * x0 (ix3 0 ⟨64 * a.val + d.val, by omega⟩ i))
      + ((X : EReal) - (y a.val : EReal)) := by
  unfold raw
  simp only [hq]
  refine (Fin.sum_univ_add (a := 128) (b := 128) fun l : Fin (128 + 128) => kent x1 x2 j l * qent a x0 x4 i l).trans ?_
  rw [← sum_head a (fun l => x1 (ix3 0 ⟨j % 8192, Nat.mod_lt _ (by decide)⟩ l)) (fun l => x0 (ix3 0 l i)), ← sum_ext a X y]
  refine congrArg₂ _ (Finset.sum_congr rfl fun l _ => ?_) (Finset.sum_congr rfl fun s _ => ?_)
  · have hl : (Fin.castAdd 128 l).val < 128 := l.isLt
    unfold kent qent
    rw [dif_pos hl, dif_pos hl]
    rfl
  · have hs : ¬ (Fin.natAdd 128 s).val < 128 := by show ¬ 128 + s.val < 128; omega
    have hv : (Fin.natAdd 128 s).val - 128 = s.val := by show 128 + s.val - 128 = s.val; omega
    unfold kent qent
    rw [dif_neg hs, dif_neg hs, hX]
    simp only [hv]
    rw [← hy s]

end Cert.KernelIdeal.Att

end
-- ==== Proof.Out.lean ====
module
public import proofs.«01_k».proof.Proof.Logit
@[expose] public section

/-! # The block a grid point stores, at an index

A query's row holds its head's values averaged with the softmax of its logits. -/

set_option maxRecDepth 16384

noncomputable section

namespace Cert.KernelIdeal.Att

open Cert.KernelIdeal Cert.KernelIdeal.Gen
open Idealize.ShloMosaic hiding ix1 ix2 ix3 ix4 ix5
open Idealize.ShloMosaic.ValueIdx
open Cert.Softmax

theorem trunc_at {S : Shape} (x : FVec Ideal S .f32) (i : S.Idx) : truncf .bf16 x bitsLt_bf16_f32 i = x i := rfl

/-- One head's sums divided by its sum of weights. -/
def quot (a : FVec Ideal S80x1024 .f32) : FVec Ideal S64x1024 .f32 :=
  divf (extractStridedSlice S64x1024 ![0, 0] a slices_S80x1024_o0_0_S64x1024) (broadcastTo S64x1024 (extractStridedSlice S1x1024 ![64, 0] a slices_S80x1024_o64_0_S1x1024) broadcasts_S1x1024_S64x1024)

theorem quot_apply (a : FVec Ideal S80x1024 .f32) (d : Fin 64) (r : Fin 1024) :
    quot a (ix2 d r) = Ideal.div (a (ix2 (⟨d.val, by omega⟩ : Fin 80) r)) (a (ix2 (64 : Fin 80) r)) := by
  unfold quot
  show Ideal.div (extractStridedSlice S64x1024 ![0, 0] a slices_S80x1024_o0_0_S64x1024 (ix2 d r)) (broadcastTo S64x1024 _ broadcasts_S1x1024_S64x1024 (ix2 d r)) = _
  rw [broadcastTo_1b_ab_apply]
  rw [slice2_axis0_apply 0 a slices_S80x1024_o0_0_S64x1024 d r ⟨d.val, by omega⟩ (by simp), slice2_axis0_apply 64 a slices_S80x1024_o64_0_S1x1024 0 r 64 rfl]

theorem lay_left (a b : FVec Ideal S80x1024 .f32) (r : Fin 1024) (d : Fin 64) (e : Fin 128) (he : e.val = d.val) :
    lay a b (ix3 0 r e) = quot a (ix2 d r) := by
  show shapeCast S1x1024x128 (truncf .bf16 (transpose S1024x128 [1, 0] (concatenate S128x1024 0 [⟨S64x1024, quot a⟩, ⟨S64x1024, quot b⟩]
    concatenates_S64x1024_S64x1024_S128x1024_d0) transposes_S128x1024_p1_0_S1024x128) bitsLt_bf16_f32) shapeCasts_S1024x128_S1x1024x128 (ix3 0 r e) = _
  rw [shapeCast_ab_1ab_apply]
  rw [trunc_at, transpose_ix2_apply]
  exact concatenate_pair_apply_left (s₁ := S64x1024) (s₂ := S64x1024) (0 : Fin S128x1024.rank) (quot a) (quot b) concatenates_S64x1024_S64x1024_S128x1024_d0 (ix2 e r) rfl (ix2 d r)
      (by intro b; match b with | ⟨0, _⟩ => exact he.symm | ⟨1, _⟩ => rfl)

theorem lay_right (a b : FVec Ideal S80x1024 .f32) (r : Fin 1024) (d : Fin 64) (e : Fin 128) (he : e.val = 64 + d.val) :
    lay a b (ix3 0 r e) = quot b (ix2 d r) := by
  show shapeCast S1x1024x128 (truncf .bf16 (transpose S1024x128 [1, 0] (concatenate S128x1024 0 [⟨S64x1024, quot a⟩, ⟨S64x1024, quot b⟩]
    concatenates_S64x1024_S64x1024_S128x1024_d0) transposes_S128x1024_p1_0_S1024x128) bitsLt_bf16_f32) shapeCasts_S1024x128_S1x1024x128 (ix3 0 r e) = _
  rw [shapeCast_ab_1ab_apply]
  rw [trunc_at, transpose_ix2_apply]
  exact concatenate_pair_apply_right (s₁ := S64x1024) (s₂ := S64x1024) (0 : Fin S128x1024.rank) (quot a) (quot b) concatenates_S64x1024_S64x1024_S128x1024_d0 (ix2 e r) rfl rfl (ix2 d r)
      (by intro b hb; match b with | ⟨0, _⟩ => exact absurd rfl hb | ⟨1, _⟩ => rfl)
      (by show d.val + 64 = e.val; omega)

/-- The key numbered `j`. -/
abbrev key (j : ℕ) : Fin 8192 := ⟨j % 8192, Nat.mod_lt _ (by decide)⟩

/-- The values of head `a` of a pair, and a one in the rows below them. -/
def vent (a : Fin 2) (x3 : Vec Ideal S1x128x8192 .bf16) (e : Fin 80) (j : ℕ) : EReal :=
  if h : e.val < 64 then x3 (ix3 0 ⟨64 * a.val + e.val, by have := a.isLt; omega⟩ (key j)) else 1

theorem vrow0_ent (x3 : Vec Ideal S1x128x8192 .bf16) (j : ℕ) (e : Fin 80) (k : Fin 256) :
    vones shapeCasts_S1x64x256_S64x256 (vrow0 x3 j) (ix2 e k) = vent 0 x3 e (256 * j + k.val) := by
  rw [vones_apply]
  unfold vent
  by_cases h : e.val < 64
  · rw [dif_pos h, dif_pos h]
    show x3 _ = x3 _
    congr 1; funext b; apply Fin.ext
    match b with | ⟨0, _⟩ => rfl | ⟨1, _⟩ => (show e.val = 64 * 0 + e.val; omega) | ⟨2, _⟩ => rfl
  · rw [dif_neg h, dif_neg h]

theorem vrow1_ent (x3 : Vec Ideal S1x128x8192 .bf16) (j : ℕ) (e : Fin 80) (k : Fin 256) :
    vones shapeCasts_S1x64x256_S64x256 (vrow1 x3 j) (ix2 e k) = vent 1 x3 e (256 * j + k.val) := by
  rw [vones_apply]
  unfold vent
  by_cases h : e.val < 64
  · rw [dif_pos h, dif_pos h]
    show x3 _ = x3 _
    congr 1
  · rw [dif_neg h, dif_neg h]

/-- The masked logits of the query `i` of tile `n`, from the logits `u` of all keys. -/
def tmask (u : ℕ → ℝ) (n : ℕ) (i : Fin 1024) (j : ℕ) : EReal := if j ≤ 1024 * n + i.val then (u j : EReal) else ⊥

/-- ONE HEAD OF ONE QUERY. The sums of a query divided by its sum of weights average the values with the softmax of the
masked logits. -/
theorem head_value (q : FVec Ideal S256x1024 .bf16) (x1 x2 : Vec Ideal S1x8192x128 .bf16) (vr : ℕ → FVec Ideal S1x64x256 .bf16)
    (a : Fin 2) (x3 : Vec Ideal S1x128x8192 .bf16) (hV : ∀ j e k, vones shapeCasts_S1x64x256_S64x256 (vr j) (ix2 e k) = vent a x3 e (256 * j + k.val))
    (n : ℕ) (hn : n < 8) (i : Fin 1024) (u : ℕ → ℝ) (hu : ∀ j, raw q x1 x2 i j = (L2E : EReal) * (u j : EReal)) (d : Fin 64) :
    quot (E3 q x1 x2 vr n).2 (ix2 d i)
      = ∑ j ∈ Finset.range 8192, x3 (ix3 0 ⟨64 * a.val + d.val, by have := a.isLt; omega⟩ (key j))
          * Ideal.div (Ideal.exp (tmask u n i j - top (tmask u n i) 8192)) (∑ k ∈ Finset.range 8192, Ideal.exp (tmask u n i k - top (tmask u n i) 8192)) := by
  have hL : (0 : ℝ) < L2E := inv_pos.mpr (Real.log_pos (by norm_num))
  have hA := E3_at q x1 x2 vr (vent a x3) hV n i (fun j => by rw [hu, ← EReal.coe_mul]; exact EReal.coe_ne_top _)
  have hS : sco q x1 x2 n i = fun j => (L2E : EReal) * tmask u n i j := by
    funext j
    unfold sco tmask
    by_cases hj : j ≤ 1024 * n + i.val
    · rw [if_pos hj, if_pos hj, hu]
    · rw [if_neg hj, if_neg hj, EReal.coe_mul_bot_of_pos hL]
  rw [hS] at hA
  have hi := i.isLt
  have ho : vent a x3 64 = fun _ => 1 := rfl
  have hd : vent a x3 ⟨d.val, by omega⟩ = fun j => x3 (ix3 0 ⟨64 * a.val + d.val, by have := a.isLt; omega⟩ (key j)) := by
    funext j; unfold vent; rw [dif_pos d.isLt]
  rw [quot_apply, hA.2, hA.2, ho, hd]
  refine softmax_of_sums (L := L2E) rfl (fun j => ?_) (n := upto n 3 i) (N := 8192) (by unfold upto; omega) (fun j hj => ?_) (j₀ := 0) (by unfold upto; omega) ?_ _
  · unfold tmask; split
    · exact EReal.coe_ne_top _
    · exact bot_ne_top
  · unfold tmask; rw [if_neg]; unfold upto at hj; omega
  · unfold tmask; rw [if_pos (Nat.zero_le _)]; exact EReal.coe_ne_bot _

end Cert.KernelIdeal.Att

end
-- ==== Proof.Host.lean ====
module
public import proofs.«01_k».proof.Proof.Out
public import proofs.«01_k».proof.Proof.Launch
public import Idealize.ShloMosaic.Lib.StableHlo.Run
@[expose] public section

/-! # The arrays the attention kernel reads, from the arguments

The queries are scaled and transposed, the keys and values laid out with the heads side by side, and the keys'
coefficients are split and laid beside rows of ones. -/

set_option maxRecDepth 16384

noncomputable section

namespace Cert.KernelIdeal.Att

open Cert.KernelIdeal Cert.KernelIdeal.Gen
open Idealize.ShloMosaic hiding ix1 ix2 ix3 ix4 ix5
open Idealize.ShloMosaic.TcCoe
open Idealize.ShloMosaic.ValueIdx
open Idealize.SL.Sem
open Cert.Softmax

/-- Queries, keys or values. -/
abbrev A4 := FVec Ideal S4x8192x16x64 .f32
/-- Coefficients. -/
abbrev A3 := FVec Ideal S4x8192x16 .f32

/-- One over the logarithm of two. -/
def HL : FVec Ideal S_ .f32 := Host.divf (constant S_ .f32 0x3F800000#32) (Host.log (constant S_ .f32 0x40000000#32))

/-- The scaled queries, one row per lane. -/
def QT (q : A4) : FVec Ideal S4x1024x8192 .bf16 :=
  truncf .bf16 (mulf (transpose S4x1024x8192 [0, 2, 1] (shapeCast S4x8192x1024 q shapeCasts_S4x8192x16x64_S4x8192x1024) transposes_S4x8192x1024_S4x1024x8192_0_2_1)
    (broadcastInDim S4x1024x8192 ![] bcast_S_S4x1024x8192 (mulf (constant S_ .f32 0x3E000000#32) HL))) bitsLt_bf16_f32

/-- The keys. -/
def KB (k : A4) : FVec Ideal S4x8192x1024 .bf16 := truncf .bf16 (shapeCast S4x8192x1024 k shapeCasts_S4x8192x16x64_S4x8192x1024) bitsLt_bf16_f32

/-- The values, one row per lane. -/
def VT (v : A4) : FVec Ideal S4x1024x8192 .bf16 :=
  truncf .bf16 (transpose S4x1024x8192 [0, 2, 1] (shapeCast S4x8192x1024 v shapeCasts_S4x8192x16x64_S4x8192x1024) transposes_S4x8192x1024_S4x1024x8192_0_2_1) bitsLt_bf16_f32

/-- The scaled coefficients. -/
def CL (c : A3) : A3 := mulf c (broadcastInDim S4x8192x16 ![] bcast_S_S4x8192x16 HL)

/-- A coefficient's first part. -/
def hi (c : A3) : FVec Ideal S4x8192x16 .bf16 := truncf .bf16 (CL c) bitsLt_bf16_f32
/-- What the first part leaves. -/
def rest (c : A3) : A3 := subf (CL c) (extf .f32 (hi c) bitsLt_bf16_f32)
/-- A coefficient's second part. -/
def mid (c : A3) : FVec Ideal S4x8192x16 .bf16 := truncf .bf16 (rest c) bitsLt_bf16_f32
/-- A coefficient's third part. -/
def lo (c : A3) : FVec Ideal S4x8192x16 .bf16 := truncf .bf16 (subf (rest c) (extf .f32 (mid c) bitsLt_bf16_f32)) bitsLt_bf16_f32

/-- The three parts side by side. -/
def C3 (c : A3) : FVec Ideal S4x8192x16x3 .bf16 :=
  concatenate S4x8192x16x3 3 [⟨S4x8192x16x1, broadcastInDim S4x8192x16x1 ![0, 1, 2] bcast_S4x8192x16_S4x8192x16x1_0_1_2 (hi c)⟩,
    ⟨S4x8192x16x1, broadcastInDim S4x8192x16x1 ![0, 1, 2] bcast_S4x8192x16_S4x8192x16x1_0_1_2 (mid c)⟩,
    ⟨S4x8192x16x1, broadcastInDim S4x8192x16x1 ![0, 1, 2] bcast_S4x8192x16_S4x8192x16x1_0_1_2 (lo c)⟩] concatenates_S4x8192x16x1_S4x8192x16x1_S4x8192x16x1_S4x8192x16x3_d3

/-- The parts of a pair of heads, negated. -/
def N6 (c : A3) : FVec Ideal S4x8192x8x6 .f32 := Host.negf (shapeCast S4x8192x8x6 (extf .f32 (C3 c) bitsLt_bf16_f32) shapeCasts_S4x8192x16x3_S4x8192x8x6)

/-- The extra lanes of the keys of a pair of heads. -/
def E8 (c : A3) : FVec Ideal S4x8192x8x128 .f32 :=
  concatenate S4x8192x8x128 3 [⟨S4x8192x8x6, N6 c⟩, ⟨S4x8192x8x3, broadcastInDim S4x8192x8x3 ![] bcast_S_S4x8192x8x3 (constant S_ .f32 0x3F800000#32)⟩,
    ⟨S4x8192x8x119, broadcastInDim S4x8192x8x119 ![] bcast_S_S4x8192x8x119 (constant S_ .f32 0x00000000#32)⟩] concatenates_S4x8192x8x6_S4x8192x8x3_S4x8192x8x119_S4x8192x8x128_d3

/-- The extra lanes of the keys. -/
def KX (c : A3) : FVec Ideal S4x8192x1024 .bf16 := truncf .bf16 (shapeCast S4x8192x1024 (E8 c) shapeCasts_S4x8192x8x128_S4x8192x1024) bitsLt_bf16_f32

/-- The queries' coefficients. -/
def CQ (c : A3) : FVec Ideal S4x8x2x8192 .f32 :=
  transpose S4x8x2x8192 [0, 2, 3, 1] (shapeCast S4x8192x8x2 c shapeCasts_S4x8192x16_S4x8192x8x2) transposes_S4x8192x8x2_S4x8x2x8192_0_2_3_1

section Read
variable (m : (ℓ : Loc nD τ sig) → Buf (Elt Ideal) ℓ) (c : Dev nD)

theorem V7 : V m c main_v7 = QT (m ((c.tc : Thread nD τ).loc main_arg0)) := by
  show StableHlo.after hostOps0 _ (Proc.devRef .tc main_v7) = _
  after_results_simp; rfl

theorem V9 : V m c main_v9 = KB (m ((c.tc : Thread nD τ).loc main_arg1)) := by
  show StableHlo.after hostOps0 _ (Proc.devRef .tc main_v9) = _
  after_results_simp; rfl

theorem V12 : V m c main_v12 = VT (m ((c.tc : Thread nD τ).loc main_arg2)) := by
  show StableHlo.after hostOps0 _ (Proc.devRef .tc main_v12) = _
  after_results_simp; rfl

theorem V33 : V m c main_v33 = KX (m ((c.tc : Thread nD τ).loc main_arg3)) := by
  show StableHlo.after hostOps0 _ (Proc.devRef .tc main_v33) = _
  after_results_simp; rfl

theorem V35 : V m c main_v35 = CQ (m ((c.tc : Thread nD τ).loc main_arg3)) := by
  show StableHlo.after hostOps0 _ (Proc.devRef .tc main_v35) = _
  after_results_simp; rfl

end Read

end Cert.KernelIdeal.Att

end
-- ==== Proof.Entry.lean ====
module
public import proofs.«01_k».proof.Proof.Host
@[expose] public section

/-! # The arrays the attention kernel reads, at an index -/

set_option maxRecDepth 16384

noncomputable section

namespace Cert.KernelIdeal.Att

open Cert.KernelIdeal Cert.KernelIdeal.Gen
open Idealize.ShloMosaic hiding ix1 ix2 ix3 ix4 ix5
open Idealize.ShloMosaic.ValueIdx
open Cert.Softmax

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- One over the logarithm of two is the base-two logarithm of e. -/
theorem HL_apply (i : S_.Idx) : HL i = (L2E : EReal) := by
  unfold HL
  show Ideal.div (Ideal.ofBits .f32 0x3F800000#32) (Ideal.log (Ideal.ofBits .f32 0x40000000#32)) = _
  rw [Ideal.ofBits_one_f32, ofBits_two]
  rw [show Ideal.log ((2 : ℝ) : EReal) = ((Real.log 2 : ℝ) : EReal) from if_neg (by norm_num)]
  rw [Ideal.div_coe (ne_of_gt (Real.log_pos (by norm_num))), one_mul, one_div]

theorem flat_apply (x : A4) (b : Fin 4) (j : Fin 8192) (h : Fin 16) (d : Fin 64) (e : Fin 1024) (he : e.val = 64 * h.val + d.val) :
    shapeCast S4x8192x1024 x shapeCasts_S4x8192x16x64_S4x8192x1024 (ix3 b j e) = x (ix4 b j h d) :=
  shapeCast_apply _ shapeCasts_S4x8192x16x64_S4x8192x1024 (ix3 b j e) (ix4 b j h d) (by
    rw [Shape.rowMajor_val_four, Shape.rowMajor_val_three]
    show ((b.val * 8192 + j.val) * 16 + h.val) * 64 + d.val = (b.val * 8192 + j.val) * 1024 + e.val
    omega)

theorem turn_apply (x : FVec Ideal S4x8192x1024 .f32) (b : Fin 4) (j : Fin 8192) (e : Fin 1024) :
    transpose S4x1024x8192 [0, 2, 1] x transposes_S4x8192x1024_S4x1024x8192_0_2_1 (ix3 b e j) = x (ix3 b j e) :=
  transpose_apply _ _ _ _ _ (fun a => by match a with | ⟨0, _⟩ => rfl | ⟨1, _⟩ => rfl | ⟨2, _⟩ => rfl)

theorem QT_apply (q : A4) (b : Fin 4) (j : Fin 8192) (h : Fin 16) (d : Fin 64) (e : Fin 1024) (he : e.val = 64 * h.val + d.val) :
    QT q (ix3 b e j) = q (ix4 b j h d) * (((1 / 8 : ℝ) : EReal) * (L2E : EReal)) := by
  unfold QT
  rw [trunc_at]
  refine congrArg₂ (fun x y : EReal => x * y) ((turn_apply _ b j e).trans (flat_apply q b j h d e he)) ?_
  rw [broadcastInDim_scalar_apply]
  exact congrArg₂ (fun x y : EReal => x * y) ofBits_eighth (HL_apply _)

theorem KB_apply (k : A4) (b : Fin 4) (j : Fin 8192) (h : Fin 16) (d : Fin 64) (e : Fin 1024) (he : e.val = 64 * h.val + d.val) :
    KB k (ix3 b j e) = k (ix4 b j h d) := by
  unfold KB
  rw [trunc_at, flat_apply k b j h d e he]

theorem VT_apply (v : A4) (b : Fin 4) (j : Fin 8192) (h : Fin 16) (d : Fin 64) (e : Fin 1024) (he : e.val = 64 * h.val + d.val) :
    VT v (ix3 b e j) = v (ix4 b j h d) := by
  unfold VT
  rw [trunc_at, turn_apply, flat_apply v b j h d e he]

theorem CQ_apply (c : A3) (b : Fin 4) (p : Fin 8) (a : Fin 2) (j : Fin 8192) (h : Fin 16) (hh : h.val = 2 * p.val + a.val) :
    CQ c (ix4 b p a j) = c (ix3 b j h) := by
  unfold CQ
  refine (transpose_apply _ _ transposes_S4x8192x8x2_S4x8x2x8192_0_2_3_1 (ix4 b p a j) (ix4 b j p a) (fun a => by match a with | ⟨0, _⟩ => rfl | ⟨1, _⟩ => rfl | ⟨2, _⟩ => rfl | ⟨3, _⟩ => rfl)).trans ?_
  exact shapeCast_apply _ shapeCasts_S4x8192x16_S4x8192x8x2 (ix4 b j p a) (ix3 b j h) (by
    rw [Shape.rowMajor_val_four, Shape.rowMajor_val_three]
    show (b.val * 8192 + j.val) * 16 + h.val = ((b.val * 8192 + j.val) * 8 + p.val) * 2 + a.val
    omega)

/-! ## The split coefficients of the keys -/

section Split
variable (c : A3) (b : Fin 4) (j : Fin 8192) (h : Fin 16) (r : ℝ) (hr : c (ix3 b j h) = (r : EReal))
include hr

theorem CL_apply : CL c (ix3 b j h) = ((r * L2E : ℝ) : EReal) := by
  unfold CL
  show c (ix3 b j h) * broadcastInDim S4x8192x16 ![] bcast_S_S4x8192x16 HL (ix3 b j h) = _
  rw [broadcastInDim_scalar_apply, HL_apply, hr, EReal.coe_mul]

theorem rest_apply : rest c (ix3 b j h) = ((0 : ℝ) : EReal) := by
  show CL c (ix3 b j h) - CL c (ix3 b j h) = _
  rw [CL_apply c b j h r hr, ← EReal.coe_sub, sub_self]

theorem lo_apply : lo c (ix3 b j h) = ((0 : ℝ) : EReal) := by
  show rest c (ix3 b j h) - rest c (ix3 b j h) = _
  rw [rest_apply c b j h r hr, ← EReal.coe_sub, sub_self]

/-- The three parts: the whole coefficient, and nothing. -/
theorem C3_apply (p : Fin 3) : C3 c (ix4 b j h p) = ((if p.val = 0 then r * L2E else 0 : ℝ) : EReal) := by
  have one : ∀ x : FVec Ideal S4x8192x16 .bf16, broadcastInDim S4x8192x16x1 ![0, 1, 2] bcast_S4x8192x16_S4x8192x16x1_0_1_2 x (ix4 b j h (0 : Fin 1)) = x (ix3 b j h) := fun x =>
    broadcastInDim_apply _ bcast_S4x8192x16_S4x8192x16x1_0_1_2 x (ix4 b j h (0 : Fin 1)) (ix3 b j h) (fun a => by match a with | ⟨0, _⟩ => rfl | ⟨1, _⟩ => rfl | ⟨2, _⟩ => rfl)
  have off : ∀ (p : Fin 3) (z : Fin S4x8192x16x1.rank), z.cast (rfl : S4x8192x16x1.rank = S4x8192x16x3.rank) ≠ 3 → ((ix4 b j h (0 : Fin 1) : S4x8192x16x1.Idx) z).val = ((ix4 b j h p : S4x8192x16x3.Idx) (z.cast rfl)).val := fun p z hz => by
    match z with | ⟨0, _⟩ => rfl | ⟨1, _⟩ => rfl | ⟨2, _⟩ => rfl | ⟨3, _⟩ => exact absurd rfl hz
  unfold C3
  match p with
  | ⟨0, _⟩ =>
    refine (concatenate_apply_piece (t := S4x8192x16x3) 3 _ _ (ix4 b j h 0) 0 (by simp) S4x8192x16x1 _ rfl rfl 0 rfl (ix4 b j h (0 : Fin 1)) (off 0) rfl).trans ?_
    rw [one]; exact CL_apply c b j h r hr
  | ⟨1, _⟩ =>
    refine (concatenate_apply_piece (t := S4x8192x16x3) 3 _ _ (ix4 b j h 1) 1 (by simp) S4x8192x16x1 _ rfl rfl 1 rfl (ix4 b j h (0 : Fin 1)) (off 1) rfl).trans ?_
    rw [one]; exact rest_apply c b j h r hr
  | ⟨2, _⟩ =>
    refine (concatenate_apply_piece (t := S4x8192x16x3) 3 _ _ (ix4 b j h 2) 2 (by simp) S4x8192x16x1 _ rfl rfl 2 rfl (ix4 b j h (0 : Fin 1)) (off 2) rfl).trans ?_
    rw [one]; exact lo_apply c b j h r hr

end Split

section Lanes
variable (c : A3) (y : S4x8192x16.Idx → ℝ) (hc : ∀ i, c i = (y i : EReal)) (b : Fin 4) (j : Fin 8192) (p : Fin 8)
include hc

/-- The scaled coefficient of head `z` of the pair `p`. -/
abbrev ycoef (y : S4x8192x16.Idx → ℝ) (b : Fin 4) (j : Fin 8192) (p : Fin 8) (z : ℕ) : ℝ := y (ix3 b j ⟨(2 * p.val + z) % 16, Nat.mod_lt _ (by decide)⟩) * L2E

theorem N6_apply (s : Fin 6) : N6 c (ix4 b j p s) = ((if s.val % 3 = 0 then -ycoef y b j p (s.val / 3) else 0 : ℝ) : EReal) := by
  have hp := p.isLt
  have hs := s.isLt
  unfold N6
  show -(shapeCast S4x8192x8x6 (extf .f32 (C3 c) bitsLt_bf16_f32) shapeCasts_S4x8192x16x3_S4x8192x8x6 (ix4 b j p s)) = _
  rw [shapeCast_apply _ shapeCasts_S4x8192x16x3_S4x8192x8x6 (ix4 b j p s) (ix4 b j (⟨(2 * p.val + s.val / 3) % 16, Nat.mod_lt _ (by decide)⟩ : Fin 16) (⟨s.val % 3, Nat.mod_lt _ (by decide)⟩ : Fin 3)) (by
    rw [Shape.rowMajor_val_four, Shape.rowMajor_val_four]
    show ((b.val * 8192 + j.val) * 16 + (2 * p.val + s.val / 3) % 16) * 3 + s.val % 3 = ((b.val * 8192 + j.val) * 8 + p.val) * 6 + s.val
    omega)]
  refine (congrArg (fun x : EReal => -x) (C3_apply c b j _ _ (hc _) _)).trans ?_
  rw [← EReal.coe_neg]
  congr 1
  show -(if s.val % 3 = 0 then _ else (0 : ℝ)) = _
  split <;> simp

theorem E8_apply (s : Fin 128) : E8 c (ix4 b j p s) = kext (ycoef y b j p) s.val := by
  have hs := s.isLt
  unfold E8 kext
  by_cases h6 : s.val < 6
  · refine (concatenate_apply_piece (t := S4x8192x8x128) 3 _ _ (ix4 b j p s) 0 (by simp) S4x8192x8x6 _ rfl rfl 0 rfl (ix4 b j p (⟨s.val, h6⟩ : Fin 6))
      (fun z hz => by match z with | ⟨0, _⟩ => rfl | ⟨1, _⟩ => rfl | ⟨2, _⟩ => rfl | ⟨3, _⟩ => exact absurd rfl hz) (by show 0 + s.val = s.val; omega)).trans ?_
    rw [if_pos h6, N6_apply c y hc]
    show ((if s.val % 3 = 0 then _ else (0 : ℝ) : ℝ) : EReal) = _
    split
    · rw [EReal.coe_neg]
    · rfl
  · rw [if_neg h6]
    by_cases h9 : s.val < 9
    · rw [if_pos h9]
      refine (concatenate_apply_piece (t := S4x8192x8x128) 3 _ _ (ix4 b j p s) 1 (by simp) S4x8192x8x3 _ rfl rfl 6 rfl (ix4 b j p (⟨s.val - 6, by omega⟩ : Fin 3))
        (fun z hz => by match z with | ⟨0, _⟩ => rfl | ⟨1, _⟩ => rfl | ⟨2, _⟩ => rfl | ⟨3, _⟩ => exact absurd rfl hz) (by show 6 + (s.val - 6) = s.val; omega)).trans ?_
      rw [broadcastInDim_scalar_apply]
      exact Ideal.ofBits_one_f32
    · rw [if_neg h9]
      refine (concatenate_apply_piece (t := S4x8192x8x128) 3 _ _ (ix4 b j p s) 2 (by simp) S4x8192x8x119 _ rfl rfl 9 rfl (ix4 b j p (⟨s.val - 9, by omega⟩ : Fin 119))
        (fun z hz => by match z with | ⟨0, _⟩ => rfl | ⟨1, _⟩ => rfl | ⟨2, _⟩ => rfl | ⟨3, _⟩ => exact absurd rfl hz) (by show 9 + (s.val - 9) = s.val; omega)).trans ?_
      rw [broadcastInDim_scalar_apply]
      exact Ideal.ofBits_zero_f32

theorem KX_apply (s : Fin 128) (e : Fin 1024) (he : e.val = 128 * p.val + s.val) : KX c (ix3 b j e) = kext (ycoef y b j p) s.val := by
  unfold KX
  rw [trunc_at, shapeCast_apply _ shapeCasts_S4x8192x8x128_S4x8192x1024 (ix3 b j e) (ix4 b j p s) (by
    rw [Shape.rowMajor_val_four, Shape.rowMajor_val_three]
    show ((b.val * 8192 + j.val) * 8 + p.val) * 128 + s.val = (b.val * 8192 + j.val) * 1024 + e.val
    omega), E8_apply c y hc]

end Lanes

end Cert.KernelIdeal.Att

end
-- ==== Proof.Place.lean ====
module
public import proofs.«01_k».proof.Proof.Entry
@[expose] public section

/-! # The blocks of the attention kernel, among its arrays -/

set_option maxRecDepth 16384

noncomputable section

namespace Cert.KernelIdeal.Att

open Cert.KernelIdeal Cert.KernelIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Softmax

/-! ## Where the blocks lie -/

theorem at0 : ∀ t : Fin grid0.N, win0_0.index t 0 = (grid0.coords t 0).val ∧ win0_0.index t 1 = (grid0.coords t 1).val ∧ win0_0.index t 2 = (grid0.coords t 2).val := by decide +kernel
theorem at1 : ∀ t : Fin grid0.N, win0_1.index t 0 = (grid0.coords t 0).val ∧ win0_1.index t 1 = 0 ∧ win0_1.index t 2 = (grid0.coords t 1).val := by decide +kernel
theorem at2 : ∀ t : Fin grid0.N, win0_2.index t 0 = (grid0.coords t 0).val ∧ win0_2.index t 1 = 0 ∧ win0_2.index t 2 = (grid0.coords t 1).val := by decide +kernel
theorem at3 : ∀ t : Fin grid0.N, win0_3.index t 0 = (grid0.coords t 0).val ∧ win0_3.index t 1 = (grid0.coords t 1).val ∧ win0_3.index t 2 = 0 := by decide +kernel
theorem at4 : ∀ t : Fin grid0.N, win0_4.index t 0 = (grid0.coords t 0).val ∧ win0_4.index t 1 = (grid0.coords t 1).val ∧ win0_4.index t 2 = 0 ∧ win0_4.index t 3 = (grid0.coords t 2).val := by decide +kernel
theorem at5 : ∀ t : Fin grid0.N, win0_5.index t 0 = (grid0.coords t 0).val ∧ win0_5.index t 1 = (grid0.coords t 2).val ∧ win0_5.index t 2 = (grid0.coords t 1).val := by decide +kernel

/-- The batch of a grid point. -/
abbrev gb (t : Fin cfg0.N) : Fin 4 := grid0.coords t 0
/-- The pair of heads of a grid point. -/
abbrev gp (t : Fin cfg0.N) : Fin 8 := grid0.coords t 1
/-- The tile of queries of a grid point. -/
abbrev gi (t : Fin cfg0.N) : Fin 8 := grid0.coords t 2

/-- A lane of a pair of heads, among all lanes. -/
abbrev wide (p : Fin 8) (l : Fin 128) : Fin 1024 := ⟨128 * p.val + l.val, by omega⟩
/-- A query of a tile, among all queries. -/
abbrev deep (n : Fin 8) (i : Fin 1024) : Fin 8192 := ⟨1024 * n.val + i.val, by omega⟩

section Blocks
variable (m : (ℓ : Loc nD τ sig) → Buf (Elt Ideal) ℓ) (c : Dev nD) (t : Fin cfg0.N)

theorem src0 : iblk m c 0 t = ((cfg0.win 0).blk t).view.read (Elt Ideal) (QT (m ((c.tc : Thread nD τ).loc main_arg0))) :=
  congrArg (((cfg0.win 0).blk t).view.read (Elt Ideal)) (V7 m c)

theorem src1 : iblk m c 1 t = ((cfg0.win 1).blk t).view.read (Elt Ideal) (KB (m ((c.tc : Thread nD τ).loc main_arg1))) :=
  congrArg (((cfg0.win 1).blk t).view.read (Elt Ideal)) (V9 m c)

theorem src2 : iblk m c 2 t = ((cfg0.win 2).blk t).view.read (Elt Ideal) (KX (m ((c.tc : Thread nD τ).loc main_arg3))) :=
  congrArg (((cfg0.win 2).blk t).view.read (Elt Ideal)) (V33 m c)

theorem src3 : iblk m c 3 t = ((cfg0.win 3).blk t).view.read (Elt Ideal) (VT (m ((c.tc : Thread nD τ).loc main_arg2))) :=
  congrArg (((cfg0.win 3).blk t).view.read (Elt Ideal)) (V12 m c)

theorem src4 : iblk m c 4 t = ((cfg0.win 4).blk t).view.read (Elt Ideal) (CQ (m ((c.tc : Thread nD τ).loc main_arg3))) :=
  congrArg (((cfg0.win 4).blk t).view.read (Elt Ideal)) (V35 m c)

theorem read0 (A : FVec Ideal S4x1024x8192 .bf16) (l : Fin 128) (i : Fin 1024) : ((cfg0.win 0).blk t).view.read (Elt Ideal) A (ix3 (0 : Fin 1) l i) = A (ix3 (gb t) (wide (gp t) l) (deep (gi t) i)) := by
  rw [View.read_apply]
  show A _ = A _
  congr 1; funext a; apply Fin.ext
  match a with
  | ⟨0, _⟩ => show win0_0.index t 0 * 1 + 1 * 0 = _; rw [(at0 t).1]; show (grid0.coords t 0).val * 1 + 1 * 0 = (grid0.coords t 0).val; omega
  | ⟨1, _⟩ => show win0_0.index t 1 * 128 + 1 * l.val = _; rw [(at0 t).2.1]; show (grid0.coords t 1).val * 128 + 1 * l.val = 128 * (grid0.coords t 1).val + l.val; omega
  | ⟨2, _⟩ => show win0_0.index t 2 * 1024 + 1 * i.val = _; rw [(at0 t).2.2]; show (grid0.coords t 2).val * 1024 + 1 * i.val = 1024 * (grid0.coords t 2).val + i.val; omega

theorem blk0 (l : Fin 128) (i : Fin 1024) : iblk m c 0 t (ix3 (0 : Fin 1) l i) = QT (m ((c.tc : Thread nD τ).loc main_arg0)) (ix3 (gb t) (wide (gp t) l) (deep (gi t) i)) :=
  (congrFun (src0 m c t) _).trans (read0 t _ l i)

theorem read1 (A : FVec Ideal S4x8192x1024 .bf16) (j : Fin 8192) (l : Fin 128) : ((cfg0.win 1).blk t).view.read (Elt Ideal) A (ix3 (0 : Fin 1) j l) = A (ix3 (gb t) j (wide (gp t) l)) := by
  rw [View.read_apply]
  show A _ = A _
  congr 1; funext a; apply Fin.ext
  match a with
  | ⟨0, _⟩ => show win0_1.index t 0 * 1 + 1 * 0 = _; rw [(at1 t).1]; show (grid0.coords t 0).val * 1 + 1 * 0 = (grid0.coords t 0).val; omega
  | ⟨1, _⟩ => show win0_1.index t 1 * 8192 + 1 * j.val = j.val; rw [(at1 t).2.1]; omega
  | ⟨2, _⟩ => show win0_1.index t 2 * 128 + 1 * l.val = _; rw [(at1 t).2.2]; show (grid0.coords t 1).val * 128 + 1 * l.val = 128 * (grid0.coords t 1).val + l.val; omega

theorem blk1 (j : Fin 8192) (l : Fin 128) : iblk m c 1 t (ix3 (0 : Fin 1) j l) = KB (m ((c.tc : Thread nD τ).loc main_arg1)) (ix3 (gb t) j (wide (gp t) l)) :=
  (congrFun (src1 m c t) _).trans (read1 t _ j l)

theorem read2 (A : FVec Ideal S4x8192x1024 .bf16) (j : Fin 8192) (l : Fin 128) : ((cfg0.win 2).blk t).view.read (Elt Ideal) A (ix3 (0 : Fin 1) j l) = A (ix3 (gb t) j (wide (gp t) l)) := by
  rw [View.read_apply]
  show A _ = A _
  congr 1; funext a; apply Fin.ext
  match a with
  | ⟨0, _⟩ => show win0_2.index t 0 * 1 + 1 * 0 = _; rw [(at2 t).1]; show (grid0.coords t 0).val * 1 + 1 * 0 = (grid0.coords t 0).val; omega
  | ⟨1, _⟩ => show win0_2.index t 1 * 8192 + 1 * j.val = j.val; rw [(at2 t).2.1]; omega
  | ⟨2, _⟩ => show win0_2.index t 2 * 128 + 1 * l.val = _; rw [(at2 t).2.2]; show (grid0.coords t 1).val * 128 + 1 * l.val = 128 * (grid0.coords t 1).val + l.val; omega

theorem blk2 (j : Fin 8192) (l : Fin 128) : iblk m c 2 t (ix3 (0 : Fin 1) j l) = KX (m ((c.tc : Thread nD τ).loc main_arg3)) (ix3 (gb t) j (wide (gp t) l)) :=
  (congrFun (src2 m c t) _).trans (read2 t _ j l)

theorem read3 (A : FVec Ideal S4x1024x8192 .bf16) (l : Fin 128) (j : Fin 8192) : ((cfg0.win 3).blk t).view.read (Elt Ideal) A (ix3 (0 : Fin 1) l j) = A (ix3 (gb t) (wide (gp t) l) j) := by
  rw [View.read_apply]
  show A _ = A _
  congr 1; funext a; apply Fin.ext
  match a with
  | ⟨0, _⟩ => show win0_3.index t 0 * 1 + 1 * 0 = _; rw [(at3 t).1]; show (grid0.coords t 0).val * 1 + 1 * 0 = (grid0.coords t 0).val; omega
  | ⟨1, _⟩ => show win0_3.index t 1 * 128 + 1 * l.val = _; rw [(at3 t).2.1]; show (grid0.coords t 1).val * 128 + 1 * l.val = 128 * (grid0.coords t 1).val + l.val; omega
  | ⟨2, _⟩ => show win0_3.index t 2 * 8192 + 1 * j.val = j.val; rw [(at3 t).2.2]; omega

theorem blk3 (l : Fin 128) (j : Fin 8192) : iblk m c 3 t (ix3 (0 : Fin 1) l j) = VT (m ((c.tc : Thread nD τ).loc main_arg2)) (ix3 (gb t) (wide (gp t) l) j) :=
  (congrFun (src3 m c t) _).trans (read3 t _ l j)

theorem read4 (A : FVec Ideal S4x8x2x8192 .f32) (a : Fin 2) (i : Fin 1024) : ((cfg0.win 4).blk t).view.read (Elt Ideal) A (ix4 (0 : Fin 1) (0 : Fin 1) a i) = A (ix4 (gb t) (gp t) a (deep (gi t) i)) := by
  rw [View.read_apply]
  show A _ = A _
  congr 1; funext z; apply Fin.ext
  match z with
  | ⟨0, _⟩ => show win0_4.index t 0 * 1 + 1 * 0 = _; rw [(at4 t).1]; show (grid0.coords t 0).val * 1 + 1 * 0 = (grid0.coords t 0).val; omega
  | ⟨1, _⟩ => show win0_4.index t 1 * 1 + 1 * 0 = _; rw [(at4 t).2.1]; show (grid0.coords t 1).val * 1 + 1 * 0 = (grid0.coords t 1).val; omega
  | ⟨2, _⟩ => show win0_4.index t 2 * 2 + 1 * a.val = a.val; rw [(at4 t).2.2.1]; omega
  | ⟨3, _⟩ => show win0_4.index t 3 * 1024 + 1 * i.val = _; rw [(at4 t).2.2.2]; show (grid0.coords t 2).val * 1024 + 1 * i.val = 1024 * (grid0.coords t 2).val + i.val; omega

theorem blk4 (a : Fin 2) (i : Fin 1024) : iblk m c 4 t (ix4 (0 : Fin 1) (0 : Fin 1) a i) = CQ (m ((c.tc : Thread nD τ).loc main_arg3)) (ix4 (gb t) (gp t) a (deep (gi t) i)) :=
  (congrFun (src4 m c t) _).trans (read4 t _ a i)

end Blocks

end Cert.KernelIdeal.Att

end
-- ==== Proof.Ref.lean ====
module
public import proofs.«01_k».proof.Proof.Softmax
public import proofs.«01_k».proof.Proof.Gen.ReferenceIdeal.Run
public import Idealize.ShloMosaic.Lib.ValueLayout
public import Idealize.ShloMosaic.Lib.MatmulPlain
public import Idealize.ShloMosaic.Lib.Pointwise.Contract
public import Idealize.ShloMosaic.Lib.Pointwise.Reduce
public import Idealize.ShloMosaic.Lib.Pipeline.Value
public import Idealize.ShloMosaic.Lib.WordCmp
public import Idealize.ShloMosaic.Lib.IdealHost
@[expose] public section

/-! # The reference's result at an index

The masked logits of a query, their greatest, and the values averaged with the softmax of the logits. -/

set_option maxRecDepth 16384

noncomputable section

namespace Cert.ReferenceIdeal.Att

open Cert.ReferenceIdeal Cert.ReferenceIdeal.Gen
open Idealize.ShloMosaic hiding ix1 ix2 ix3 ix4 ix5
open Idealize.ShloMosaic.ValueIdx
open Cert.Softmax

/-- Queries, keys or values. -/
abbrev A4 := FVec Ideal S4x8192x16x64 .f32
/-- Coefficients. -/
abbrev A3 := FVec Ideal S4x8192x16 .f32
/-- Logits. -/
abbrev AS := FVec Ideal S4x16x8192x8192 .f32

/-- The masked logits of every query against every key. -/
def SC (q k : A4) (c : A3) : AS :=
  select (broadcastInDim S4x16x8192x8192 ![2, 3] bcast_S8192x8192_S4x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (subf (addf (mulf (Host.dotGeneral dot_S4x8192x16x64_S4x8192x16x64_S4x16x8192x8192_3_3_1_1_02_02 none q k) (broadcastInDim S4x16x8192x8192 ![] bcast_S_S4x16x8192x8192 (constant S_ .f32 0x3E000000#32))) (broadcastInDim S4x16x8192x8192 ![0, 1, 2, 3] bcast_S4x16x8192x1_S4x16x8192x8192_0_1_2_3 (broadcastInDim S4x16x8192x1 ![0, 1, 2] bcast_S4x16x8192_S4x16x8192x1_0_1_2 (transpose S4x16x8192 [0, 2, 1] c transposes_S4x8192x16_S4x16x8192_0_2_1)))) (broadcastInDim S4x16x8192x8192 ![0, 1, 2, 3] bcast_S4x16x1x8192_S4x16x8192x8192_0_1_2_3 (broadcastInDim S4x16x1x8192 ![0, 1, 3] bcast_S4x16x8192_S4x16x1x8192_0_1_3 (transpose S4x16x8192 [0, 2, 1] c transposes_S4x8192x16_S4x16x8192_0_2_1))))
    (broadcastInDim S4x16x8192x8192 ![] bcast_S_S4x16x8192x8192 (id (constant S_ .f32 0xFF800000#32)))

/-- One number a query, spread over the keys. -/
def spr (x : FVec Ideal S4x16x8192 .f32) : AS :=
  broadcastInDim S4x16x8192x8192 ![0, 1, 2, 3] bcast_S4x16x8192x1_S4x16x8192x8192_0_1_2_3 (broadcastInDim S4x16x8192x1 ![0, 1, 2] bcast_S4x16x8192_S4x16x8192x1_0_1_2 x)

/-- One number a key, spread over the queries. -/
def sprk (x : FVec Ideal S4x16x8192 .f32) : AS :=
  broadcastInDim S4x16x8192x8192 ![0, 1, 2, 3] bcast_S4x16x1x8192_S4x16x8192x8192_0_1_2_3 (broadcastInDim S4x16x1x8192 ![0, 1, 3] bcast_S4x16x8192_S4x16x1x8192_0_1_3 x)

/-- The greatest logit of every query. -/
def MX (s : AS) : FVec Ideal S4x16x8192 .f32 :=
  maximumf (broadcastInDim S4x16x8192 ![] bcast_S_S4x16x8192 (constant S_ .f32 0xFF800000#32)) (Host.reduce FloatOps.maximumf s (constant S_ .f32 0xFF800000#32) reducesTo_S4x16x8192x8192_S4x16x8192_d3 h_S_)

/-- The exponentials, relative to the greatest. -/
def EX (s : AS) : AS := Host.exp (subf s (spr (MX s)))

/-- The exponentials divided by their sum. -/
def PR (s : AS) : AS :=
  Host.divf (EX s) (spr (Host.reduceAdd (EX s) (constant S_ .f32 0x00000000#32) reducesTo_S4x16x8192x8192_S4x16x8192_d3 h_S_))

/-- The averaged values, with the heads side by side. -/
def RES (v : A4) (s : AS) : FVec Ideal S4x8192x1024 .bf16 :=
  truncf .bf16 (shapeCast S4x8192x1024 (transpose S4x8192x16x64 [0, 3, 1, 2] (Host.dotGeneral dot_S4x8192x16x64_S4x16x8192x8192_S4x16x64x8192_1_3_3_2_02_01 none v (PR s)) transposes_S4x16x64x8192_S4x8192x16x64_0_3_1_2) shapeCasts_S4x8192x16x64_S4x8192x1024) bitsLt_bf16_f32

theorem res_eq (m : (ℓ : Loc nD τ sig) → Buf (Elt Ideal) ℓ) (c : Dev nD) :
    Value.res_main_v31 m c = RES (m ((c.tc : Thread nD τ).loc main_arg2)) (SC (m ((c.tc : Thread nD τ).loc main_arg0)) (m ((c.tc : Thread nD τ).loc main_arg1)) (m ((c.tc : Thread nD τ).loc main_arg3))) := rfl

theorem spr_apply (x : FVec Ideal S4x16x8192 .f32) (b : Fin 4) (h : Fin 16) (i j : Fin 8192) : spr x (ix4 b h i j) = x (ix3 b h i) := by
  unfold spr
  rw [broadcastInDim_apply _ _ _ (ix4 b h i j) (ix4 b h i (0 : Fin 1)) (fun a => by match a with | ⟨0, _⟩ => rfl | ⟨1, _⟩ => rfl | ⟨2, _⟩ => rfl | ⟨3, _⟩ => rfl)]
  exact broadcastInDim_apply _ _ x (ix4 b h i (0 : Fin 1)) (ix3 b h i) (fun a => by match a with | ⟨0, _⟩ => rfl | ⟨1, _⟩ => rfl | ⟨2, _⟩ => rfl)

theorem sprk_apply (x : FVec Ideal S4x16x8192 .f32) (b : Fin 4) (h : Fin 16) (i j : Fin 8192) : sprk x (ix4 b h i j) = x (ix3 b h j) := by
  unfold sprk
  rw [broadcastInDim_apply _ _ _ (ix4 b h i j) (ix4 b h (0 : Fin 1) j) (fun a => by match a with | ⟨0, _⟩ => rfl | ⟨1, _⟩ => rfl | ⟨2, _⟩ => rfl | ⟨3, _⟩ => rfl)]
  exact broadcastInDim_apply _ _ x (ix4 b h (0 : Fin 1) j) (ix3 b h j) (fun a => by match a with | ⟨0, _⟩ => rfl | ⟨1, _⟩ => rfl | ⟨2, _⟩ => rfl)

/-- Whether a query sees a key. -/
theorem sees (b : Fin 4) (h : Fin 16) (i j : Fin 8192) :
    broadcastInDim S4x16x8192x8192 ![2, 3] bcast_S8192x8192_S4x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))) (ix4 b h i j)
      = BitVec.ofBool (decide (j.val ≤ i.val)) := by
  rw [broadcastInDim_apply _ _ _ (ix4 b h i j) (ix2 i j) (fun a => by match a with | ⟨0, _⟩ => rfl | ⟨1, _⟩ => rfl)]
  show IntOp.cmpi .sle (broadcastInDim S8192x8192 ![0, 1] bcast_S1x8192_S8192x8192_0_1 (broadcastInDim S1x8192 ![1] bcast_S8192_S1x8192_1 (iotaInDim S8192 32 0)) (ix2 i j)) (broadcastInDim S8192x8192 ![0, 1] bcast_S8192x1_S8192x8192_0_1 (broadcastInDim S8192x1 ![0] bcast_S8192_S8192x1_0 (iotaInDim S8192 32 0)) (ix2 i j)) = _
  rw [broadcastInDim_apply _ bcast_S1x8192_S8192x8192_0_1 _ (ix2 i j) (ix2 (0 : Fin 1) j) (fun a => by match a with | ⟨0, _⟩ => rfl | ⟨1, _⟩ => rfl),
    broadcastInDim_apply _ bcast_S8192_S1x8192_1 _ (ix2 (0 : Fin 1) j) (ix1 j) (fun a => by match a with | ⟨0, _⟩ => rfl),
    broadcastInDim_apply _ bcast_S8192x1_S8192x8192_0_1 _ (ix2 i j) (ix2 i (0 : Fin 1)) (fun a => by match a with | ⟨0, _⟩ => rfl | ⟨1, _⟩ => rfl),
    broadcastInDim_apply _ bcast_S8192_S8192x1_0 _ (ix2 i (0 : Fin 1)) (ix1 i) (fun a => by match a with | ⟨0, _⟩ => rfl)]
  show IntOp.cmpi .sle (BitVec.ofNat 32 j.val) (BitVec.ofNat 32 i.val) = _
  have hi := i.isLt
  have hj := j.isLt
  rw [WordCmp.cmpi_sle_ofNat (by omega) (by omega)]

/-- A query's product with a key over a head's 64 lanes. -/
theorem qk_apply (q k : A4) (b : Fin 4) (h : Fin 16) (i j : Fin 8192) :
    Host.dotGeneral dot_S4x8192x16x64_S4x8192x16x64_S4x16x8192x8192_3_3_1_1_02_02 none q k (ix4 b h i j)
      = ∑ d : Fin 64, q (ix4 b i h d) * k (ix4 b j h d) := by
  refine (Ideal.dotGeneral_apply dot_S4x8192x16x64_S4x8192x16x64_S4x16x8192x8192_3_3_1_1_02_02 none _ q k (ix4 b h i j)).trans ?_
  rw [DotDims.sum_contr₁ dot_S4x8192x16x64_S4x8192x16x64_S4x16x8192x8192_3_3_1_1_02_02 (a := 3) rfl (K := 64) rfl]
  refine Finset.sum_congr rfl fun d _ => congrArg₂ (· * ·) (congrArg q ?_) (congrArg k ?_)
  · funext a; apply Fin.ext
    match a with | ⟨0, _⟩ => rfl | ⟨1, _⟩ => rfl | ⟨2, _⟩ => rfl | ⟨3, _⟩ => rfl
  · funext a; apply Fin.ext
    match a with | ⟨0, _⟩ => rfl | ⟨1, _⟩ => rfl | ⟨2, _⟩ => rfl | ⟨3, _⟩ => rfl

/-- The weighted sum of the values. -/
theorem pv_apply (v : A4) (p : AS) (b : Fin 4) (h : Fin 16) (d : Fin 64) (i : Fin 8192) :
    Host.dotGeneral dot_S4x8192x16x64_S4x16x8192x8192_S4x16x64x8192_1_3_3_2_02_01 none v p (ix4 b h d i)
      = ∑ j : Fin 8192, v (ix4 b j h d) * p (ix4 b h i j) := by
  refine (Ideal.dotGeneral_apply dot_S4x8192x16x64_S4x16x8192x8192_S4x16x64x8192_1_3_3_2_02_01 none _ v p (ix4 b h d i)).trans ?_
  rw [DotDims.sum_contr₁ dot_S4x8192x16x64_S4x16x8192x8192_S4x16x64x8192_1_3_3_2_02_01 (a := 1) rfl (K := 8192) rfl]
  refine Finset.sum_congr rfl fun j _ => congrArg₂ (· * ·) (congrArg v ?_) (congrArg p ?_)
  · funext a; apply Fin.ext
    match a with | ⟨0, _⟩ => rfl | ⟨1, _⟩ => rfl | ⟨2, _⟩ => rfl | ⟨3, _⟩ => rfl
  · funext a; apply Fin.ext
    match a with | ⟨0, _⟩ => rfl | ⟨1, _⟩ => rfl | ⟨2, _⟩ => rfl | ⟨3, _⟩ => rfl

/-- The key numbered `j`. -/
abbrev key (j : ℕ) : Fin 8192 := ⟨j % 8192, Nat.mod_lt _ (by decide)⟩

/-- The masked logits of query `i` of head `h`. -/
def tsc (q k : A4) (c : A3) (b : Fin 4) (h : Fin 16) (i : Fin 8192) (j : ℕ) : EReal :=
  if j ≤ i.val then (∑ d : Fin 64, q (ix4 b i h d) * k (ix4 b (key j) h d)) * Ideal.ofBits .f32 0x3E000000#32 + c (ix3 b i h) - c (ix3 b (key j) h) else ⊥

theorem coef_apply (c : A3) (b : Fin 4) (h : Fin 16) (i : Fin 8192) :
    transpose S4x16x8192 [0, 2, 1] c transposes_S4x8192x16_S4x16x8192_0_2_1 (ix3 b h i) = c (ix3 b i h) :=
  transpose_apply _ _ _ _ _ (fun a => by match a with | ⟨0, _⟩ => rfl | ⟨1, _⟩ => rfl | ⟨2, _⟩ => rfl)

theorem ofBits_minf : Ideal.ofBits .f32 0xFF800000#32 = ⊥ := by simp [Ideal.ofBits, Ideal.ieee]

theorem SC_apply (q k : A4) (c : A3) (b : Fin 4) (h : Fin 16) (i j : Fin 8192) : SC q k c (ix4 b h i j) = tsc q k c b h i j.val := by
  unfold SC
  show Scalar.select (broadcastInDim S4x16x8192x8192 (s := S8192x8192) ![2, 3] _ _ (ix4 b h i j)) ((Host.dotGeneral _ none q k (ix4 b h i j) * _) + spr _ (ix4 b h i j) - sprk _ (ix4 b h i j)) _ = _
  rw [sees, qk_apply, spr_apply, sprk_apply, coef_apply, coef_apply]
  have hk : key j.val = j := Fin.ext (Nat.mod_eq_of_lt j.isLt)
  unfold tsc
  rw [hk]
  by_cases hji : j.val ≤ i.val
  · rw [if_pos hji, decide_eq_true hji]; rfl
  · rw [if_neg hji, decide_eq_false hji]; exact ofBits_minf

/-- The greatest entry along the last axis, at any sizes. -/
theorem max_last {n0 n1 n2 n3 : ℕ} (hr : (⟨4, ![n0, n1, n2, n3]⟩ : Shape).ReducesTo [3] ⟨3, ![n0, n1, n2]⟩) (hu : 0 < S_.numel)
    (s : FVec Ideal ⟨4, ![n0, n1, n2, n3]⟩ .f32) (t : ℕ → EReal) (b : Fin n0) (h : Fin n1) (i : Fin n2) (hs : ∀ j : Fin n3, s (ix4 b h i j) = t j.val) :
    Host.reduce (FloatOps.maximumf (F := Ideal) (φ := .f32)) s (constant (F := Ideal) S_ .f32 0xFF800000#32) hr hu (ix3 b h i) = top t n3 := by
  rw [Host.reduce_eq_fold, Shape.ReducesTo.fold_fiber_r4_a3]
  rw [show (constant S_ .f32 0xFF800000#32 : FVec Ideal S_ .f32) (Shape.Idx.first hu) = (⊥ : EReal) from ofBits_minf]
  show ((Finset.univ : Finset (Fin n3)).sup fun k => s (ix4 b h i k)) = _
  unfold top
  apply le_antisymm
  · exact Finset.sup_le fun j _ => by rw [hs j]; exact Finset.le_sup (f := t) (Finset.mem_range.mpr j.isLt)
  · exact Finset.sup_le fun j hj => by
      have := Finset.le_sup (f := fun k : Fin n3 => s (ix4 b h i k)) (Finset.mem_univ (⟨j, Finset.mem_range.mp hj⟩ : Fin n3))
      exact (hs ⟨j, Finset.mem_range.mp hj⟩) ▸ this

/-- The sum along the last axis, at any sizes. -/
theorem sum_last {n0 n1 n2 n3 : ℕ} (hr : (⟨4, ![n0, n1, n2, n3]⟩ : Shape).ReducesTo [3] ⟨3, ![n0, n1, n2]⟩) (hu : 0 < S_.numel)
    (s : FVec Ideal ⟨4, ![n0, n1, n2, n3]⟩ .f32) (t : ℕ → EReal) (b : Fin n0) (h : Fin n1) (i : Fin n2) (hs : ∀ j : Fin n3, s (ix4 b h i j) = t j.val) :
    Host.reduceAdd s (constant (F := Ideal) S_ .f32 0x00000000#32) hr hu (ix3 b h i) = ∑ j ∈ Finset.range n3, t j := by
  show Ideal.hostReduceAdd hr s (Ideal.ofBits .f32 0x00000000#32) (ix3 b h i) = _
  rw [Ideal.hostReduceAdd_r4_a3, Ideal.ofBits_zero_f32, zero_add, Finset.sum_range]
  exact Finset.sum_congr rfl fun k _ => hs k

theorem maximumf_at {S : Shape} (x y : FVec Ideal S .f32) (i : S.Idx) : maximumf x y i = max (x i) (y i) := rfl

theorem truncf_at {S : Shape} (x : FVec Ideal S .f32) (i : S.Idx) : truncf .bf16 x bitsLt_bf16_f32 i = x i := rfl

theorem MX_apply (s : AS) (t : ℕ → EReal) (b : Fin 4) (h : Fin 16) (i : Fin 8192) (hs : ∀ j : Fin 8192, s (ix4 b h i j) = t j.val) :
    MX s (ix3 b h i) = top t 8192 := by
  unfold MX
  rw [maximumf_at, broadcastInDim_scalar_apply, max_last reducesTo_S4x16x8192x8192_S4x16x8192_d3 h_S_ s t b h i hs]
  exact (congrArg (max · (top t 8192)) ofBits_minf).trans (max_eq_right bot_le)

theorem EX_apply (s : AS) (t : ℕ → EReal) (b : Fin 4) (h : Fin 16) (i : Fin 8192) (hs : ∀ j : Fin 8192, s (ix4 b h i j) = t j.val) (j : Fin 8192) :
    EX s (ix4 b h i j) = Ideal.exp (t j.val - top t 8192) := by
  unfold EX
  show Ideal.exp (s (ix4 b h i j) - spr (MX s) (ix4 b h i j)) = _
  rw [spr_apply, MX_apply s t b h i hs, hs]

theorem PR_apply (s : AS) (t : ℕ → EReal) (b : Fin 4) (h : Fin 16) (i : Fin 8192) (hs : ∀ j : Fin 8192, s (ix4 b h i j) = t j.val) (j : Fin 8192) :
    PR s (ix4 b h i j) = Ideal.div (Ideal.exp (t j.val - top t 8192)) (∑ k ∈ Finset.range 8192, Ideal.exp (t k - top t 8192)) := by
  unfold PR
  show Ideal.div (EX s (ix4 b h i j)) (spr _ (ix4 b h i j)) = _
  rw [spr_apply, EX_apply s t b h i hs]
  refine congrArg _ ?_
  exact sum_last reducesTo_S4x16x8192x8192_S4x16x8192_d3 h_S_ (EX s) _ b h i (EX_apply s t b h i hs)

/-- THE REFERENCE AT AN INDEX. The values of head `h`, averaged with the softmax of the masked logits of query `i`. -/
theorem RES_apply (v q k : A4) (c : A3) (b : Fin 4) (h : Fin 16) (i : Fin 8192) (d : Fin 64) (e : Fin 1024) (he : e.val = 64 * h.val + d.val) :
    RES v (SC q k c) (ix3 b i e) = ∑ j ∈ Finset.range 8192, v (ix4 b (key j) h d)
      * Ideal.div (Ideal.exp (tsc q k c b h i j - top (tsc q k c b h i) 8192)) (∑ j' ∈ Finset.range 8192, Ideal.exp (tsc q k c b h i j' - top (tsc q k c b h i) 8192)) := by
  unfold RES
  rw [truncf_at]
  refine (shapeCast_apply _ shapeCasts_S4x8192x16x64_S4x8192x1024 (ix3 b i e) (ix4 b i h d) (by
    rw [Shape.rowMajor_val_four, Shape.rowMajor_val_three]
    show ((b.val * 8192 + i.val) * 16 + h.val) * 64 + d.val = (b.val * 8192 + i.val) * 1024 + e.val
    omega)).trans ?_
  refine (transpose_apply _ _ transposes_S4x16x64x8192_S4x8192x16x64_0_3_1_2 (ix4 b i h d) (ix4 b h d i) (fun a => by match a with | ⟨0, _⟩ => rfl | ⟨1, _⟩ => rfl | ⟨2, _⟩ => rfl | ⟨3, _⟩ => rfl)).trans ?_
  rw [pv_apply, Finset.sum_range]
  refine Finset.sum_congr rfl fun j _ => ?_
  rw [PR_apply _ _ b h i (SC_apply q k c b h i) j, show key j.val = j from Fin.ext (Nat.mod_eq_of_lt j.isLt)]

end Cert.ReferenceIdeal.Att

end
-- ==== Proof.Head.lean ====
module
public import proofs.«01_k».proof.Proof.Place
public import proofs.«01_k».proof.Proof.Ref
@[expose] public section

/-! # One head of one grid point: the block stored holds the reference's entries -/

set_option maxRecDepth 16384

noncomputable section

namespace Cert.KernelIdeal.Att

open Cert.KernelIdeal Cert.KernelIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Softmax

/-! ## One head of one grid point -/

section Point
variable (q k v : A4) (cf : A3) (qr kr : S4x8192x16x64.Idx → ℝ) (cr : S4x8192x16.Idx → ℝ)
  (hq : ∀ i, q i = (qr i : EReal)) (hk : ∀ i, k i = (kr i : EReal)) (hc : ∀ i, cf i = (cr i : EReal))

/-- The logit of query `Q` of head `h` against key `j`, as a real number. -/
def logit (qr kr : S4x8192x16x64.Idx → ℝ) (cr : S4x8192x16.Idx → ℝ) (b : Fin 4) (h : Fin 16) (Q : Fin 8192) (j : ℕ) : ℝ :=
  (∑ d : Fin 64, qr (ix4 b Q h d) * kr (ix4 b (key j) h d)) * (1 / 8) + cr (ix3 b Q h) - cr (ix3 b (key j) h)

include hq hk hc in
theorem tsc_real (b : Fin 4) (h : Fin 16) (n : Fin 8) (i : Fin 1024) :
    Cert.ReferenceIdeal.Att.tsc q k cf b h (deep n i) = tmask (logit qr kr cr b h (deep n i)) n.val i := by
  funext j
  unfold Cert.ReferenceIdeal.Att.tsc tmask
  show (if j ≤ 1024 * n.val + i.val then _ else _) = _
  split
  · rw [ofBits_eighth, hc, hc]
    rw [show (∑ d : Fin 64, q (ix4 b (deep n i) h d) * k (ix4 b (Cert.ReferenceIdeal.Att.key j) h d)) = ((∑ d : Fin 64, qr (ix4 b (deep n i) h d) * kr (ix4 b (key j) h d) : ℝ) : EReal) from by
      rw [coe_sum]; exact Finset.sum_congr rfl fun d _ => by rw [hq, hk, EReal.coe_mul]]
    rw [← EReal.coe_mul, ← EReal.coe_add, ← EReal.coe_sub]
    rfl
  · rfl

variable (x0 : Vec Ideal S1x128x1024 .bf16) (x1 x2 : Vec Ideal S1x8192x128 .bf16) (x3 : Vec Ideal S1x128x8192 .bf16) (x4 : Vec Ideal S1x1x2x1024 .f32)
  (b : Fin 4) (p n : Fin 8)
  (h0 : ∀ l i, x0 (ix3 0 l i) = QT q (ix3 b (wide p l) (deep n i)))
  (h1 : ∀ j l, x1 (ix3 0 j l) = KB k (ix3 b j (wide p l)))
  (h2 : ∀ j l, x2 (ix3 0 j l) = KX cf (ix3 b j (wide p l)))
  (h3 : ∀ l j, x3 (ix3 0 l j) = VT v (ix3 b (wide p l) j))
  (h4 : ∀ a i, x4 (ix4 0 0 a i) = CQ cf (ix4 b p a (deep n i)))

include hq hk hc h0 h1 h2 h4 in
/-- The scores of one head, in base two: the logits times the base-two logarithm of e. -/
theorem raw_logit (a : Fin 2) (h : Fin 16) (hh : h.val = 2 * p.val + a.val) (Q : FVec Ideal S256x1024 .bf16) (hQ : ∀ l i, Q (ix2 l i) = qent a x0 x4 i l)
    (i : Fin 1024) (j : ℕ) : raw Q x1 x2 i j = (L2E : EReal) * ((logit qr kr cr b h (deep n i) j : ℝ) : EReal) := by
  have ha := a.isLt
  have hp := p.isLt
  have hw : ∀ d : Fin 64, (wide p ⟨64 * a.val + d.val, by omega⟩).val = 64 * h.val + d.val := fun d => by show 128 * p.val + (64 * a.val + d.val) = _; omega
  rw [raw_eq a Q x0 x4 hQ x1 x2 i j (cr (ix3 b (deep n i) h) * L2E) (by rw [h4, CQ_apply cf b p a _ h hh, hc, EReal.coe_mul]) (ycoef cr b (key j) p)
    (fun s => by rw [h2]; exact KX_apply cf cr hc b (key j) p s _ rfl)]
  rw [show (∑ d : Fin 64, x1 (ix3 0 ⟨j % 8192, Nat.mod_lt _ (by decide)⟩ ⟨64 * a.val + d.val, by omega⟩) * x0 (ix3 0 ⟨64 * a.val + d.val, by omega⟩ i))
      = ((∑ d : Fin 64, kr (ix4 b (key j) h d) * (qr (ix4 b (deep n i) h d) * ((1 / 8) * L2E)) : ℝ) : EReal) from by
    rw [coe_sum]
    refine Finset.sum_congr rfl fun d _ => ?_
    rw [h0, h1, QT_apply q b _ h d _ (hw d), KB_apply k b _ h d _ (hw d), hq, hk, ← EReal.coe_mul, ← EReal.coe_mul, ← EReal.coe_mul]]
  rw [← EReal.coe_sub, ← EReal.coe_add, ← EReal.coe_mul]
  congr 1
  have hy : ycoef cr b (key j) p a.val = cr (ix3 b (key j) h) * L2E := by
    unfold ycoef
    rw [show (⟨(2 * p.val + a.val) % 16, Nat.mod_lt _ (by decide)⟩ : Fin 16) = h from Fin.ext (by show (2 * p.val + a.val) % 16 = h.val; omega)]
  rw [hy]
  unfold logit
  rw [mul_sub, mul_add, mul_comm L2E (cr (ix3 b (deep n i) h)), mul_comm L2E (cr (ix3 b (key j) h)), Finset.sum_mul, Finset.mul_sum, add_sub_assoc]
  congr 1
  exact Finset.sum_congr rfl fun d _ => by ring

include hq hk hc h0 h1 h2 h3 h4 in
/-- The block a grid point stores holds the reference's entries. -/
theorem OUT_ref (i : Fin 1024) (e : Fin 128) :
    OUT (QA0 x0 x4) (QA1 x0 x4) x1 x2 x3 n.val (ix3 0 i e)
      = Cert.ReferenceIdeal.Att.RES v (Cert.ReferenceIdeal.Att.SC q k cf) (ix3 b (deep n i) (wide p e)) := by
  have hp := p.isLt
  have he := e.isLt
  rw [OUT_eq]
  have key2 : ∀ (a : Fin 2) (Q : FVec Ideal S256x1024 .bf16) (vr : ℕ → FVec Ideal S1x64x256 .bf16)
      (hV : ∀ j e k, vones shapeCasts_S1x64x256_S64x256 (vr j) (ix2 e k) = vent a x3 e (256 * j + k.val))
      (hQ : ∀ l i, Q (ix2 l i) = qent a x0 x4 i l) (d : Fin 64) (hd : e.val = 64 * a.val + d.val),
      quot (E3 Q x1 x2 vr n.val).2 (ix2 d i) = Cert.ReferenceIdeal.Att.RES v (Cert.ReferenceIdeal.Att.SC q k cf) (ix3 b (deep n i) (wide p e)) := fun a Q vr hV hQ d hd => by
    have ha := a.isLt
    have hh : (⟨2 * p.val + a.val, by omega⟩ : Fin 16).val = 2 * p.val + a.val := rfl
    rw [head_value Q x1 x2 vr a x3 hV n.val n.isLt i (logit qr kr cr b ⟨2 * p.val + a.val, by omega⟩ (deep n i))
      (raw_logit q k cf qr kr cr hq hk hc x0 x1 x2 x4 b p n h0 h1 h2 h4 a _ hh Q hQ i) d]
    rw [Cert.ReferenceIdeal.Att.RES_apply v q k cf b ⟨2 * p.val + a.val, by omega⟩ (deep n i) d (wide p e) (by show 128 * p.val + e.val = 64 * (2 * p.val + a.val) + d.val; omega)]
    rw [tsc_real q k cf qr kr cr hq hk hc]
    refine Finset.sum_congr rfl fun j _ => congrArg (fun x : EReal => x * _) ?_
    rw [h3]
    exact VT_apply v b (key j) ⟨2 * p.val + a.val, by omega⟩ d _ (by show 128 * p.val + (64 * a.val + d.val) = 64 * (2 * p.val + a.val) + d.val; omega)
  by_cases h : e.val < 64
  · rw [lay_left _ _ i ⟨e.val, h⟩ e rfl]
    exact key2 0 (QA0 x0 x4) (vrow0 x3) (vrow0_ent x3) (QA0_apply x0 x4) ⟨e.val, h⟩ (by show e.val = 64 * 0 + e.val; omega)
  · rw [lay_right _ _ i ⟨e.val - 64, by omega⟩ e (by show e.val = 64 + (e.val - 64); omega)]
    exact key2 1 (QA1 x0 x4) (vrow1 x3) (vrow1_ent x3) (QA1_apply x0 x4) ⟨e.val - 64, by omega⟩ (by show e.val = 64 * 1 + (e.val - 64); omega)

end Point

end Cert.KernelIdeal.Att

end
-- ==== Proof.Result.lean ====
module
public import proofs.«01_k».proof.Proof.Head
@[expose] public section

/-! # The attention kernel's result array is the reference's

Every block a grid point writes back holds the reference's entries, and the blocks cover the array. -/

set_option maxRecDepth 16384

noncomputable section

namespace Cert.KernelIdeal.Att

open Cert.KernelIdeal Cert.KernelIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Softmax

/-! ## The whole array -/

section Array
variable (m : (ℓ : Loc nD τ sig) → Buf (Elt Ideal) ℓ) (c : Dev nD)

/-- The reference's array, from the kernel's arguments. -/
def goal : FVec Ideal S4x8192x1024 .bf16 :=
  Cert.ReferenceIdeal.Att.RES (m ((c.tc : Thread nD τ).loc main_arg2))
    (Cert.ReferenceIdeal.Att.SC (m ((c.tc : Thread nD τ).loc main_arg0)) (m ((c.tc : Thread nD τ).loc main_arg1)) (m ((c.tc : Thread nD τ).loc main_arg3)))

variable (hq : ∀ i, (m ((c.tc : Thread nD τ).loc main_arg0) : A4) i = ((((m ((c.tc : Thread nD τ).loc main_arg0) : A4) i).toReal : ℝ) : EReal))
  (hk : ∀ i, (m ((c.tc : Thread nD τ).loc main_arg1) : A4) i = ((((m ((c.tc : Thread nD τ).loc main_arg1) : A4) i).toReal : ℝ) : EReal))
  (hc : ∀ i, (m ((c.tc : Thread nD τ).loc main_arg3) : A3) i = ((((m ((c.tc : Thread nD τ).loc main_arg3) : A3) i).toReal : ℝ) : EReal))

include hq hk hc in
theorem left_apply (t : Fin cfg0.N) (i : Fin 1024) (e : Fin 128) : left m c t (ix3 0 i e) = goal m c (ix3 (gb t) (deep (gi t) i) (wide (gp t) e)) :=
  OUT_ref _ _ _ _ _ _ _ hq hk hc _ _ _ _ _ (gb t) (gp t) (gi t) (blk0 m c t) (blk1 m c t) (blk2 m c t) (blk3 m c t) (blk4 m c t) i e

include hq hk hc in
theorem flushed_goal (t : Fin cfg0.N) : (dats m 0 c).flushed 5 t = ((cfg0.win 5).blk t).view.read (Elt Ideal) (goal m c) := by
  rw [flushed_eq]
  funext j
  rw [View.read_apply]
  show left m c t j = _
  have e : j = (ix3 (0 : Fin 1) (j 1 : Fin 1024) (j 2 : Fin 128) : S1x1024x128.Idx) := funext fun a => Fin.ext (by match a with | ⟨0, _⟩ => exact Nat.lt_one_iff.mp (j 0).isLt | ⟨1, _⟩ => rfl | ⟨2, _⟩ => rfl)
  refine ((congrArg (left m c t) e).trans (left_apply m c hq hk hc t (j 1) (j 2))).trans ?_
  show goal m c _ = goal m c _
  congr 1; funext a; apply Fin.ext
  match a with
  | ⟨0, _⟩ =>
    show (grid0.coords t 0).val = win0_5.index t 0 * 1 + 1 * (j 0).val
    have h0 : (j 0).val < 1 := (j 0).isLt
    rw [(at5 t).1]; omega
  | ⟨1, _⟩ => show 1024 * (grid0.coords t 2).val + (j 1).val = win0_5.index t 1 * 1024 + 1 * (j 1).val; rw [(at5 t).2.1]; omega
  | ⟨2, _⟩ => show 128 * (grid0.coords t 1).val + (j 2).val = win0_5.index t 2 * 128 + 1 * (j 2).val; rw [(at5 t).2.2]; omega

/-- Every batch, pair of heads and tile is some grid point's. -/
theorem some_point : ∀ (b : Fin 4) (p n : Fin 8), ∃ t : Fin 256, grid0.coords t 0 = b ∧ grid0.coords t 1 = p ∧ grid0.coords t 2 = n := by
  have h : ∀ (b : Fin 4) (p n : Fin 8), ((List.finRange 256).any fun t : Fin grid0.N => (grid0.coords t 0).val == b.val && (grid0.coords t 1).val == p.val && (grid0.coords t 2).val == n.val) = true := by decide +kernel
  intro b p n
  obtain ⟨t, -, ht⟩ := List.any_eq_true.mp (h b p n)
  rw [Bool.and_eq_true, Bool.and_eq_true, beq_iff_eq, beq_iff_eq, beq_iff_eq] at ht
  exact ⟨t, Fin.ext ht.1.1, Fin.ext ht.1.2, Fin.ext ht.2⟩

include hq hk hc in
/-- THE RESULT ARRAY is the reference's. -/
theorem array_eq : (dats m 0 c).arrAt 5 cfg0.N = goal m c :=
  (dats m 0 c).arrAt_eq_of_cover 5 (goal m c) (fun t _ => flushed_goal m c hq hk hc t) fun i => by
    obtain ⟨t, hb, hp, hn⟩ := some_point (i 0) ⟨(i 2).val / 128, by have : (i 2).val < 1024 := (i 2).isLt; omega⟩ ⟨(i 1).val / 1024, by have : (i 1).val < 8192 := (i 1).isLt; omega⟩
    refine ⟨t, flush0_5 t, ?_⟩
    show i ∈ ((View.whole main_v36).slice (win0_5.rect t)).set
    rw [View.set_slice_whole, Rect.mem_set_unit]
    intro a
    have h1 : (i 1).val < 8192 := (i 1).isLt
    have h2 : (i 2).val < 1024 := (i 2).isLt
    match a with
    | ⟨0, _⟩ =>
      show win0_5.index t 0 * 1 ≤ (i 0).val ∧ (i 0).val < win0_5.index t 0 * 1 + 1
      rw [(at5 t).1, hb]; omega
    | ⟨1, _⟩ =>
      show win0_5.index t 1 * 1024 ≤ (i 1).val ∧ (i 1).val < win0_5.index t 1 * 1024 + 1024
      rw [(at5 t).2.1, hn]; show (i 1).val / 1024 * 1024 ≤ (i 1).val ∧ (i 1).val < (i 1).val / 1024 * 1024 + 1024; omega
    | ⟨2, _⟩ =>
      show win0_5.index t 2 * 128 ≤ (i 2).val ∧ (i 2).val < win0_5.index t 2 * 128 + 128
      rw [(at5 t).2.2, hp]; show (i 2).val / 128 * 128 ≤ (i 2).val ∧ (i 2).val < (i 2).val / 128 * 128 + 128; omega

end Array

end Cert.KernelIdeal.Att

end
-- ==== Proof.Rows.lean ====
module
public import Idealize.ShloMosaic.Lib.ValueLayout
public import Idealize.ShloMosaic.Lib.ValueLayoutCasts
public import Idealize.ShloMosaic.Lib.MatmulPlain
public import Idealize.ShloMosaic.Lib.Pointwise.Contract
public import Idealize.ShloMosaic.Lib.Pointwise.Reduce
public import Idealize.ShloMosaic.Lib.Pipeline.Value
public import Idealize.ShloMosaic.Lib.IdealHost
@[expose] public section

/-! # The feed-forward half layer of one token

What the feed-forward calls and their references compute for one token, a row of 1024 numbers: the root mean
square norm, the gated pair of products, the merge of the two branches. Then the kernels' and the references' own
operations, at any sizes, as these row functions. -/

set_option maxRecDepth 16384

noncomputable section

namespace Cert.Rows

open Idealize.ShloMosaic hiding ix1 ix2 ix3 ix4 ix5
open Idealize.ShloMosaic.ValueIdx

/-- `n` rows of `d` numbers. -/
abbrev Mat (n d : ℕ) : Shape := ⟨2, ![n, d]⟩
/-- `b` sequences of `t` tokens of `d` numbers. -/
abbrev Cube (b t d : ℕ) : Shape := ⟨3, ![b, t, d]⟩
/-- One row. -/
abbrev Lin (d : ℕ) : Shape := ⟨1, ![d]⟩
/-- One number. -/
abbrev One : Shape := ⟨0, ![]⟩

/-! ## The row functions -/

section Row
variable {D H : ℕ}

/-- A product of a row with a matrix. -/
def prod (x : Fin D → EReal) (w : Fin D → Fin H → EReal) (j : Fin H) : EReal := ∑ k, x k * w k j

/-- The root mean square norm of a row of 1024, scaled by `g`. -/
def rms (x g : Fin D → EReal) (j : Fin D) : EReal :=
  x j * Ideal.rsqrt (Ideal.div (∑ k, x k * x k) (Ideal.ofBits .f32 0x44800000#32) + Ideal.ofBits .f32 0x358637BD#32) * g j

/-- Half the gated feed-forward of the row `h`, added to the row `x`. -/
def swi (x h : Fin D → EReal) (wg wu : Fin D → Fin H → EReal) (wd : Fin H → Fin D → EReal) (j : Fin D) : EReal :=
  x j + Ideal.ofBits .f32 0x3F000000#32 * ∑ f, (prod h wg f * Ideal.logistic (prod h wg f) * prod h wu f) * wd f j

/-- The feed-forward half layer. -/
def ffn (x g : Fin D → EReal) (wg wu : Fin D → Fin H → EReal) (wd : Fin H → Fin D → EReal) : Fin D → EReal :=
  swi x (rms x g) wg wu wd

/-- The two branches gated, merged, projected and added to the row `x`. -/
def merged (x cv at_ gc ga : Fin D → EReal) (wpa wo : Fin D → Fin D → EReal) (j : Fin D) : EReal :=
  x j + ∑ k, (Ideal.logistic (gc k) * cv k + Ideal.logistic (ga k) * prod at_ wpa k) * wo k j

/-- The merge, the feed-forward half layer and the last norm. -/
def finish (x cv at_ gc ga : Fin D → EReal) (wpa wo : Fin D → Fin D → EReal) (g : Fin D → EReal) (wg wu : Fin D → Fin H → EReal)
    (wd : Fin H → Fin D → EReal) (gf : Fin D → EReal) : Fin D → EReal :=
  rms (ffn (merged x cv at_ gc ga wpa wo) g wg wu wd) gf

end Row

/-! ## The kernels' operations -/

section Kernel
variable {n D H : ℕ}

theorem trunc_at {s : Shape} (x : FVec Ideal s .f32) (h : FTy.bits .bf16 < FTy.bits .f32) (i : s.Idx) : truncf .bf16 x h i = x i := rfl

/-- A kernel's product with a zero accumulator. -/
theorem k_dot {φ₁ φ₂ : FTy} (d : DotDims (Mat n D) (Mat D H) (Mat n H)) (hd : d = DotDims.plain n D H) (a : FVec Ideal (Mat n D) φ₁) (w : FVec Ideal (Mat D H) φ₂)
    (r : Fin n) (j : Fin H) : matmul d none a w (constant (Mat n H) .f32 0x00000000#32) (ix2 r j) = prod (fun k => a (ix2 r k)) (fun k f => w (ix2 k f)) j := by
  subst hd
  refine (Ideal.matmul_plain_apply none a w _ r j).trans ?_
  show Ideal.ofBits .f32 0x00000000#32 + _ = _
  rw [Ideal.ofBits_zero_f32, zero_add]
  rfl

/-- A column spread over the rows' entries. -/
theorem spread {α : Type} (v : (Mat n 1).Idx → α) (h : (Mat n 1).Broadcasts (Mat n D)) (r : Fin n) (j : Fin D) :
    broadcastTo (Mat n D) v h (ix2 r j) = v (ix2 r 0) := by
  refine broadcastTo_apply v h (ix2 r j) (ix2 r 0) fun ax => ?_
  match ax with
  | ⟨0, _⟩ =>
    show r.val = if n = 1 then 0 else r.val
    have := r.isLt
    split <;> omega
  | ⟨1, _⟩ => rfl

/-- A kernel's norm of every row. -/
theorem k_rms (x : FVec Ideal (Mat n D) .f32) (g : FVec Ideal (Mat 1 D) .f32) (hr : (Mat n D).Reduces [1] (Lin n)) (hφ : FKind.Formats .f32)
    (hacc : 0x00000000#32 = FKind.add.neutral .f32 hφ) (hc : (Lin n).ShapeCasts (Mat n 1)) (hb : (Mat n 1).Broadcasts (Mat n D))
    (hg : (Mat 1 D).Broadcasts (Mat n D)) (r : Fin n) (j : Fin D) :
    mulf (mulf x (broadcastTo (Mat n D) (rsqrt (addf (divf (shapeCast (Mat n 1) (multiReduction .add [1] (Lin n) (mulf x x) 0x00000000#32 hr hφ hacc) hc)
      (broadcast (Mat n 1) (Scalar.ofBits .f32 0x44800000#32))) (broadcast (Mat n 1) (Scalar.ofBits .f32 0x358637BD#32)))) hb)) (broadcastTo (Mat n D) g hg) (ix2 r j)
      = rms (fun k => x (ix2 r k)) (fun k => g (ix2 0 k)) j := by
  show x (ix2 r j) * broadcastTo (Mat n D) _ hb (ix2 r j) * broadcastTo (Mat n D) g hg (ix2 r j) = _
  rw [spread, broadcastTo_1b_ab_apply]
  show x (ix2 r j) * Ideal.rsqrt (Ideal.div (shapeCast (Mat n 1) _ hc (ix2 r 0)) (Ideal.ofBits .f32 0x44800000#32) + Ideal.ofBits .f32 0x358637BD#32) * g (ix2 0 j) = _
  rw [shapeCast_a_a1_apply, Ideal.multiReduction_add_single]
  unfold rms
  have e : ∀ k : Fin D, hr.lift (ix1 r) k = ix2 r k := fun k => by
    funext a; apply Fin.ext
    match a with
    | ⟨0, _⟩ => rfl
    | ⟨1, _⟩ => rfl
  have s : (∑ k : Fin ((Mat n D).size 1), mulf x x (hr.lift (ix1 r) k)) = ∑ k : Fin D, x (ix2 r k) * x (ix2 r k) :=
    Finset.sum_congr rfl fun k _ => by rw [e k]; rfl
  rw [s]

/-- A kernel's gated feed-forward of every row, halved and added. -/
theorem k_swi (x : FVec Ideal (Mat n D) .f32) (h : FVec Ideal (Mat n D) .bf16) (wg wu : FVec Ideal (Mat D H) .bf16) (wd : FVec Ideal (Mat H D) .bf16)
    (d1 : DotDims (Mat n D) (Mat D H) (Mat n H)) (d2 : DotDims (Mat n H) (Mat H D) (Mat n D)) (h1 : d1 = DotDims.plain n D H) (h2 : d2 = DotDims.plain n H D)
    (hb : FTy.bits .bf16 < FTy.bits .f32) (r : Fin n) (j : Fin D) :
    addf x (mulf (broadcast (Mat n D) (Scalar.ofBits .f32 0x3F000000#32)) (matmul d2 none (truncf .bf16 (mulf (mulf (matmul d1 none h wg (constant (Mat n H) .f32 0x00000000#32))
      (logistic (matmul d1 none h wg (constant (Mat n H) .f32 0x00000000#32)))) (matmul d1 none h wu (constant (Mat n H) .f32 0x00000000#32))) hb) wd
      (constant (Mat n D) .f32 0x00000000#32))) (ix2 r j)
      = swi (fun k => x (ix2 r k)) (fun k => h (ix2 r k)) (fun k f => wg (ix2 k f)) (fun k f => wu (ix2 k f)) (fun f k => wd (ix2 f k)) j := by
  show x (ix2 r j) + Ideal.ofBits .f32 0x3F000000#32 * matmul d2 none _ wd (constant (Mat n D) .f32 0x00000000#32) (ix2 r j) = _
  rw [k_dot d2 h2]
  unfold swi
  refine congrArg (fun s => x (ix2 r j) + Ideal.ofBits .f32 0x3F000000#32 * s) (Finset.sum_congr rfl fun f _ => congrArg (fun y => y * wd (ix2 f j)) ?_)
  show matmul d1 none h wg (constant (Mat n H) .f32 0x00000000#32) (ix2 r f) * Ideal.logistic (matmul d1 none h wg (constant (Mat n H) .f32 0x00000000#32) (ix2 r f))
    * matmul d1 none h wu (constant (Mat n H) .f32 0x00000000#32) (ix2 r f) = _
  rw [k_dot d1 h1, k_dot d1 h1]

/-- A kernel's merge of every row. The gates are given after their logistic. -/
theorem k_merged (x cv gc ga : FVec Ideal (Mat n D) .f32) (at_ : FVec Ideal (Mat n D) .bf16) (wpa wo : FVec Ideal (Mat D D) .bf16)
    (d : DotDims (Mat n D) (Mat D D) (Mat n D)) (hd : d = DotDims.plain n D D) (hb : FTy.bits .bf16 < FTy.bits .f32) (r : Fin n) (j : Fin D)
    (lc la : Fin D → EReal) (hc : ∀ k, gc (ix2 r k) = Ideal.logistic (lc k)) (ha : ∀ k, ga (ix2 r k) = Ideal.logistic (la k)) :
    addf x (matmul d none (truncf .bf16 (addf (mulf gc cv) (mulf ga (matmul d none at_ wpa (constant (Mat n D) .f32 0x00000000#32)))) hb) wo (constant (Mat n D) .f32 0x00000000#32)) (ix2 r j)
      = merged (fun k => x (ix2 r k)) (fun k => cv (ix2 r k)) (fun k => at_ (ix2 r k)) lc la (fun k f => wpa (ix2 k f)) (fun k f => wo (ix2 k f)) j := by
  show x (ix2 r j) + matmul d none _ wo (constant (Mat n D) .f32 0x00000000#32) (ix2 r j) = _
  rw [k_dot d hd]
  unfold merged
  refine congrArg (fun s => x (ix2 r j) + s) (Finset.sum_congr rfl fun k _ => congrArg (fun y => y * wo (ix2 k j)) ?_)
  show gc (ix2 r k) * cv (ix2 r k) + ga (ix2 r k) * matmul d none at_ wpa (constant (Mat n D) .f32 0x00000000#32) (ix2 r k) = _
  rw [k_dot d hd, hc, ha]

end Kernel

/-! ## The references' operations -/

section Reference
variable {b t D H : ℕ}

/-- The product of the tokens' rows with a matrix. -/
abbrev RowsDot (d : DotDims (Cube b t D) (Mat D H) (Cube b t H)) : Prop :=
  ∃ wf, d = { lhsContracting := [2], rhsContracting := [0], lhsNonContracting := [0, 1], rhsNonContracting := [1], lhsBatch := [], rhsBatch := [], wf := wf }

theorem r_dot (d : DotDims (Cube b t D) (Mat D H) (Cube b t H)) (hd : RowsDot d) (x : FVec Ideal (Cube b t D) .f32) (w : FVec Ideal (Mat D H) .f32)
    (p : Fin b) (q : Fin t) (j : Fin H) : Host.dotGeneral d none x w (ix3 p q j) = prod (fun k => x (ix3 p q k)) (fun k f => w (ix2 k f)) j := by
  obtain ⟨wf, rfl⟩ := hd
  refine (Ideal.dotGeneral_apply _ none _ x w (ix3 p q j)).trans ?_
  rw [DotDims.sum_contr₁ _ (a := 2) rfl (K := D) rfl]
  unfold prod
  refine Finset.sum_congr rfl fun k _ => congrArg₂ (· * ·) (congrArg x ?_) (congrArg w ?_)
  · funext a; apply Fin.ext
    match a with | ⟨0, _⟩ => rfl | ⟨1, _⟩ => rfl | ⟨2, _⟩ => rfl
  · funext a; apply Fin.ext
    match a with | ⟨0, _⟩ => rfl | ⟨1, _⟩ => rfl

/-- The reference's norm of every row. -/
theorem r_rms (x : FVec Ideal (Cube b t D) .f32) (g : FVec Ideal (Lin D) .f32) (hr : (Cube b t D).ReducesTo [2] ⟨2, ![b, t]⟩) (hu : 0 < One.numel)
    (h1 : (Mat b t).BroadcastsInDim (Cube b t 1) ![0, 1]) (h2 : One.BroadcastsInDim (Cube b t 1) ![]) (h3 : (Cube b t 1).BroadcastsInDim (Cube b t D) ![0, 1, 2])
    (h4 : (Lin D).BroadcastsInDim (Cube 1 1 D) ![2]) (h5 : (Cube 1 1 D).BroadcastsInDim (Cube b t D) ![0, 1, 2]) (p : Fin b) (q : Fin t) (j : Fin D) :
    mulf (mulf x (broadcastInDim (Cube b t D) ![0, 1, 2] h3 (Host.rsqrt (addf (Host.divf (broadcastInDim (Cube b t 1) ![0, 1] h1 (Host.reduceAdd (mulf x x) (constant One .f32 0x00000000#32) hr hu))
      (broadcastInDim (Cube b t 1) ![] h2 (constant One .f32 0x44800000#32))) (broadcastInDim (Cube b t 1) ![] h2 (constant One .f32 0x358637BD#32))))))
      (broadcastInDim (Cube b t D) ![0, 1, 2] h5 (broadcastInDim (Cube 1 1 D) ![2] h4 g)) (ix3 p q j)
      = rms (fun k => x (ix3 p q k)) (fun k => g (ix1 k)) j := by
  show x (ix3 p q j) * broadcastInDim (s := Cube b t 1) (Cube b t D) ![0, 1, 2] h3 _ (ix3 p q j)
    * broadcastInDim (s := Cube 1 1 D) (Cube b t D) ![0, 1, 2] h5 (broadcastInDim (s := Lin D) (Cube 1 1 D) ![2] h4 g) (ix3 p q j) = _
  rw [broadcastInDim_apply _ h3 _ (ix3 p q j) (ix3 p q (0 : Fin 1)) (fun a => by
      have hp := p.isLt
      have hq := q.isLt
      match a with
      | ⟨0, _⟩ => show p.val = if b = 1 then 0 else p.val; split <;> omega
      | ⟨1, _⟩ => show q.val = if t = 1 then 0 else q.val; split <;> omega
      | ⟨2, _⟩ => rfl),
    broadcastInDim_apply _ h5 _ (ix3 p q j) (ix3 (0 : Fin 1) (0 : Fin 1) j) (fun a => by
      have hj := j.isLt
      match a with
      | ⟨0, _⟩ => rfl
      | ⟨1, _⟩ => rfl
      | ⟨2, _⟩ => show j.val = if D = 1 then 0 else j.val; split <;> omega),
    broadcastInDim_apply _ h4 g (ix3 (0 : Fin 1) (0 : Fin 1) j) (ix1 j) (fun a => by
      have hj := j.isLt
      match a with
      | ⟨0, _⟩ => show j.val = if D = 1 then 0 else j.val; split <;> omega)]
  show x (ix3 p q j) * Ideal.rsqrt (Ideal.div (broadcastInDim (s := Mat b t) (Cube b t 1) ![0, 1] h1 _ (ix3 p q (0 : Fin 1))) (broadcastInDim (s := One) (Cube b t 1) ![] h2 (constant (F := Ideal) One .f32 0x44800000#32) (ix3 p q (0 : Fin 1)))
    + broadcastInDim (s := One) (Cube b t 1) ![] h2 (constant (F := Ideal) One .f32 0x358637BD#32) (ix3 p q (0 : Fin 1))) * g (ix1 j) = _
  rw [broadcastInDim_apply _ h1 _ (ix3 p q (0 : Fin 1)) (ix2 p q) (fun a => by
      have hp := p.isLt
      have hq := q.isLt
      match a with
      | ⟨0, _⟩ => show p.val = if b = 1 then 0 else p.val; split <;> omega
      | ⟨1, _⟩ => show q.val = if t = 1 then 0 else q.val; split <;> omega)]
  have s : Host.reduceAdd (mulf x x) (constant One .f32 0x00000000#32) hr hu (ix2 p q) = ∑ k : Fin D, x (ix3 p q k) * x (ix3 p q k) := by
    refine (Ideal.hostReduceAdd_r3_a2 hr (mulf x x) _ (ix2 p q)).trans ?_
    show Ideal.ofBits .f32 0x00000000#32 + _ = _
    rw [Ideal.ofBits_zero_f32, zero_add]
    rfl
  rw [s]
  rfl

/-- The host's logistic, as it spells it. -/
theorem r_logistic {s : Shape} (h : One.BroadcastsInDim s ![]) (x : FVec Ideal s .f32) (i : s.Idx) :
    Host.divf (broadcastInDim s ![] h (constant One .f32 0x3F800000#32)) (addf (broadcastInDim s ![] h (constant One .f32 0x3F800000#32)) (Host.exp (Host.negf x))) i = Ideal.logistic (x i) := by
  show Ideal.div (Ideal.ofBits .f32 0x3F800000#32) (Ideal.ofBits .f32 0x3F800000#32 + Ideal.exp (-(x i))) = _
  rw [Ideal.ofBits_one_f32]
  rfl

/-- The reference's gated feed-forward of every row, halved and added. -/
theorem r_swi (x h : FVec Ideal (Cube b t D) .f32) (wg wu : FVec Ideal (Mat D H) .f32) (wd : FVec Ideal (Mat H D) .f32)
    (d1 : DotDims (Cube b t D) (Mat D H) (Cube b t H)) (d2 : DotDims (Cube b t H) (Mat H D) (Cube b t D)) (h1 : RowsDot d1) (h2 : RowsDot d2)
    (hs : One.BroadcastsInDim (Cube b t D) ![]) (hl : One.BroadcastsInDim (Cube b t H) ![]) (p : Fin b) (q : Fin t) (j : Fin D) :
    addf x (mulf (broadcastInDim (Cube b t D) ![] hs (constant One .f32 0x3F000000#32)) (Host.dotGeneral d2 none (mulf (mulf (Host.dotGeneral d1 none h wg)
      (Host.divf (broadcastInDim (Cube b t H) ![] hl (constant One .f32 0x3F800000#32)) (addf (broadcastInDim (Cube b t H) ![] hl (constant One .f32 0x3F800000#32))
        (Host.exp (Host.negf (Host.dotGeneral d1 none h wg)))))) (Host.dotGeneral d1 none h wu)) wd)) (ix3 p q j)
      = swi (fun k => x (ix3 p q k)) (fun k => h (ix3 p q k)) (fun k f => wg (ix2 k f)) (fun k f => wu (ix2 k f)) (fun f k => wd (ix2 f k)) j := by
  show x (ix3 p q j) + Ideal.ofBits .f32 0x3F000000#32 * Host.dotGeneral d2 none _ wd (ix3 p q j) = _
  rw [r_dot d2 h2]
  unfold swi
  refine congrArg (fun s => x (ix3 p q j) + Ideal.ofBits .f32 0x3F000000#32 * s) (Finset.sum_congr rfl fun f _ => congrArg (fun y => y * wd (ix2 f j)) ?_)
  show Host.dotGeneral d1 none h wg (ix3 p q f) * Host.divf _ _ (ix3 p q f) * Host.dotGeneral d1 none h wu (ix3 p q f) = _
  rw [r_logistic, r_dot d1 h1, r_dot d1 h1]

/-- The reference's merge of every row. -/
theorem r_merged (x cv at_ gc ga : FVec Ideal (Cube b t D) .f32) (wpa wo : FVec Ideal (Mat D D) .f32) (d : DotDims (Cube b t D) (Mat D D) (Cube b t D)) (hd : RowsDot d)
    (hs : One.BroadcastsInDim (Cube b t D) ![]) (p : Fin b) (q : Fin t) (j : Fin D) :
    addf x (Host.dotGeneral d none (addf
        (mulf (Host.divf (broadcastInDim (Cube b t D) ![] hs (constant One .f32 0x3F800000#32)) (addf (broadcastInDim (Cube b t D) ![] hs (constant One .f32 0x3F800000#32)) (Host.exp (Host.negf gc)))) cv)
        (mulf (Host.divf (broadcastInDim (Cube b t D) ![] hs (constant One .f32 0x3F800000#32)) (addf (broadcastInDim (Cube b t D) ![] hs (constant One .f32 0x3F800000#32)) (Host.exp (Host.negf ga))))
          (Host.dotGeneral d none at_ wpa))) wo) (ix3 p q j)
      = merged (fun k => x (ix3 p q k)) (fun k => cv (ix3 p q k)) (fun k => at_ (ix3 p q k)) (fun k => gc (ix3 p q k)) (fun k => ga (ix3 p q k))
          (fun k f => wpa (ix2 k f)) (fun k f => wo (ix2 k f)) j := by
  show x (ix3 p q j) + Host.dotGeneral d none _ wo (ix3 p q j) = _
  rw [r_dot d hd]
  unfold merged
  refine congrArg (fun s => x (ix3 p q j) + s) (Finset.sum_congr rfl fun k _ => congrArg (fun y => y * wo (ix2 k j)) ?_)
  show Host.divf _ _ (ix3 p q k) * cv (ix3 p q k) + Host.divf _ _ (ix3 p q k) * Host.dotGeneral d none at_ wpa (ix3 p q k) = _
  rw [r_logistic, r_logistic, r_dot d hd]

end Reference

/-! ## Tokens in one axis -/

/-- A token's row, with the sequences one after another. -/
theorem flat {α : Type} {b t D N : ℕ} (hN : N = b * t) (x : (Cube b t D).Idx → α) (h : (Cube b t D).ShapeCasts (Mat N D)) (r : Fin N) (p : Fin b) (q : Fin t)
    (e : r.val = p.val * t + q.val) (j : Fin D) : shapeCast (Mat N D) x h (ix2 r j) = x (ix3 p q j) :=
  shapeCast_apply x h (ix2 r j) (ix3 p q j) (by
    rw [Shape.rowMajor_val_three, Shape.rowMajor_val_two]
    show (p.val * t + q.val) * D + j.val = r.val * D + j.val
    rw [e])

/-- A row of scales as a matrix of one row. -/
theorem lift1 {α : Type} {D : ℕ} (x : (Lin D).Idx → α) (h : (Lin D).ShapeCasts (Mat 1 D)) (j : Fin D) : shapeCast (Mat 1 D) x h (ix2 0 j) = x (ix1 j) :=
  shapeCast_apply x h (ix2 0 j) (ix1 j) (by
    rw [Shape.rowMajor_val_one, Shape.rowMajor_val_two]
    show j.val = 0 * D + j.val
    omega)

section Array
variable {b t D H N : ℕ}

/-- Row `r` of the tokens, with the sequences one after another. -/
def tok (hN : N = b * t) (x : (Cube b t D).Idx → EReal) (r : Fin N) (k : Fin D) : EReal :=
  x (ix3 ⟨r.val / t, Nat.div_lt_of_lt_mul (lt_of_lt_of_eq r.isLt (hN.trans (Nat.mul_comm b t)))⟩
    ⟨r.val % t, Nat.mod_lt _ (Nat.pos_of_ne_zero fun h0 => Nat.not_lt_zero _ (lt_of_lt_of_eq r.isLt (hN.trans (congrArg (b * ·) h0))))⟩ k)

/-- A token's row among the rows of all sequences. -/
theorem flat_tok (hN : N = b * t) (x : (Cube b t D).Idx → EReal) (h : (Cube b t D).ShapeCasts (Mat N D)) (r : Fin N) (k : Fin D) :
    shapeCast (Mat N D) x h (ix2 r k) = tok hN x r k :=
  flat hN x h r _ _ (by show r.val = r.val / t * t + r.val % t; rw [Nat.mul_comm]; exact (Nat.div_add_mod _ _).symm) k

/-- The feed-forward half layer of every token. -/
def ffnArr (hN : N = b * t) (x : (Cube b t D).Idx → EReal) (g : (Lin D).Idx → EReal) (wg wu : (Mat D H).Idx → EReal) (wd : (Mat H D).Idx → EReal) : (Mat N D).Idx → EReal :=
  fun i => ffn (tok hN x (i 0)) (fun k => g (ix1 k)) (fun k f => wg (ix2 k f)) (fun k f => wu (ix2 k f)) (fun f k => wd (ix2 f k)) (i 1)

/-- The merge, the feed-forward half layer and the last norm of every token. -/
def finishArr (hN : N = b * t) (x cv at_ gc ga : (Cube b t D).Idx → EReal) (wpa wo : (Mat D D).Idx → EReal) (g : (Lin D).Idx → EReal) (wg wu : (Mat D H).Idx → EReal)
    (wd : (Mat H D).Idx → EReal) (gf : (Lin D).Idx → EReal) : (Mat N D).Idx → EReal :=
  fun i => finish (tok hN x (i 0)) (tok hN cv (i 0)) (tok hN at_ (i 0)) (tok hN gc (i 0)) (tok hN ga (i 0)) (fun k f => wpa (ix2 k f)) (fun k f => wo (ix2 k f))
    (fun k => g (ix1 k)) (fun k f => wg (ix2 k f)) (fun k f => wu (ix2 k f)) (fun f k => wd (ix2 f k)) (fun k => gf (ix1 k)) (i 1)

/-- The two coordinates of an index make it. -/
theorem both {n d : ℕ} (i : (Mat n d).Idx) : i = ix2 (i 0 : Fin n) (i 1 : Fin d) := funext fun a => by
  match a with
  | ⟨0, _⟩ => rfl
  | ⟨1, _⟩ => rfl

/-- An array given token by token, with the sequences one after another. -/
theorem flat_rows (hN : N = b * t) (z : (Cube b t D).Idx → EReal) (h : (Cube b t D).ShapeCasts (Mat N D)) (G : (Mat N D).Idx → EReal)
    (hz : ∀ (r : Fin N) (k : Fin D), tok hN z r k = G (ix2 r k)) : shapeCast (Mat N D) z h = G := by
  funext i
  exact ((congrArg (shapeCast (Mat N D) z h) (both i)).trans ((flat_tok hN z h (i 0) (i 1)).trans (hz (i 0) (i 1)))).trans (congrArg G (both i)).symm

end Array

end Cert.Rows

end
-- ==== Proof.Tile.lean ====
module
public import proofs.«01_k».proof.Proof.Rows
public import Idealize.ShloMosaic.Lib.Pipeline.Value
@[expose] public section

/-! # Where a grid point's blocks lie

A window whose index map is zero shows the whole array; one whose index map counts the grid's points shows a tile of
rows, or of columns. These are stated once, for any window, and used for every operand and result of every call. -/

set_option maxRecDepth 16384

noncomputable section

namespace Cert.Rows

open Idealize.ShloMosaic hiding ix1 ix2 ix3 ix4 ix5
open Idealize.ShloMosaic.ValueIdx
open Idealize.ShloMosaic.Pipeline (Window Grid)

/-- A place of a block lies in the array where its coordinates, counted from the block's start, say. -/
theorem place {sig : RefSig} {G : Grid} (w : Window sig G) (hk : w.kind = .blocked) (t : Fin G.N) (y : (w.xblock (G.coords t)).Idx) (i : w.shape.Idx)
    (h : ∀ a, w.index t a * w.size a + (y a).val = (i a).val) : (w.rect t).emb y = i :=
  funext fun a => Fin.ext ((w.rect_emb_val t y a hk).trans (h a))

/-- An array that is known, read at a place that is known. -/
theorem seen {I α : Type} {V A : I → α} (hV : V = A) {e i : I} (he : e = i) {v : α} (hA : A i = v) : V e = v := by
  rw [hV, he, hA]

/-- A weight, cast on the host, in a window that shows the whole of it. -/
theorem seen_weight {n d : ℕ} {B : FVec Ideal (Mat n d) .f32} {h : FTy.bits .bf16 < FTy.bits .f32} {A : (Mat n d).Idx → EReal} (hA : A = truncf .bf16 B h) {e : (Mat n d).Idx → (Mat n d).Idx}
    (he : ∀ i, e i = i) (k : Fin n) (f : Fin d) : A (e (ix2 k f)) = B (ix2 k f) :=
  seen hA (he _) rfl

/-- The scales of a norm, laid out as a matrix's one row, in a window that shows the whole of it. -/
theorem seen_scales {d : ℕ} {B : (Lin d).Idx → EReal} {h : (Lin d).ShapeCasts (Mat 1 d)} {A : (Mat 1 d).Idx → EReal} (hA : A = shapeCast (Mat 1 d) B h) {e : (Mat 1 d).Idx → (Mat 1 d).Idx}
    (he : ∀ i, e i = i) (k : Fin d) : A (e (ix2 (0 : Fin 1) k)) = B (ix1 k) :=
  seen hA (he _) (lift1 _ _ k)

/-- The rows of all tokens, in a window that shows a tile of them. -/
theorem seen_tokens {n d N b t u : ℕ} (hN : N = b * t) {B : (Cube b t d).Idx → EReal} {h : (Cube b t d).ShapeCasts (Mat N d)} {A : (Mat N d).Idx → EReal} (hA : A = shapeCast (Mat N d) B h)
    {e : (Mat n d).Idx → (Mat N d).Idx} (hu : ∀ r : Fin n, n * u + r.val < N) (he : ∀ i, e i = ix2 (⟨n * u + (i 0).val, hu (i 0)⟩ : Fin N) (i 1 : Fin d)) (r : Fin n) (k : Fin d) :
    A (e (ix2 r k)) = tok hN B ⟨n * u + r.val, hu r⟩ k :=
  seen hA (he _) (flat_tok hN _ _ _ _)

/-- The block at the start of a matrix. -/
theorem whole {n d : ℕ} {e : Fin 2 → ℕ} (h : e 0 = 0 ∧ e 1 = 0) (i : (Mat n d).Idx) (a : Fin 2) : e a * (![n, d] : Fin 2 → ℕ) a + (i a).val = (i a).val := by
  match a with
  | ⟨0, _⟩ => show e 0 * n + _ = _; rw [h.1, Nat.zero_mul, Nat.zero_add]
  | ⟨1, _⟩ => show e 1 * d + _ = _; rw [h.2, Nat.zero_mul, Nat.zero_add]

/-- The tile of a matrix's rows that a grid point's number counts. -/
theorem tile {n d N t : ℕ} {e : Fin 2 → ℕ} (h : e 0 = t ∧ e 1 = 0) (i : (Mat n d).Idx) (hb : n * t + (i 0).val < N) (a : Fin 2) :
    e a * (![n, d] : Fin 2 → ℕ) a + (i a).val = ((ix2 (⟨n * t + (i 0).val, hb⟩ : Fin N) (i 1 : Fin d) : (Mat N d).Idx) a).val := by
  match a with
  | ⟨0, _⟩ => show e 0 * n + _ = n * t + (i 0).val; rw [h.1, Nat.mul_comm]; rfl
  | ⟨1, _⟩ => show e 1 * d + _ = (i 1).val; rw [h.2, Nat.zero_mul, Nat.zero_add]; rfl

/-- Every place of a matrix lies in the tile of its row. -/
theorem within {n d N t : ℕ} {e : Fin 2 → ℕ} (h : e 0 = t ∧ e 1 = 0) (i : (Mat N d).Idx) (hn : 0 < n) (ht : t = (i 0).val / n) (a : Fin 2) :
    e a * (![n, d] : Fin 2 → ℕ) a ≤ (i a).val ∧ (i a).val < e a * (![n, d] : Fin 2 → ℕ) a + (![n, d] : Fin 2 → ℕ) a := by
  match a with
  | ⟨0, _⟩ => show e 0 * n ≤ (i 0).val ∧ (i 0).val < e 0 * n + n; rw [h.1, ht]; exact ⟨Nat.div_mul_le_self _ _, Nat.lt_div_mul_add hn⟩
  | ⟨1, _⟩ => show e 1 * d ≤ (i 1).val ∧ (i 1).val < e 1 * d + d; rw [h.2, Nat.zero_mul, Nat.zero_add]; exact ⟨Nat.zero_le _, (i 1).isLt⟩

/-- The offsets of an access at the start of a matrix. -/
theorem start2 : (![0, 0] : Fin 2 → ℕ) = fun _ => 0 := funext fun a => match a with | 0 => rfl | 1 => rfl

/-- The tile of one of a stack's matrices' rows. -/
theorem rows_tile {n d b N p q : ℕ} {e : Fin 3 → ℕ} (h : e 0 = p ∧ e 1 = q ∧ e 2 = 0) (i : (Cube 1 n d).Idx) (hp : p < b) (hq : n * q + (i 1).val < N) (a : Fin 3) :
    e a * (![1, n, d] : Fin 3 → ℕ) a + (i a).val = ((ix3 (⟨p, hp⟩ : Fin b) (⟨n * q + (i 1).val, hq⟩ : Fin N) (i 2 : Fin d) : (Cube b N d).Idx) a).val := by
  match a with
  | ⟨0, _⟩ => have h0 : (i 0).val < 1 := (i 0).isLt; show e 0 * 1 + (i 0).val = p; rw [h.1]; omega
  | ⟨1, _⟩ => show e 1 * n + _ = n * q + (i 1).val; rw [h.2.1, Nat.mul_comm]; rfl
  | ⟨2, _⟩ => show e 2 * d + _ = (i 2).val; rw [h.2.2, Nat.zero_mul, Nat.zero_add]; rfl

/-- The tile of one of a stack's matrices' columns. -/
theorem cols_tile {n d b N p q : ℕ} {e : Fin 3 → ℕ} (h : e 0 = p ∧ e 1 = 0 ∧ e 2 = q) (i : (Cube 1 d n).Idx) (hp : p < b) (hq : n * q + (i 2).val < N) (a : Fin 3) :
    e a * (![1, d, n] : Fin 3 → ℕ) a + (i a).val = ((ix3 (⟨p, hp⟩ : Fin b) (i 1 : Fin d) (⟨n * q + (i 2).val, hq⟩ : Fin N) : (Cube b d N).Idx) a).val := by
  match a with
  | ⟨0, _⟩ => have h0 : (i 0).val < 1 := (i 0).isLt; show e 0 * 1 + (i 0).val = p; rw [h.1]; omega
  | ⟨1, _⟩ => show e 1 * d + _ = (i 1).val; rw [h.2.1, Nat.zero_mul, Nat.zero_add]; rfl
  | ⟨2, _⟩ => show e 2 * n + _ = n * q + (i 2).val; rw [h.2.2, Nat.mul_comm]; rfl

end Cert.Rows

end
-- ==== Proof.FirstCall.lean ====
module
public import proofs.«01_k».proof.Proof.Tile
public import proofs.«01_k».proof.Proof.Gen.FirstIdeal.Value
public import proofs.«01_k».proof.Proof.Gen.FirstRefIdeal.Run
@[expose] public section

/-! # The first feed-forward call

Every block a grid point writes back holds the half layer's rows of the tokens of its
tile, and the blocks cover the array. The reference's array is the same. -/

set_option maxRecDepth 16384

noncomputable section

namespace Cert.FirstRefIdeal.Call

open Cert.FirstRefIdeal Cert.FirstRefIdeal.Gen
open Idealize.ShloMosaic hiding ix1 ix2 ix3 ix4 ix5
open Idealize.ShloMosaic.TcCoe
open Idealize.ShloMosaic.ValueIdx
open Idealize.SL.Sem
open Cert.Rows

/-- The reference's norm of every row. -/
def NORM (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1
    (Host.reduceAdd (mulf x x) (constant S_ .f32 0x00000000#32) reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

theorem NORM_apply (x : FVec Ideal S4x8192x1024 .f32) (g : FVec Ideal S1024 .f32) (p : Fin 4) (q : Fin 8192) (j : Fin 1024) :
    NORM x g (ix3 p q j) = rms (fun k => x (ix3 p q k)) (fun k => g (ix1 k)) j :=
  r_rms x g _ _ _ _ _ _ _ p q j

/-- Half the gated feed-forward of `h`, added to `x`. -/
def FEED (x h : FVec Ideal S4x8192x1024 .f32) (wg wu : FVec Ideal S1024x2816 .f32) (wd : FVec Ideal S2816x1024 .f32) : FVec Ideal S4x8192x1024 .f32 :=
  addf x (mulf (broadcastInDim S4x8192x1024 ![] bcast_S_S4x8192x1024 (constant S_ .f32 0x3F000000#32)) (Host.dotGeneral dot_S4x8192x2816_S2816x1024_S4x8192x1024_2_0_01_1_n_n none (mulf (mulf (Host.dotGeneral dot_S4x8192x1024_S1024x2816_S4x8192x2816_2_0_01_1_n_n none h wg)
    (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none h wg))))))
    (Host.dotGeneral dot_S4x8192x1024_S1024x2816_S4x8192x2816_2_0_01_1_n_n none h wu)) wd))

theorem FEED_apply (x h : FVec Ideal S4x8192x1024 .f32) (wg wu : FVec Ideal S1024x2816 .f32) (wd : FVec Ideal S2816x1024 .f32) (p : Fin 4) (q : Fin 8192) (j : Fin 1024) :
    FEED x h wg wu wd (ix3 p q j) = swi (fun k => x (ix3 p q k)) (fun k => h (ix3 p q k)) (fun k f => wg (ix2 k f)) (fun k f => wu (ix2 k f)) (fun f k => wd (ix2 f k)) j :=
  r_swi x h wg wu wd dot_S4x8192x1024_S1024x2816_S4x8192x2816_2_0_01_1_n_n dot_S4x8192x2816_S2816x1024_S4x8192x1024_2_0_01_1_n_n ⟨_, rfl⟩ ⟨_, rfl⟩ _ _ p q j

/-- The reference's array. -/
def RES (x : FVec Ideal S4x8192x1024 .f32) (g : FVec Ideal S1024 .f32) (wg wu : FVec Ideal S1024x2816 .f32) (wd : FVec Ideal S2816x1024 .f32) : FVec Ideal S32768x1024 .f32 :=
  shapeCast S32768x1024 (FEED x (NORM x g) wg wu wd) shapeCasts_S4x8192x1024_S32768x1024

/-- The reference's array, token by token. -/
theorem RES_eq (x : FVec Ideal S4x8192x1024 .f32) (g : FVec Ideal S1024 .f32) (wg wu : FVec Ideal S1024x2816 .f32) (wd : FVec Ideal S2816x1024 .f32) : RES x g wg wu wd = ffnArr (b := 4) (t := 8192) rfl x g wg wu wd := by
  refine flat_rows (b := 4) (t := 8192) rfl _ _ _ fun r k => ?_
  unfold tok
  rw [FEED_apply]
  simp only [NORM_apply]
  rfl

end Cert.FirstRefIdeal.Call

namespace Cert.FirstIdeal.Call

open Cert.FirstIdeal Cert.FirstIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Rows

abbrev X := FVec Ideal S4x8192x1024 .f32

/-! ## Where the blocks lie -/

/-- The windows that show a tile of tokens. -/
theorem tokens : ∀ t : Fin grid0.N, (win0_0.index t 0 = t.val ∧ win0_0.index t 1 = 0) ∧ (win0_5.index t 0 = t.val ∧ win0_5.index t 1 = 0) := by decide +kernel

/-- The windows that show a whole array. -/
theorem starts : ∀ t : Fin grid0.N, (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) := by decide +kernel

/-- A row of a tile, among all rows. -/
abbrev deep (t : Fin cfg0.N) (r : Fin 512) : Fin 32768 := ⟨512 * t.val + r.val, by have h : t.val < 64 := t.isLt; omega⟩

section Blocks
variable (m : (ℓ : Loc nD τ sig) → Buf (Elt Ideal) ℓ) (c : Dev nD) (t : Fin cfg0.N)

/-- What the call's arrays hold when it starts. -/
theorem entries : V m c main_v0 = (shapeCast S32768x1024 (m ((c.tc : Thread nD τ).loc main_arg0) : X) shapeCasts_S4x8192x1024_S32768x1024 : FVec Ideal S32768x1024 .f32)
    ∧ V m c main_v4 = (shapeCast S1x1024 (m ((c.tc : Thread nD τ).loc main_arg1) : FVec Ideal S1024 .f32) shapeCasts_S1024_S1x1024 : FVec Ideal S1x1024 .f32)
    ∧ V m c main_v1 = (truncf .bf16 (m ((c.tc : Thread nD τ).loc main_arg2) : FVec Ideal S1024x2816 .f32) bitsLt_bf16_f32 : FVec Ideal S1024x2816 .bf16)
    ∧ V m c main_v2 = (truncf .bf16 (m ((c.tc : Thread nD τ).loc main_arg3) : FVec Ideal S1024x2816 .f32) bitsLt_bf16_f32 : FVec Ideal S1024x2816 .bf16)
    ∧ V m c main_v3 = (truncf .bf16 (m ((c.tc : Thread nD τ).loc main_arg4) : FVec Ideal S2816x1024 .f32) bitsLt_bf16_f32 : FVec Ideal S2816x1024 .bf16) := by
  refine ⟨?_, ?_, ?_, ?_, ?_⟩ <;> unfold V <;> after_results_simp <;> rfl

theorem blk0 (r : Fin 512) (k : Fin 1024) : iblk m c 0 t (ix2 r k) = tok (b := 4) (t := 8192) rfl (m ((c.tc : Thread nD τ).loc main_arg0) : X) (deep t r) k :=
  (seen_tokens (n := 512) (d := 1024) (N := 32768) (b := 4) (t := 8192) (u := t.val) (e := (win0_0.rect t).emb) rfl (entries m c).1 (fun r => (deep t r).isLt) (fun i => place win0_0 rfl t i _ (tile (tokens t).1 i (deep t (i 0)).isLt)) r k :)

theorem blk1 (k : Fin 1024) : iblk m c 1 t (ix2 (0 : Fin 1) k) = (m ((c.tc : Thread nD τ).loc main_arg1) : FVec Ideal S1024 .f32) (ix1 k) :=
  (seen_scales (entries m c).2.1 (fun i => place win0_1 rfl t i i (whole (starts t).1 i)) k :)

theorem blk2 (k : Fin 1024) (f : Fin 2816) : iblk m c 2 t (ix2 k f) = (m ((c.tc : Thread nD τ).loc main_arg2) : FVec Ideal S1024x2816 .f32) (ix2 k f) :=
  (seen_weight (entries m c).2.2.1 (fun i => place win0_2 rfl t i i (whole (starts t).2.1 i)) k f :)

theorem blk3 (k : Fin 1024) (f : Fin 2816) : iblk m c 3 t (ix2 k f) = (m ((c.tc : Thread nD τ).loc main_arg3) : FVec Ideal S1024x2816 .f32) (ix2 k f) :=
  (seen_weight (entries m c).2.2.2.1 (fun i => place win0_3 rfl t i i (whole (starts t).2.2.1 i)) k f :)

theorem blk4 (k : Fin 2816) (f : Fin 1024) : iblk m c 4 t (ix2 k f) = (m ((c.tc : Thread nD τ).loc main_arg4) : FVec Ideal S2816x1024 .f32) (ix2 k f) :=
  (seen_weight (entries m c).2.2.2.2 (fun i => place win0_4 rfl t i i (whole (starts t).2.2.2 i)) k f :)

end Blocks

/-! ## What a grid point stores -/

theorem pay1 (x : Vec Ideal S512x1024 .f32) (g : Vec Ideal S1x1024 .f32) (wg wu : Vec Ideal S1024x2816 .bf16) (wd : Vec Ideal S2816x1024 .bf16) (r : Fin 512) (j : Fin 1024) :
    k0_pay1 x g wg wu wd (ix2 r j) = ffn (fun k => x (ix2 r k)) (fun k => g (ix2 (0 : Fin 1) k)) (fun k f => wg (ix2 k f)) (fun k f => wu (ix2 k f)) (fun f k => wd (ix2 f k)) j := by
  unfold k0_pay1
  try dsimp only
  simp only [shapeCast_self]
  refine (k_swi (n := 512) (D := 1024) (H := 2816) x _ wg wu wd _ _ rfl rfl _ r j).trans ?_
  unfold ffn
  exact congrArg (fun y => swi (fun k => x (ix2 r k)) y (fun k f => wg (ix2 k f)) (fun k f => wu (ix2 k f)) (fun f k => wd (ix2 f k)) j)
    (funext fun k => (trunc_at _ _ _).trans (k_rms (n := 512) (D := 1024) x g _ _ _ _ _ _ r k))

/-- What a grid point leaves of its tile, from its blocks' rows. -/
theorem ends (x0 : Vec Ideal S512x1024 .f32) (x1 : Vec Ideal S1x1024 .f32) (x2 : Vec Ideal S1024x2816 .bf16) (x3 : Vec Ideal S1024x2816 .bf16) (x4 : Vec Ideal S2816x1024 .bf16) (r : Fin 512) (j : Fin 1024)
    (X G : Fin 1024 → EReal) (WG WU : Fin 1024 → Fin 2816 → EReal) (WD : Fin 2816 → Fin 1024 → EReal)
    (h0 : ∀ k, x0 (ix2 r k) = X k) (h1 : ∀ k, x1 (ix2 (0 : Fin 1) k) = G k) (h2 : ∀ k f, x2 (ix2 k f) = WG k f) (h3 : ∀ k f, x3 (ix2 k f) = WU k f) (h4 : ∀ k f, x4 (ix2 k f) = WD k f) :
    out0_5 x0 x1 x2 x3 x4 (ix2 r j) = ffn X G WG WU WD j := by
  unfold out0_5
  rw [View.canon_cons_unit_zero start2]
  have e0 : View.ld x0 r0_0 = x0 := View.ld_unit_zero start2 _ _
  have e1 : View.ld x1 r0_1 = x1 := View.ld_unit_zero start2 _ _
  have e2 : View.ld x2 r0_2 = x2 := View.ld_unit_zero start2 _ _
  have e3 : View.ld x3 r0_2 = x3 := View.ld_unit_zero start2 _ _
  have e4 : View.ld x4 r0_3 = x4 := View.ld_unit_zero start2 _ _
  rw [e0, e1, e2, e3, e4]
  rw [pay1]
  simp only [h0, h1, h2, h3, h4]

section Array
variable (m : (ℓ : Loc nD τ sig) → Buf (Elt Ideal) ℓ) (c : Dev nD)

/-- The result, token by token, from the call's arguments. -/
def goal : FVec Ideal S32768x1024 .f32 :=
  ffnArr (b := 4) (t := 8192) rfl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem left_apply (t : Fin cfg0.N) (r : Fin 512) (j : Fin 1024) : out0_5 (iblk m c 0 t) (iblk m c 1 t) (iblk m c 2 t) (iblk m c 3 t) (iblk m c 4 t) (ix2 r j) = goal m c (ix2 (deep t r) j) := by
  have h := ends (iblk m c 0 t) (iblk m c 1 t) (iblk m c 2 t) (iblk m c 3 t) (iblk m c 4 t) r j _ _ _ _ _ (blk0 m c t r) (blk1 m c t) (blk2 m c t) (blk3 m c t) (blk4 m c t)
  exact h

theorem flushed_goal (t : Fin cfg0.N) : (dats m 0 c).flushed 5 t = ((cfg0.win 5).blk t).view.read (Elt Ideal) (goal m c) :=
  (Value.flushed5 m c t).trans (funext fun i => (congrArg (out0_5 (iblk m c 0 t) (iblk m c 1 t) (iblk m c 2 t) (iblk m c 3 t) (iblk m c 4 t)) (both (n := 512) (d := 1024) i)).trans
    ((left_apply m c t (i 0) (i 1)).trans (congrArg (goal m c) (place win0_5 rfl t i _ (tile (tokens t).2 i (deep t (i 0)).isLt)).symm)))

/-- THE RESULT ARRAY is the reference's. -/
theorem array_eq : (dats m 0 c).arrAt 5 cfg0.N = goal m c :=
  (dats m 0 c).arrAt_eq_of_cover 5 (goal m c) (fun t _ => flushed_goal m c t) fun i => by
    obtain ⟨t, ht⟩ : ∃ t : Fin grid0.N, t.val = (i 0).val / 512 := ⟨(⟨(i 0).val / 512, Nat.div_lt_of_lt_mul (i 0).isLt⟩ : Fin 64), rfl⟩
    refine ⟨t, flush0_5 t, ?_⟩
    show i ∈ ((View.whole main_v5).slice (win0_5.rect t)).set
    rw [View.set_slice_whole, Rect.mem_set_unit]
    exact within (n := 512) (tokens t).2 i (by decide) ht

end Array

end Cert.FirstIdeal.Call

end
-- ==== Proof.FinishCall.lean ====
module
public import proofs.«01_k».proof.Proof.FirstCall
public import proofs.«01_k».proof.Proof.Gen.FinishIdeal.Value
public import proofs.«01_k».proof.Proof.Gen.FinishRefIdeal.Run
@[expose] public section

/-! # The merge, the second feed-forward and the last norm of the prompt

Every block a grid point writes back holds the merged, fed-forward and normed rows of the tokens of its
tile, and the blocks cover the array. The reference's array is the same. -/

set_option maxRecDepth 16384

noncomputable section

namespace Cert.FinishRefIdeal.Call

open Cert.FinishRefIdeal Cert.FinishRefIdeal.Gen
open Idealize.ShloMosaic hiding ix1 ix2 ix3 ix4 ix5
open Idealize.ShloMosaic.TcCoe
open Idealize.ShloMosaic.ValueIdx
open Idealize.SL.Sem
open Cert.Rows
open Cert.FirstRefIdeal.Call (NORM NORM_apply FEED FEED_apply)

/-- The two branches gated, merged, projected and added. -/
def MERGE (x cv at_ gc ga : FVec Ideal S4x8192x1024 .f32) (wpa wo : FVec Ideal S1024x1024 .f32) : FVec Ideal S4x8192x1024 .f32 :=
  addf x (Host.dotGeneral dot_S4x8192x1024_S1024x1024_S4x8192x1024_2_0_01_1_n_n none (addf (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf gc)))) cv)
    (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf ga)))) (Host.dotGeneral dot_S4x8192x1024_S1024x1024_S4x8192x1024_2_0_01_1_n_n none at_ wpa))) wo)

theorem MERGE_apply (x cv at_ gc ga : FVec Ideal S4x8192x1024 .f32) (wpa wo : FVec Ideal S1024x1024 .f32) (p : Fin 4) (q : Fin 8192) (j : Fin 1024) :
    MERGE x cv at_ gc ga wpa wo (ix3 p q j) = merged (fun k => x (ix3 p q k)) (fun k => cv (ix3 p q k)) (fun k => at_ (ix3 p q k)) (fun k => gc (ix3 p q k)) (fun k => ga (ix3 p q k))
      (fun k f => wpa (ix2 k f)) (fun k f => wo (ix2 k f)) j :=
  r_merged x cv at_ gc ga wpa wo dot_S4x8192x1024_S1024x1024_S4x8192x1024_2_0_01_1_n_n ⟨_, rfl⟩ _ p q j

/-- The reference's array. -/
def RES (x cv at_ gc ga : FVec Ideal S4x8192x1024 .f32) (wpa wo : FVec Ideal S1024x1024 .f32) (g : FVec Ideal S1024 .f32) (wg wu : FVec Ideal S1024x2816 .f32) (wd : FVec Ideal S2816x1024 .f32) (gf : FVec Ideal S1024 .f32) : FVec Ideal S32768x1024 .f32 :=
  shapeCast S32768x1024 (NORM (FEED (MERGE x cv at_ gc ga wpa wo) (NORM (MERGE x cv at_ gc ga wpa wo) g) wg wu wd) gf) shapeCasts_S4x8192x1024_S32768x1024

/-- The reference's array, token by token. -/
theorem RES_eq (x cv at_ gc ga : FVec Ideal S4x8192x1024 .f32) (wpa wo : FVec Ideal S1024x1024 .f32) (g : FVec Ideal S1024 .f32) (wg wu : FVec Ideal S1024x2816 .f32) (wd : FVec Ideal S2816x1024 .f32) (gf : FVec Ideal S1024 .f32) : RES x cv at_ gc ga wpa wo g wg wu wd gf = finishArr (b := 4) (t := 8192) rfl x cv at_ gc ga wpa wo g wg wu wd gf := by
  refine flat_rows (b := 4) (t := 8192) rfl _ _ _ fun r k => ?_
  unfold tok
  rw [NORM_apply]
  simp only [FEED_apply, NORM_apply, MERGE_apply]
  rfl

/-- The reference's run leaves this array. -/
theorem res_eq (m : (ℓ : Loc nD τ sig) → Buf (Elt Ideal) ℓ) (c : Dev nD) :
    Value.res_main_v52 m c = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.FinishRefIdeal.Call

namespace Cert.FinishIdeal.Call

open Cert.FinishIdeal Cert.FinishIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Rows

abbrev X := FVec Ideal S4x8192x1024 .f32

/-- The host's logistic of the gates. -/
def GATE (x : X) : X := (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf x))))

theorem GATE_apply (x : X) (i) : GATE x i = Ideal.logistic (x i) := r_logistic _ x i

/-! ## Where the blocks lie -/

/-- The windows that show a tile of tokens. -/
theorem tokens : ∀ t : Fin grid0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_12.index t 0 = t.val ∧ win0_12.index t 1 = 0) := by decide +kernel

/-- The windows that show a whole array. -/
theorem starts : ∀ t : Fin grid0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) := by decide +kernel

/-- A row of a tile, among all rows. -/
abbrev deep (t : Fin cfg0.N) (r : Fin 256) : Fin 32768 := ⟨256 * t.val + r.val, by have h : t.val < 128 := t.isLt; omega⟩

section Blocks
variable (m : (ℓ : Loc nD τ sig) → Buf (Elt Ideal) ℓ) (c : Dev nD) (t : Fin cfg0.N)

/-- What the call's arrays hold when it starts. -/
theorem entries : V m c main_v19 = (shapeCast S32768x1024 (m ((c.tc : Thread nD τ).loc main_arg0) : X) shapeCasts_S4x8192x1024_S32768x1024 : FVec Ideal S32768x1024 .f32)
    ∧ V m c main_v0 = (shapeCast S32768x1024 (m ((c.tc : Thread nD τ).loc main_arg1) : X) shapeCasts_S4x8192x1024_S32768x1024 : FVec Ideal S32768x1024 .f32)
    ∧ V m c main_v2 = (shapeCast S32768x1024 (truncf .bf16 (m ((c.tc : Thread nD τ).loc main_arg2) : X) bitsLt_bf16_f32) shapeCasts_S4x8192x1024_S32768x1024 : FVec Ideal S32768x1024 .bf16)
    ∧ V m c main_v9 = (shapeCast S32768x1024 (GATE (m ((c.tc : Thread nD τ).loc main_arg3) : X)) shapeCasts_S4x8192x1024_S32768x1024 : FVec Ideal S32768x1024 .f32)
    ∧ V m c main_v16 = (shapeCast S32768x1024 (GATE (m ((c.tc : Thread nD τ).loc main_arg4) : X)) shapeCasts_S4x8192x1024_S32768x1024 : FVec Ideal S32768x1024 .f32)
    ∧ V m c main_v17 = (truncf .bf16 (m ((c.tc : Thread nD τ).loc main_arg5) : FVec Ideal S1024x1024 .f32) bitsLt_bf16_f32 : FVec Ideal S1024x1024 .bf16)
    ∧ V m c main_v18 = (truncf .bf16 (m ((c.tc : Thread nD τ).loc main_arg6) : FVec Ideal S1024x1024 .f32) bitsLt_bf16_f32 : FVec Ideal S1024x1024 .bf16)
    ∧ V m c main_v23 = (shapeCast S1x1024 (m ((c.tc : Thread nD τ).loc main_arg7) : FVec Ideal S1024 .f32) shapeCasts_S1024_S1x1024 : FVec Ideal S1x1024 .f32)
    ∧ V m c main_v20 = (truncf .bf16 (m ((c.tc : Thread nD τ).loc main_arg8) : FVec Ideal S1024x2816 .f32) bitsLt_bf16_f32 : FVec Ideal S1024x2816 .bf16)
    ∧ V m c main_v21 = (truncf .bf16 (m ((c.tc : Thread nD τ).loc main_arg9) : FVec Ideal S1024x2816 .f32) bitsLt_bf16_f32 : FVec Ideal S1024x2816 .bf16)
    ∧ V m c main_v22 = (truncf .bf16 (m ((c.tc : Thread nD τ).loc main_arg10) : FVec Ideal S2816x1024 .f32) bitsLt_bf16_f32 : FVec Ideal S2816x1024 .bf16)
    ∧ V m c main_v24 = (shapeCast S1x1024 (m ((c.tc : Thread nD τ).loc main_arg11) : FVec Ideal S1024 .f32) shapeCasts_S1024_S1x1024 : FVec Ideal S1x1024 .f32) := by
  refine ⟨?_, ?_, ?_, ?_, ?_, ?_, ?_, ?_, ?_, ?_, ?_, ?_⟩ <;> unfold V <;> after_results_simp <;> rfl

/-- The rows of all tokens, in any of the windows that show a tile of them. -/
theorem shown {B : X} {A : (Mat 32768 1024).Idx → EReal} (hA : A = shapeCast S32768x1024 B shapeCasts_S4x8192x1024_S32768x1024) {e : (Mat 256 1024).Idx → (Mat 32768 1024).Idx}
    (he : ∀ i, e i = ix2 (deep t (i 0 : Fin 256)) (i 1 : Fin 1024)) (r : Fin 256) (k : Fin 1024) : A (e (ix2 r k)) = tok (b := 4) (t := 8192) rfl B (deep t r) k :=
  seen_tokens (n := 256) (d := 1024) (N := 32768) (b := 4) (t := 8192) (u := t.val) (B := B) (A := A) (e := e) rfl hA (fun r => (deep t r).isLt) he r k

theorem blk0 (r : Fin 256) (k : Fin 1024) : iblk m c 0 t (ix2 r k) = tok (b := 4) (t := 8192) rfl (m ((c.tc : Thread nD τ).loc main_arg0) : X) (deep t r) k :=
  (shown t (e := (win0_0.rect t).emb) (entries m c).1 (fun i => place win0_0 rfl t i _ (tile (tokens t).1 i (deep t (i 0)).isLt)) r k :)

theorem blk1 (r : Fin 256) (k : Fin 1024) : iblk m c 1 t (ix2 r k) = tok (b := 4) (t := 8192) rfl (m ((c.tc : Thread nD τ).loc main_arg1) : X) (deep t r) k :=
  (shown t (e := (win0_1.rect t).emb) (entries m c).2.1 (fun i => place win0_1 rfl t i _ (tile (tokens t).2.1 i (deep t (i 0)).isLt)) r k :)

/-- The attention's rows, cast on the host. -/
theorem blk2 (r : Fin 256) (k : Fin 1024) : iblk m c 2 t (ix2 r k) = tok (b := 4) (t := 8192) rfl (m ((c.tc : Thread nD τ).loc main_arg2) : X) (deep t r) k :=
  (shown t (e := (win0_2.rect t).emb) (entries m c).2.2.1 (fun i => place win0_2 rfl t i _ (tile (tokens t).2.2.1 i (deep t (i 0)).isLt)) r k :)

/-- The convolution's gates, after the host's sigmoid. -/
theorem blk3 (r : Fin 256) (k : Fin 1024) : iblk m c 3 t (ix2 r k) = Ideal.logistic (tok (b := 4) (t := 8192) rfl (m ((c.tc : Thread nD τ).loc main_arg3) : X) (deep t r) k) :=
  ((shown t (e := (win0_3.rect t).emb) (entries m c).2.2.2.1 (fun i => place win0_3 rfl t i _ (tile (tokens t).2.2.2.1 i (deep t (i 0)).isLt)) r k).trans (GATE_apply _ _) :)

/-- The attention's gates, after the host's sigmoid. -/
theorem blk4 (r : Fin 256) (k : Fin 1024) : iblk m c 4 t (ix2 r k) = Ideal.logistic (tok (b := 4) (t := 8192) rfl (m ((c.tc : Thread nD τ).loc main_arg4) : X) (deep t r) k) :=
  ((shown t (e := (win0_4.rect t).emb) (entries m c).2.2.2.2.1 (fun i => place win0_4 rfl t i _ (tile (tokens t).2.2.2.2.1 i (deep t (i 0)).isLt)) r k).trans (GATE_apply _ _) :)

theorem blk5 (k : Fin 1024) (f : Fin 1024) : iblk m c 5 t (ix2 k f) = (m ((c.tc : Thread nD τ).loc main_arg5) : FVec Ideal S1024x1024 .f32) (ix2 k f) :=
  (seen_weight (entries m c).2.2.2.2.2.1 (fun i => place win0_5 rfl t i i (whole (starts t).1 i)) k f :)

theorem blk6 (k : Fin 1024) (f : Fin 1024) : iblk m c 6 t (ix2 k f) = (m ((c.tc : Thread nD τ).loc main_arg6) : FVec Ideal S1024x1024 .f32) (ix2 k f) :=
  (seen_weight (entries m c).2.2.2.2.2.2.1 (fun i => place win0_6 rfl t i i (whole (starts t).2.1 i)) k f :)

theorem blk7 (k : Fin 1024) : iblk m c 7 t (ix2 (0 : Fin 1) k) = (m ((c.tc : Thread nD τ).loc main_arg7) : FVec Ideal S1024 .f32) (ix1 k) :=
  (seen_scales (entries m c).2.2.2.2.2.2.2.1 (fun i => place win0_7 rfl t i i (whole (starts t).2.2.1 i)) k :)

theorem blk8 (k : Fin 1024) (f : Fin 2816) : iblk m c 8 t (ix2 k f) = (m ((c.tc : Thread nD τ).loc main_arg8) : FVec Ideal S1024x2816 .f32) (ix2 k f) :=
  (seen_weight (entries m c).2.2.2.2.2.2.2.2.1 (fun i => place win0_8 rfl t i i (whole (starts t).2.2.2.1 i)) k f :)

theorem blk9 (k : Fin 1024) (f : Fin 2816) : iblk m c 9 t (ix2 k f) = (m ((c.tc : Thread nD τ).loc main_arg9) : FVec Ideal S1024x2816 .f32) (ix2 k f) :=
  (seen_weight (entries m c).2.2.2.2.2.2.2.2.2.1 (fun i => place win0_9 rfl t i i (whole (starts t).2.2.2.2.1 i)) k f :)

theorem blk10 (k : Fin 2816) (f : Fin 1024) : iblk m c 10 t (ix2 k f) = (m ((c.tc : Thread nD τ).loc main_arg10) : FVec Ideal S2816x1024 .f32) (ix2 k f) :=
  (seen_weight (entries m c).2.2.2.2.2.2.2.2.2.2.1 (fun i => place win0_10 rfl t i i (whole (starts t).2.2.2.2.2.1 i)) k f :)

theorem blk11 (k : Fin 1024) : iblk m c 11 t (ix2 (0 : Fin 1) k) = (m ((c.tc : Thread nD τ).loc main_arg11) : FVec Ideal S1024 .f32) (ix1 k) :=
  (seen_scales (entries m c).2.2.2.2.2.2.2.2.2.2.2 (fun i => place win0_11 rfl t i i (whole (starts t).2.2.2.2.2.2 i)) k :)

end Blocks

/-! ## What a grid point stores -/

theorem pay2 (x gc cv ga : Vec Ideal S256x1024 .f32) (at_ : Vec Ideal S256x1024 .bf16) (wpa wo : Vec Ideal S1024x1024 .bf16) (r : Fin 256) (j : Fin 1024)
    (lc la : Fin 1024 → EReal) (hc : ∀ k, gc (ix2 r k) = Ideal.logistic (lc k)) (ha : ∀ k, ga (ix2 r k) = Ideal.logistic (la k)) :
    k0_pay2 x gc cv ga at_ wpa wo (ix2 r j) = merged (fun k => x (ix2 r k)) (fun k => cv (ix2 r k)) (fun k => at_ (ix2 r k)) lc la (fun k f => wpa (ix2 k f)) (fun k f => wo (ix2 k f)) j := by
  unfold k0_pay2
  try dsimp only
  simp only [shapeCast_self]
  exact k_merged (n := 256) (D := 1024) x cv gc ga at_ wpa wo _ rfl _ r j lc la hc ha

theorem pay3 (x gc cv ga : Vec Ideal S256x1024 .f32) (at_ : Vec Ideal S256x1024 .bf16) (wpa wo : Vec Ideal S1024x1024 .bf16) (g : Vec Ideal S1x1024 .f32) (r : Fin 256) (j : Fin 1024) :
    k0_pay3 x gc cv ga at_ wpa wo g (ix2 r j) = rms (fun k => k0_pay2 x gc cv ga at_ wpa wo (ix2 r k)) (fun k => g (ix2 (0 : Fin 1) k)) j := by
  unfold k0_pay3
  try dsimp only
  simp only [shapeCast_self]
  exact (trunc_at _ _ _).trans (k_rms (n := 256) (D := 1024) (k0_pay2 x gc cv ga at_ wpa wo) g _ _ _ _ _ _ r j)

theorem pay1 (x : FVec Ideal S256x1024 .f32) (h : FVec Ideal S256x1024 .bf16) (wg wu : Vec Ideal S1024x2816 .bf16) (wd : Vec Ideal S2816x1024 .bf16) (gf : Vec Ideal S1x1024 .f32) (r : Fin 256) (j : Fin 1024) :
    k0_pay1 x h wg wu wd gf (ix2 r j) = rms (swi (fun k => x (ix2 r k)) (fun k => h (ix2 r k)) (fun k f => wg (ix2 k f)) (fun k f => wu (ix2 k f)) (fun f k => wd (ix2 f k))) (fun k => gf (ix2 (0 : Fin 1) k)) j := by
  unfold k0_pay1
  try dsimp only
  simp only [shapeCast_self]
  refine (k_rms (n := 256) (D := 1024) _ gf _ _ _ _ _ _ r j).trans ?_
  exact congrArg (fun y => rms y (fun k => gf (ix2 (0 : Fin 1) k)) j) (funext fun k => k_swi (n := 256) (D := 1024) (H := 2816) x h wg wu wd _ _ rfl rfl _ r k)

/-- What a grid point leaves of its tile, from its blocks' rows. -/
theorem ends (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1024x1024 .bf16) (x6 : Vec Ideal S1024x1024 .bf16) (x7 : Vec Ideal S1x1024 .f32) (x8 : Vec Ideal S1024x2816 .bf16) (x9 : Vec Ideal S1024x2816 .bf16) (x10 : Vec Ideal S2816x1024 .bf16) (x11 : Vec Ideal S1x1024 .f32) (r : Fin 256) (j : Fin 1024)
    (X C A LC LA G GF : Fin 1024 → EReal) (WP WO : Fin 1024 → Fin 1024 → EReal) (WG WU : Fin 1024 → Fin 2816 → EReal) (WD : Fin 2816 → Fin 1024 → EReal)
    (h0 : ∀ k, x0 (ix2 r k) = X k) (h1 : ∀ k, x1 (ix2 r k) = C k) (h2 : ∀ k, x2 (ix2 r k) = A k) (h3 : ∀ k, x3 (ix2 r k) = Ideal.logistic (LC k)) (h4 : ∀ k, x4 (ix2 r k) = Ideal.logistic (LA k))
    (h5 : ∀ k f, x5 (ix2 k f) = WP k f) (h6 : ∀ k f, x6 (ix2 k f) = WO k f) (h7 : ∀ k, x7 (ix2 (0 : Fin 1) k) = G k) (h8 : ∀ k f, x8 (ix2 k f) = WG k f) (h9 : ∀ k f, x9 (ix2 k f) = WU k f)
    (h10 : ∀ k f, x10 (ix2 k f) = WD k f) (h11 : ∀ k, x11 (ix2 (0 : Fin 1) k) = GF k) :
    out0_12 x0 x1 x2 x3 x4 x5 x6 x7 x8 x9 x10 x11 (ix2 r j) = finish X C A LC LA WP WO G WG WU WD GF j := by
  unfold out0_12
  rw [View.canon_cons_unit_zero start2]
  have e0 : View.ld x0 r0_0 = x0 := View.ld_unit_zero start2 _ _
  have e1 : View.ld x1 r0_0 = x1 := View.ld_unit_zero start2 _ _
  have e2 : View.ld x2 r0_0 = x2 := View.ld_unit_zero start2 _ _
  have e3 : View.ld x3 r0_0 = x3 := View.ld_unit_zero start2 _ _
  have e4 : View.ld x4 r0_0 = x4 := View.ld_unit_zero start2 _ _
  have e5 : View.ld x5 r0_1 = x5 := View.ld_unit_zero start2 _ _
  have e6 : View.ld x6 r0_1 = x6 := View.ld_unit_zero start2 _ _
  have e7 : View.ld x7 r0_2 = x7 := View.ld_unit_zero start2 _ _
  have e8 : View.ld x8 r0_3 = x8 := View.ld_unit_zero start2 _ _
  have e9 : View.ld x9 r0_3 = x9 := View.ld_unit_zero start2 _ _
  have e10 : View.ld x10 r0_4 = x10 := View.ld_unit_zero start2 _ _
  have e11 : View.ld x11 r0_2 = x11 := View.ld_unit_zero start2 _ _
  rw [e0, e1, e2, e3, e4, e5, e6, e7, e8, e9, e10, e11]
  rw [pay1]
  have hm : ∀ k : Fin 1024, k0_pay2 x0 x3 x1 x4 x2 x5 x6 (ix2 r k) = merged X C A LC LA WP WO k := fun k => by
    rw [pay2 _ _ _ _ _ _ _ r k LC LA h3 h4]
    simp only [h0, h1, h2, h5, h6]
  simp only [pay3, hm, h7, h8, h9, h10, h11]
  rfl

section Array
variable (m : (ℓ : Loc nD τ sig) → Buf (Elt Ideal) ℓ) (c : Dev nD)

/-- The result, token by token, from the call's arguments. -/
def goal : FVec Ideal S32768x1024 .f32 :=
  finishArr (b := 4) (t := 8192) rfl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem left_apply (t : Fin cfg0.N) (r : Fin 256) (j : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = goal m c (ix2 (deep t r) j) := by
  exact ends _ _ _ _ _ _ _ _ _ _ _ _ r j _ _ _ _ _ _ _ _ _ _ _ _ (blk0 m c t r) (blk1 m c t r) (blk2 m c t r) (blk3 m c t r) (blk4 m c t r) (blk5 m c t) (blk6 m c t) (blk7 m c t) (blk8 m c t) (blk9 m c t) (blk10 m c t) (blk11 m c t)

theorem flushed_goal (t : Fin cfg0.N) : (dats m 0 c).flushed 12 t = ((cfg0.win 12).blk t).view.read (Elt Ideal) (goal m c) :=
  (Value.flushed12 m c t).trans (funext fun i => (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (both (n := 256) (d := 1024) i)).trans
    ((left_apply m c t (i 0) (i 1)).trans (congrArg (goal m c) (place win0_12 rfl t i _ (tile (tokens t).2.2.2.2.2 i (deep t (i 0)).isLt)).symm)))

/-- THE RESULT ARRAY is the reference's. -/
theorem array_eq : (dats m 0 c).arrAt 12 cfg0.N = goal m c :=
  (dats m 0 c).arrAt_eq_of_cover 12 (goal m c) (fun t _ => flushed_goal m c t) fun i => by
    obtain ⟨t, ht⟩ : ∃ t : Fin grid0.N, t.val = (i 0).val / 256 := ⟨(⟨(i 0).val / 256, Nat.div_lt_of_lt_mul (i 0).isLt⟩ : Fin 128), rfl⟩
    refine ⟨t, flush0_12 t, ?_⟩
    show i ∈ ((View.whole main_v25).slice (win0_12.rect t)).set
    rw [View.set_slice_whole, Rect.mem_set_unit]
    exact within (n := 256) (tokens t).2.2.2.2.2 i (by decide) ht

end Array

end Cert.FinishIdeal.Call

end
-- ==== Proof.SampleCall.lean ====
module
public import proofs.«01_k».proof.Proof.FinishCall
public import proofs.«01_k».proof.Proof.Gen.SampleIdeal.Value
public import proofs.«01_k».proof.Proof.Gen.SampleRefIdeal.Run
@[expose] public section

/-! # The merge, the second feed-forward and the last norm of the sampled tokens

Every block a grid point writes back holds the merged, fed-forward and normed rows of the tokens of its
tile, and the blocks cover the array. The reference's array is the same. -/

set_option maxRecDepth 16384

noncomputable section

namespace Cert.SampleRefIdeal.Call

open Cert.SampleRefIdeal Cert.SampleRefIdeal.Gen
open Idealize.ShloMosaic hiding ix1 ix2 ix3 ix4 ix5
open Idealize.ShloMosaic.TcCoe
open Idealize.ShloMosaic.ValueIdx
open Idealize.SL.Sem
open Cert.Rows

/-- The reference's norm of every row. -/
def NORM (x : FVec Ideal S32x8x1024 .f32) (g : FVec Ideal S1024 .f32) : FVec Ideal S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1
    (Host.reduceAdd (mulf x x) (constant S_ .f32 0x00000000#32) reducesTo_S32x8x1024_S32x8_d2 h_S_)) (broadcastInDim S32x8x1 ![] bcast_S_S32x8x1 (constant S_ .f32 0x44800000#32)))
    (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2 g))

theorem NORM_apply (x : FVec Ideal S32x8x1024 .f32) (g : FVec Ideal S1024 .f32) (p : Fin 32) (q : Fin 8) (j : Fin 1024) :
    NORM x g (ix3 p q j) = rms (fun k => x (ix3 p q k)) (fun k => g (ix1 k)) j :=
  r_rms x g _ _ _ _ _ _ _ p q j

/-- Half the gated feed-forward of `h`, added to `x`. -/
def FEED (x h : FVec Ideal S32x8x1024 .f32) (wg wu : FVec Ideal S1024x2816 .f32) (wd : FVec Ideal S2816x1024 .f32) : FVec Ideal S32x8x1024 .f32 :=
  addf x (mulf (broadcastInDim S32x8x1024 ![] bcast_S_S32x8x1024 (constant S_ .f32 0x3F000000#32)) (Host.dotGeneral dot_S32x8x2816_S2816x1024_S32x8x1024_2_0_01_1_n_n none (mulf (mulf (Host.dotGeneral dot_S32x8x1024_S1024x2816_S32x8x2816_2_0_01_1_n_n none h wg)
    (Host.divf (broadcastInDim S32x8x2816 ![] bcast_S_S32x8x2816 (constant S_ .f32 0x3F800000#32)) (addf (broadcastInDim S32x8x2816 ![] bcast_S_S32x8x2816 (constant S_ .f32 0x3F800000#32)) (Host.exp (Host.negf (Host.dotGeneral dot_S32x8x1024_S1024x2816_S32x8x2816_2_0_01_1_n_n none h wg))))))
    (Host.dotGeneral dot_S32x8x1024_S1024x2816_S32x8x2816_2_0_01_1_n_n none h wu)) wd))

theorem FEED_apply (x h : FVec Ideal S32x8x1024 .f32) (wg wu : FVec Ideal S1024x2816 .f32) (wd : FVec Ideal S2816x1024 .f32) (p : Fin 32) (q : Fin 8) (j : Fin 1024) :
    FEED x h wg wu wd (ix3 p q j) = swi (fun k => x (ix3 p q k)) (fun k => h (ix3 p q k)) (fun k f => wg (ix2 k f)) (fun k f => wu (ix2 k f)) (fun f k => wd (ix2 f k)) j :=
  r_swi x h wg wu wd dot_S32x8x1024_S1024x2816_S32x8x2816_2_0_01_1_n_n dot_S32x8x2816_S2816x1024_S32x8x1024_2_0_01_1_n_n ⟨_, rfl⟩ ⟨_, rfl⟩ _ _ p q j

/-- The two branches gated, merged, projected and added. -/
def MERGE (x cv at_ gc ga : FVec Ideal S32x8x1024 .f32) (wpa wo : FVec Ideal S1024x1024 .f32) : FVec Ideal S32x8x1024 .f32 :=
  addf x (Host.dotGeneral dot_S32x8x1024_S1024x1024_S32x8x1024_2_0_01_1_n_n none (addf (mulf (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf gc)))) cv)
    (mulf (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf ga)))) (Host.dotGeneral dot_S32x8x1024_S1024x1024_S32x8x1024_2_0_01_1_n_n none at_ wpa))) wo)

theorem MERGE_apply (x cv at_ gc ga : FVec Ideal S32x8x1024 .f32) (wpa wo : FVec Ideal S1024x1024 .f32) (p : Fin 32) (q : Fin 8) (j : Fin 1024) :
    MERGE x cv at_ gc ga wpa wo (ix3 p q j) = merged (fun k => x (ix3 p q k)) (fun k => cv (ix3 p q k)) (fun k => at_ (ix3 p q k)) (fun k => gc (ix3 p q k)) (fun k => ga (ix3 p q k))
      (fun k f => wpa (ix2 k f)) (fun k f => wo (ix2 k f)) j :=
  r_merged x cv at_ gc ga wpa wo dot_S32x8x1024_S1024x1024_S32x8x1024_2_0_01_1_n_n ⟨_, rfl⟩ _ p q j

/-- The reference's array. -/
def RES (x cv at_ gc ga : FVec Ideal S32x8x1024 .f32) (wpa wo : FVec Ideal S1024x1024 .f32) (g : FVec Ideal S1024 .f32) (wg wu : FVec Ideal S1024x2816 .f32) (wd : FVec Ideal S2816x1024 .f32) (gf : FVec Ideal S1024 .f32) : FVec Ideal S256x1024 .f32 :=
  shapeCast S256x1024 (NORM (FEED (MERGE x cv at_ gc ga wpa wo) (NORM (MERGE x cv at_ gc ga wpa wo) g) wg wu wd) gf) shapeCasts_S32x8x1024_S256x1024

/-- The reference's array, token by token. -/
theorem RES_eq (x cv at_ gc ga : FVec Ideal S32x8x1024 .f32) (wpa wo : FVec Ideal S1024x1024 .f32) (g : FVec Ideal S1024 .f32) (wg wu : FVec Ideal S1024x2816 .f32) (wd : FVec Ideal S2816x1024 .f32) (gf : FVec Ideal S1024 .f32) : RES x cv at_ gc ga wpa wo g wg wu wd gf = finishArr (b := 32) (t := 8) rfl x cv at_ gc ga wpa wo g wg wu wd gf := by
  refine flat_rows (b := 32) (t := 8) rfl _ _ _ fun r k => ?_
  unfold tok
  rw [NORM_apply]
  simp only [FEED_apply, NORM_apply, MERGE_apply]
  rfl

/-- The reference's run leaves this array. -/
theorem res_eq (m : (ℓ : Loc nD τ sig) → Buf (Elt Ideal) ℓ) (c : Dev nD) :
    Value.res_main_v52 m c = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.SampleRefIdeal.Call

namespace Cert.SampleIdeal.Call

open Cert.SampleIdeal Cert.SampleIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Rows

abbrev X := FVec Ideal S32x8x1024 .f32

/-- The host's logistic of the gates. -/
def GATE (x : X) : X := (Host.divf (broadcastInDim S32x8x1024 ![] bcast_S_S32x8x1024 (constant S_ .f32 0x3F800000#32)) (addf (broadcastInDim S32x8x1024 ![] bcast_S_S32x8x1024 (constant S_ .f32 0x3F800000#32)) (Host.exp (Host.negf x))))

theorem GATE_apply (x : X) (i) : GATE x i = Ideal.logistic (x i) := r_logistic _ x i

/-! ## Where the blocks lie -/

/-- The windows that show a tile of tokens. -/
theorem tokens : ∀ t : Fin grid0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_12.index t 0 = t.val ∧ win0_12.index t 1 = 0) := by decide +kernel

/-- The windows that show a whole array. -/
theorem starts : ∀ t : Fin grid0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) := by decide +kernel

/-- A row of a tile, among all rows. -/
abbrev deep (t : Fin cfg0.N) (r : Fin 256) : Fin 256 := ⟨256 * t.val + r.val, by have h : t.val < 1 := t.isLt; omega⟩

section Blocks
variable (m : (ℓ : Loc nD τ sig) → Buf (Elt Ideal) ℓ) (c : Dev nD) (t : Fin cfg0.N)

/-- What the call's arrays hold when it starts. -/
theorem entries : V m c main_v19 = (shapeCast S256x1024 (m ((c.tc : Thread nD τ).loc main_arg0) : X) shapeCasts_S32x8x1024_S256x1024 : FVec Ideal S256x1024 .f32)
    ∧ V m c main_v0 = (shapeCast S256x1024 (m ((c.tc : Thread nD τ).loc main_arg1) : X) shapeCasts_S32x8x1024_S256x1024 : FVec Ideal S256x1024 .f32)
    ∧ V m c main_v2 = (shapeCast S256x1024 (truncf .bf16 (m ((c.tc : Thread nD τ).loc main_arg2) : X) bitsLt_bf16_f32) shapeCasts_S32x8x1024_S256x1024 : FVec Ideal S256x1024 .bf16)
    ∧ V m c main_v9 = (shapeCast S256x1024 (GATE (m ((c.tc : Thread nD τ).loc main_arg3) : X)) shapeCasts_S32x8x1024_S256x1024 : FVec Ideal S256x1024 .f32)
    ∧ V m c main_v16 = (shapeCast S256x1024 (GATE (m ((c.tc : Thread nD τ).loc main_arg4) : X)) shapeCasts_S32x8x1024_S256x1024 : FVec Ideal S256x1024 .f32)
    ∧ V m c main_v17 = (truncf .bf16 (m ((c.tc : Thread nD τ).loc main_arg5) : FVec Ideal S1024x1024 .f32) bitsLt_bf16_f32 : FVec Ideal S1024x1024 .bf16)
    ∧ V m c main_v18 = (truncf .bf16 (m ((c.tc : Thread nD τ).loc main_arg6) : FVec Ideal S1024x1024 .f32) bitsLt_bf16_f32 : FVec Ideal S1024x1024 .bf16)
    ∧ V m c main_v23 = (shapeCast S1x1024 (m ((c.tc : Thread nD τ).loc main_arg7) : FVec Ideal S1024 .f32) shapeCasts_S1024_S1x1024 : FVec Ideal S1x1024 .f32)
    ∧ V m c main_v20 = (truncf .bf16 (m ((c.tc : Thread nD τ).loc main_arg8) : FVec Ideal S1024x2816 .f32) bitsLt_bf16_f32 : FVec Ideal S1024x2816 .bf16)
    ∧ V m c main_v21 = (truncf .bf16 (m ((c.tc : Thread nD τ).loc main_arg9) : FVec Ideal S1024x2816 .f32) bitsLt_bf16_f32 : FVec Ideal S1024x2816 .bf16)
    ∧ V m c main_v22 = (truncf .bf16 (m ((c.tc : Thread nD τ).loc main_arg10) : FVec Ideal S2816x1024 .f32) bitsLt_bf16_f32 : FVec Ideal S2816x1024 .bf16)
    ∧ V m c main_v24 = (shapeCast S1x1024 (m ((c.tc : Thread nD τ).loc main_arg11) : FVec Ideal S1024 .f32) shapeCasts_S1024_S1x1024 : FVec Ideal S1x1024 .f32) := by
  refine ⟨?_, ?_, ?_, ?_, ?_, ?_, ?_, ?_, ?_, ?_, ?_, ?_⟩ <;> unfold V <;> after_results_simp <;> rfl

/-- The rows of all tokens, in any of the windows that show a tile of them. -/
theorem shown {B : X} {A : (Mat 256 1024).Idx → EReal} (hA : A = shapeCast S256x1024 B shapeCasts_S32x8x1024_S256x1024) {e : (Mat 256 1024).Idx → (Mat 256 1024).Idx}
    (he : ∀ i, e i = ix2 (deep t (i 0 : Fin 256)) (i 1 : Fin 1024)) (r : Fin 256) (k : Fin 1024) : A (e (ix2 r k)) = tok (b := 32) (t := 8) rfl B (deep t r) k :=
  seen_tokens (n := 256) (d := 1024) (N := 256) (b := 32) (t := 8) (u := t.val) (B := B) (A := A) (e := e) rfl hA (fun r => (deep t r).isLt) he r k

theorem blk0 (r : Fin 256) (k : Fin 1024) : iblk m c 0 t (ix2 r k) = tok (b := 32) (t := 8) rfl (m ((c.tc : Thread nD τ).loc main_arg0) : X) (deep t r) k :=
  (shown t (e := (win0_0.rect t).emb) (entries m c).1 (fun i => place win0_0 rfl t i _ (tile (tokens t).1 i (deep t (i 0)).isLt)) r k :)

theorem blk1 (r : Fin 256) (k : Fin 1024) : iblk m c 1 t (ix2 r k) = tok (b := 32) (t := 8) rfl (m ((c.tc : Thread nD τ).loc main_arg1) : X) (deep t r) k :=
  (shown t (e := (win0_1.rect t).emb) (entries m c).2.1 (fun i => place win0_1 rfl t i _ (tile (tokens t).2.1 i (deep t (i 0)).isLt)) r k :)

/-- The attention's rows, cast on the host. -/
theorem blk2 (r : Fin 256) (k : Fin 1024) : iblk m c 2 t (ix2 r k) = tok (b := 32) (t := 8) rfl (m ((c.tc : Thread nD τ).loc main_arg2) : X) (deep t r) k :=
  (shown t (e := (win0_2.rect t).emb) (entries m c).2.2.1 (fun i => place win0_2 rfl t i _ (tile (tokens t).2.2.1 i (deep t (i 0)).isLt)) r k :)

/-- The convolution's gates, after the host's sigmoid. -/
theorem blk3 (r : Fin 256) (k : Fin 1024) : iblk m c 3 t (ix2 r k) = Ideal.logistic (tok (b := 32) (t := 8) rfl (m ((c.tc : Thread nD τ).loc main_arg3) : X) (deep t r) k) :=
  ((shown t (e := (win0_3.rect t).emb) (entries m c).2.2.2.1 (fun i => place win0_3 rfl t i _ (tile (tokens t).2.2.2.1 i (deep t (i 0)).isLt)) r k).trans (GATE_apply _ _) :)

/-- The attention's gates, after the host's sigmoid. -/
theorem blk4 (r : Fin 256) (k : Fin 1024) : iblk m c 4 t (ix2 r k) = Ideal.logistic (tok (b := 32) (t := 8) rfl (m ((c.tc : Thread nD τ).loc main_arg4) : X) (deep t r) k) :=
  ((shown t (e := (win0_4.rect t).emb) (entries m c).2.2.2.2.1 (fun i => place win0_4 rfl t i _ (tile (tokens t).2.2.2.2.1 i (deep t (i 0)).isLt)) r k).trans (GATE_apply _ _) :)

theorem blk5 (k : Fin 1024) (f : Fin 1024) : iblk m c 5 t (ix2 k f) = (m ((c.tc : Thread nD τ).loc main_arg5) : FVec Ideal S1024x1024 .f32) (ix2 k f) :=
  (seen_weight (entries m c).2.2.2.2.2.1 (fun i => place win0_5 rfl t i i (whole (starts t).1 i)) k f :)

theorem blk6 (k : Fin 1024) (f : Fin 1024) : iblk m c 6 t (ix2 k f) = (m ((c.tc : Thread nD τ).loc main_arg6) : FVec Ideal S1024x1024 .f32) (ix2 k f) :=
  (seen_weight (entries m c).2.2.2.2.2.2.1 (fun i => place win0_6 rfl t i i (whole (starts t).2.1 i)) k f :)

theorem blk7 (k : Fin 1024) : iblk m c 7 t (ix2 (0 : Fin 1) k) = (m ((c.tc : Thread nD τ).loc main_arg7) : FVec Ideal S1024 .f32) (ix1 k) :=
  (seen_scales (entries m c).2.2.2.2.2.2.2.1 (fun i => place win0_7 rfl t i i (whole (starts t).2.2.1 i)) k :)

theorem blk8 (k : Fin 1024) (f : Fin 2816) : iblk m c 8 t (ix2 k f) = (m ((c.tc : Thread nD τ).loc main_arg8) : FVec Ideal S1024x2816 .f32) (ix2 k f) :=
  (seen_weight (entries m c).2.2.2.2.2.2.2.2.1 (fun i => place win0_8 rfl t i i (whole (starts t).2.2.2.1 i)) k f :)

theorem blk9 (k : Fin 1024) (f : Fin 2816) : iblk m c 9 t (ix2 k f) = (m ((c.tc : Thread nD τ).loc main_arg9) : FVec Ideal S1024x2816 .f32) (ix2 k f) :=
  (seen_weight (entries m c).2.2.2.2.2.2.2.2.2.1 (fun i => place win0_9 rfl t i i (whole (starts t).2.2.2.2.1 i)) k f :)

theorem blk10 (k : Fin 2816) (f : Fin 1024) : iblk m c 10 t (ix2 k f) = (m ((c.tc : Thread nD τ).loc main_arg10) : FVec Ideal S2816x1024 .f32) (ix2 k f) :=
  (seen_weight (entries m c).2.2.2.2.2.2.2.2.2.2.1 (fun i => place win0_10 rfl t i i (whole (starts t).2.2.2.2.2.1 i)) k f :)

theorem blk11 (k : Fin 1024) : iblk m c 11 t (ix2 (0 : Fin 1) k) = (m ((c.tc : Thread nD τ).loc main_arg11) : FVec Ideal S1024 .f32) (ix1 k) :=
  (seen_scales (entries m c).2.2.2.2.2.2.2.2.2.2.2 (fun i => place win0_11 rfl t i i (whole (starts t).2.2.2.2.2.2 i)) k :)

end Blocks

/-! ## What a grid point stores -/

/-- What a grid point leaves of its tile, from its blocks' rows: its tile has the size of the prompt's. -/
theorem ends (x0 : Vec Ideal S256x1024 .f32) (x1 : Vec Ideal S256x1024 .f32) (x2 : Vec Ideal S256x1024 .bf16) (x3 : Vec Ideal S256x1024 .f32) (x4 : Vec Ideal S256x1024 .f32) (x5 : Vec Ideal S1024x1024 .bf16) (x6 : Vec Ideal S1024x1024 .bf16) (x7 : Vec Ideal S1x1024 .f32) (x8 : Vec Ideal S1024x2816 .bf16) (x9 : Vec Ideal S1024x2816 .bf16) (x10 : Vec Ideal S2816x1024 .bf16) (x11 : Vec Ideal S1x1024 .f32) (r : Fin 256) (j : Fin 1024)
    (X C A LC LA G GF : Fin 1024 → EReal) (WP WO : Fin 1024 → Fin 1024 → EReal) (WG WU : Fin 1024 → Fin 2816 → EReal) (WD : Fin 2816 → Fin 1024 → EReal)
    (h0 : ∀ k, x0 (ix2 r k) = X k) (h1 : ∀ k, x1 (ix2 r k) = C k) (h2 : ∀ k, x2 (ix2 r k) = A k) (h3 : ∀ k, x3 (ix2 r k) = Ideal.logistic (LC k)) (h4 : ∀ k, x4 (ix2 r k) = Ideal.logistic (LA k))
    (h5 : ∀ k f, x5 (ix2 k f) = WP k f) (h6 : ∀ k f, x6 (ix2 k f) = WO k f) (h7 : ∀ k, x7 (ix2 (0 : Fin 1) k) = G k) (h8 : ∀ k f, x8 (ix2 k f) = WG k f) (h9 : ∀ k f, x9 (ix2 k f) = WU k f)
    (h10 : ∀ k f, x10 (ix2 k f) = WD k f) (h11 : ∀ k, x11 (ix2 (0 : Fin 1) k) = GF k) :
    out0_12 x0 x1 x2 x3 x4 x5 x6 x7 x8 x9 x10 x11 (ix2 r j) = finish X C A LC LA WP WO G WG WU WD GF j :=
  Cert.FinishIdeal.Call.ends x0 x1 x2 x3 x4 x5 x6 x7 x8 x9 x10 x11 r j X C A LC LA G GF WP WO WG WU WD h0 h1 h2 h3 h4 h5 h6 h7 h8 h9 h10 h11

section Array
variable (m : (ℓ : Loc nD τ sig) → Buf (Elt Ideal) ℓ) (c : Dev nD)

/-- The result, token by token, from the call's arguments. -/
def goal : FVec Ideal S256x1024 .f32 :=
  finishArr (b := 32) (t := 8) rfl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem left_apply (t : Fin cfg0.N) (r : Fin 256) (j : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = goal m c (ix2 (deep t r) j) := by
  exact ends _ _ _ _ _ _ _ _ _ _ _ _ r j _ _ _ _ _ _ _ _ _ _ _ _ (blk0 m c t r) (blk1 m c t r) (blk2 m c t r) (blk3 m c t r) (blk4 m c t r) (blk5 m c t) (blk6 m c t) (blk7 m c t) (blk8 m c t) (blk9 m c t) (blk10 m c t) (blk11 m c t)

theorem flushed_goal (t : Fin cfg0.N) : (dats m 0 c).flushed 12 t = ((cfg0.win 12).blk t).view.read (Elt Ideal) (goal m c) :=
  (Value.flushed12 m c t).trans (funext fun i => (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (both (n := 256) (d := 1024) i)).trans
    ((left_apply m c t (i 0) (i 1)).trans (congrArg (goal m c) (place win0_12 rfl t i _ (tile (tokens t).2.2.2.2.2 i (deep t (i 0)).isLt)).symm)))

/-- THE RESULT ARRAY is the reference's. -/
theorem array_eq : (dats m 0 c).arrAt 12 cfg0.N = goal m c :=
  (dats m 0 c).arrAt_eq_of_cover 12 (goal m c) (fun t _ => flushed_goal m c t) fun i => by
    obtain ⟨t, ht⟩ : ∃ t : Fin grid0.N, t.val = (i 0).val / 256 := ⟨(⟨(i 0).val / 256, Nat.div_lt_of_lt_mul (i 0).isLt⟩ : Fin 1), rfl⟩
    refine ⟨t, flush0_12 t, ?_⟩
    show i ∈ ((View.whole main_v25).slice (win0_12.rect t)).set
    rw [View.set_slice_whole, Rect.mem_set_unit]
    exact within (n := 256) (tokens t).2.2.2.2.2 i (by decide) ht

end Array

end Cert.SampleIdeal.Call

end
-- ==== Proof.Parts.lean ====
module
public import proofs.«01_k».proof.Proof.Rows
@[expose] public section

/-! # The projections of one token

What the call that projects the normed token and its reference compute for one token: the parts of one product with
the whole weight, gated or under the logarithm of the sigmoid. Then the kernel's and the reference's own operations,
at any sizes, as these row functions. -/

set_option maxRecDepth 16384

noncomputable section

namespace Cert.Rows

open Idealize.ShloMosaic hiding ix1 ix2 ix3 ix4 ix5
open Idealize.ShloMosaic.ValueIdx

/-! ## The row functions -/

/-- Place `f` of the part of a row that starts at `o`. -/
def part {d H : ℕ} (o : ℕ) (h : o + d ≤ H) (f : Fin d) : Fin H := ⟨o + f.val, by omega⟩

/-- The logarithm of the sigmoid, as both programs spell it. -/
def logsig (z : EReal) : EReal := -(max (-z) 0 + Ideal.log1p (Ideal.exp (-(max (-z) (-(-z))))))

/-- A gated part. -/
def glu {H d : ℕ} (y : Fin H → EReal) (a b : ℕ) (ha : a + d ≤ H) (hb : b + d ≤ H) (j : Fin d) : EReal := y (part a ha j) * Ideal.logistic (y (part b hb j))

/-! ## The kernel's operations -/

theorem differ (a : EReal) : Ideal.cmp .one a a = 0#1 ∧ Ideal.cmp .une a a = 0#1 := by
  constructor <;> simp [Ideal.cmp]

theorem pick {α : Type} (a b : α) : Scalar.select 0#1 a b = b := if_neg (by decide)

/-- The kernel's logarithm of the sigmoid. -/
theorem k_logsig {s : Shape} (z : FVec Ideal s .f32) (i : s.Idx) :
    subf (broadcast s (Scalar.ofBits .f32 0x00000000#32)) (select (cmpf .one (subf (subf (broadcast s (Scalar.ofBits .f32 0x00000000#32)) z) (broadcast s (Scalar.ofBits .f32 0x00000000#32)))
      (subf (subf (broadcast s (Scalar.ofBits .f32 0x00000000#32)) z) (broadcast s (Scalar.ofBits .f32 0x00000000#32))))
      (addf (subf (broadcast s (Scalar.ofBits .f32 0x00000000#32)) z) (broadcast s (Scalar.ofBits .f32 0x00000000#32)))
      (addf (maximumf (subf (broadcast s (Scalar.ofBits .f32 0x00000000#32)) z) (broadcast s (Scalar.ofBits .f32 0x00000000#32)))
        (log1p (exp (subf (broadcast s (Scalar.ofBits .f32 0x00000000#32)) (absf (subf (subf (broadcast s (Scalar.ofBits .f32 0x00000000#32)) z) (broadcast s (Scalar.ofBits .f32 0x00000000#32))))))))) i
      = logsig (z i) := by
  show Ideal.ofBits .f32 0x00000000#32 - Scalar.select (Ideal.cmp .one (Ideal.ofBits .f32 0x00000000#32 - z i - Ideal.ofBits .f32 0x00000000#32) (Ideal.ofBits .f32 0x00000000#32 - z i - Ideal.ofBits .f32 0x00000000#32))
    (Ideal.ofBits .f32 0x00000000#32 - z i + Ideal.ofBits .f32 0x00000000#32)
    (max (Ideal.ofBits .f32 0x00000000#32 - z i) (Ideal.ofBits .f32 0x00000000#32) + Ideal.log1p (Ideal.exp (Ideal.ofBits .f32 0x00000000#32
      - max (Ideal.ofBits .f32 0x00000000#32 - z i - Ideal.ofBits .f32 0x00000000#32) (-(Ideal.ofBits .f32 0x00000000#32 - z i - Ideal.ofBits .f32 0x00000000#32))))) = _
  rw [Ideal.ofBits_zero_f32, (differ _).1, pick]
  unfold logsig
  simp only [zero_sub, sub_zero]

/-- A kernel's product with a transposed weight, transposed, with a zero accumulator. -/
theorem k_dot_nt {n D H : ℕ} {φ₁ φ₂ : FTy} (d : DotDims (Mat H D) (Mat n D) (Mat H n))
    (hd : ∃ wf, d = { lhsContracting := [1], rhsContracting := [1], lhsNonContracting := [0], rhsNonContracting := [0], lhsBatch := [], rhsBatch := [], wf := wf })
    (w : FVec Ideal (Mat H D) φ₁) (a : FVec Ideal (Mat n D) φ₂) (j : Fin H) (r : Fin n) :
    matmul d none w a (constant (Mat H n) .f32 0x00000000#32) (ix2 j r) = prod (fun k => a (ix2 r k)) (fun k f => w (ix2 f k)) j := by
  obtain ⟨wf, rfl⟩ := hd
  refine (Ideal.matmul_constant_zero_apply _ none w a (ix2 j r)).trans ?_
  rw [DotDims.sum_contr₁ _ (a := 1) rfl (K := D) rfl]
  unfold prod
  refine Finset.sum_congr rfl fun k _ => (congrArg₂ (· * ·) (congrArg w ?_) (congrArg a ?_)).trans (mul_comm _ _)
  · funext x; apply Fin.ext
    match x with | ⟨0, _⟩ => rfl | ⟨1, _⟩ => rfl
  · funext x; apply Fin.ext
    match x with | ⟨0, _⟩ => rfl | ⟨1, _⟩ => rfl

/-- A product with a part of the weight is that part of the product. -/
theorem prod_part {D H d : ℕ} (x : Fin D → EReal) (w : Fin D → Fin H → EReal) (v : Fin D → Fin d → EReal) (o : ℕ) (h : o + d ≤ H)
    (hv : ∀ k f, v k f = w k (part o h f)) (j : Fin d) : prod x v j = prod x w (part o h j) := by
  unfold prod
  exact Finset.sum_congr rfl fun k _ => congrArg (x k * ·) (hv k j)

/-! ## Parts of arrays -/

/-- The columns of a matrix from `o` on. -/
theorem cols {α : Type} {D H d o : ℕ} (x : (Mat D H).Idx → α) (h : (Mat D H).Slices ![0, o] (Mat D d)) (ho : o + d ≤ H) (k : Fin D) (f : Fin d) :
    extractStridedSlice (Mat D d) ![0, o] x h (ix2 k f) = x (ix2 k (part o ho f)) :=
  extractStridedSlice_apply ![0, o] x h (ix2 k f) (ix2 k (part o ho f)) fun a => by
    match a with
    | ⟨0, _⟩ => show k.val = 0 + k.val; omega
    | ⟨1, _⟩ => rfl

/-- The numbers of every token's row from `o` on. -/
theorem rows_from {α : Type} {b t H d o : ℕ} (x : (Cube b t H).Idx → α) (h : (Cube b t H).Slices ![0, 0, o] (Cube b t d)) (ho : o + d ≤ H) (p : Fin b) (q : Fin t) (f : Fin d) :
    extractStridedSlice (Cube b t d) ![0, 0, o] x h (ix3 p q f) = x (ix3 p q (part o ho f)) :=
  extractStridedSlice_apply ![0, 0, o] x h (ix3 p q f) (ix3 p q (part o ho f)) fun a => by
    match a with
    | ⟨0, _⟩ => show p.val = 0 + p.val; omega
    | ⟨1, _⟩ => show q.val = 0 + q.val; omega
    | ⟨2, _⟩ => rfl

/-- The reference's logarithm of the sigmoid. -/
theorem r_logsig {s : Shape} (h : One.BroadcastsInDim s ![]) (z : FVec Ideal s .f32) (i : s.Idx) :
    Host.negf (select (cmpf .une (subf (Host.negf z) (broadcastInDim s ![] h (constant One .f32 0x00000000#32))) (subf (Host.negf z) (broadcastInDim s ![] h (constant One .f32 0x00000000#32))))
      (addf (Host.negf z) (broadcastInDim s ![] h (constant One .f32 0x00000000#32)))
      (addf (maximumf (Host.negf z) (broadcastInDim s ![] h (constant One .f32 0x00000000#32)))
        (Host.log1p (Host.exp (Host.negf (Host.absf (subf (Host.negf z) (broadcastInDim s ![] h (constant One .f32 0x00000000#32))))))))) i
      = logsig (z i) := by
  show -(Scalar.select (Ideal.cmp .une (-(z i) - Ideal.ofBits .f32 0x00000000#32) (-(z i) - Ideal.ofBits .f32 0x00000000#32))
    (-(z i) + Ideal.ofBits .f32 0x00000000#32)
    (max (-(z i)) (Ideal.ofBits .f32 0x00000000#32) + Ideal.log1p (Ideal.exp (-(max (-(z i) - Ideal.ofBits .f32 0x00000000#32) (-(-(z i) - Ideal.ofBits .f32 0x00000000#32))))))) = _
  rw [Ideal.ofBits_zero_f32, (differ _).2, pick]
  unfold logsig
  simp only [sub_zero]

/-- A row of numbers added to every token's row. -/
theorem r_bias {b t d : ℕ} (v : FVec Ideal (Lin d) .f32) (h1 : (Lin d).BroadcastsInDim (Cube 1 1 d) ![2]) (h2 : (Cube 1 1 d).BroadcastsInDim (Cube b t d) ![0, 1, 2])
    (p : Fin b) (q : Fin t) (j : Fin d) : broadcastInDim (Cube b t d) ![0, 1, 2] h2 (broadcastInDim (Cube 1 1 d) ![2] h1 v) (ix3 p q j) = v (ix1 j) := by
  rw [broadcastInDim_apply _ h2 _ (ix3 p q j) (ix3 (0 : Fin 1) (0 : Fin 1) j) (fun a => by
      have hj := j.isLt
      match a with
      | ⟨0, _⟩ => rfl
      | ⟨1, _⟩ => rfl
      | ⟨2, _⟩ => show j.val = if d = 1 then 0 else j.val; split <;> omega),
    broadcastInDim_apply _ h1 v (ix3 (0 : Fin 1) (0 : Fin 1) j) (ix1 j) (fun a => by
      have hj := j.isLt
      match a with
      | ⟨0, _⟩ => show j.val = if d = 1 then 0 else j.val; split <;> omega)]

/-! ## Indices -/

/-- The three coordinates of an index make it. -/
theorem three {b n d : ℕ} (i : (Cube b n d).Idx) : i = ix3 (i 0 : Fin b) (i 1 : Fin n) (i 2 : Fin d) := funext fun a => by
  match a with
  | ⟨0, _⟩ => rfl
  | ⟨1, _⟩ => rfl
  | ⟨2, _⟩ => rfl

/-- Two arrays that agree at every place named by coordinates. -/
theorem cube_ext {α : Type} {b n d : ℕ} {f g : (Cube b n d).Idx → α} (h : ∀ p q j, f (ix3 p q j) = g (ix3 p q j)) : f = g := funext fun i => by
  rw [three i]
  exact h _ _ _

end Cert.Rows

end
-- ==== Proof.ProjectCall.lean ====
module
public import proofs.«01_k».proof.Proof.Parts
public import proofs.«01_k».proof.Proof.FirstCall
public import proofs.«01_k».proof.Proof.Gen.ProjectIdeal.Value
public import Idealize.ShloMosaic.Lib.Pipeline.ValueKit
public import proofs.«01_k».proof.Proof.Gen.ProjectRefIdeal.Run
@[expose] public section

/-! # The prompt's projections

Every block a grid point writes back holds the projections of the tokens of its tile, the keys and values with the
tokens last, and the blocks cover the arrays. The reference's arrays are the same. -/

set_option maxRecDepth 16384

noncomputable section

namespace Cert.Rows

open Idealize.ShloMosaic hiding ix1 ix2 ix3 ix4 ix5
open Idealize.ShloMosaic.ValueIdx

/-! ## The arrays, token by token -/

section Arrays
variable (x : (Cube 4 8192 1024).Idx → EReal) (g : (Lin 1024).Idx → EReal) (w : (Mat 1024 7184).Idx → EReal) (b : (Lin 16).Idx → EReal)

/-- The product of a token's normed row with the whole weight. -/
def proj (p : Fin 4) (q : Fin 8192) : Fin 7184 → EReal := prod (rms (fun k => x (ix3 p q k)) (fun k => g (ix1 k))) (fun k f => w (ix2 k f))

/-- The gated convolution input. -/
def gluArr : (Cube 4 8192 1024).Idx → EReal := fun i => glu (d := 1024) (proj x g w (i 0) (i 1)) 0 1024 (by omega) (by omega) (i 2 : Fin 1024)
/-- The part from `o` on, with the tokens last. -/
def lastArr (o : ℕ) (h : o + 1024 ≤ 7184) : (Cube 4 1024 8192).Idx → EReal := fun i => proj x g w (i 0) (i 2) (part o h (i 1 : Fin 1024))
/-- The sigmoid of the part from `o` on. -/
def gateArr (o : ℕ) (h : o + 1024 ≤ 7184) : (Cube 4 8192 1024).Idx → EReal := fun i => Ideal.logistic (proj x g w (i 0) (i 1) (part o h (i 2 : Fin 1024)))
/-- The logarithms of the forget gates. -/
def forgetArr : (Cube 4 8192 16).Idx → EReal := fun i => logsig (proj x g w (i 0) (i 1) (part (d := 16) 5120 (by omega) (i 2 : Fin 16)) + b (ix1 (i 2 : Fin 16)))

end Arrays

end Cert.Rows

namespace Cert.ProjectRefIdeal.Call

open Cert.ProjectRefIdeal Cert.ProjectRefIdeal.Gen
open Idealize.ShloMosaic hiding ix1 ix2 ix3 ix4 ix5
open Idealize.ShloMosaic.TcCoe
open Idealize.ShloMosaic.ValueIdx
open Idealize.SL.Sem
open Cert.Rows
open Cert.FirstRefIdeal.Call (NORM NORM_apply)

/-- The reference's product. -/
def ALL (x : FVec Ideal S4x8192x1024 .f32) (g : FVec Ideal S1024 .f32) (w : FVec Ideal S1024x7184 .f32) : FVec Ideal S4x8192x7184 .f32 :=
  Host.dotGeneral dot_S4x8192x1024_S1024x7184_S4x8192x7184_2_0_01_1_n_n none (NORM x g) w

theorem ALL_apply (x : FVec Ideal S4x8192x1024 .f32) (g : FVec Ideal S1024 .f32) (w : FVec Ideal S1024x7184 .f32) (p : Fin 4) (q : Fin 8192) (j : Fin 7184) :
    ALL x g w (ix3 p q j) = proj x g w p q j := by
  refine (r_dot dot_S4x8192x1024_S1024x7184_S4x8192x7184_2_0_01_1_n_n ⟨_, rfl⟩ (NORM x g) w p q j).trans ?_
  unfold proj
  exact congrArg (fun y => prod y (fun k f => w (ix2 k f)) j) (funext fun k => NORM_apply x g p q k)

/-- The part of the product from `o` on, token by token. -/
theorem part_apply {d o : ℕ} (x : FVec Ideal S4x8192x1024 .f32) (g : FVec Ideal S1024 .f32) (w : FVec Ideal S1024x7184 .f32) (h : S4x8192x7184.Slices ![0, 0, o] (Cube 4 8192 d))
    (ho : o + d ≤ 7184) (p : Fin 4) (q : Fin 8192) (j : Fin d) : extractStridedSlice (Cube 4 8192 d) ![0, 0, o] (ALL x g w) h (ix3 p q j) = proj x g w p q (part o ho j) :=
  (rows_from (b := 4) (t := 8192) (H := 7184) (ALL x g w) h ho p q j).trans (ALL_apply x g w p q _)

/-- The reference's sigmoid. -/
def SIG (z : FVec Ideal S4x8192x1024 .f32) : FVec Ideal S4x8192x1024 .f32 :=
  Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf z)))

section Arrays
variable (x : FVec Ideal S4x8192x1024 .f32) (g : FVec Ideal S1024 .f32) (w : FVec Ideal S1024x7184 .f32) (b : FVec Ideal S16 .f32)

theorem glu_eq : mulf (extractStridedSlice S4x8192x1024 ![0, 0, 0] (ALL x g w) slices_S4x8192x7184_S4x8192x1024_0_0_0)
    (SIG (extractStridedSlice S4x8192x1024 ![0, 0, 1024] (ALL x g w) slices_S4x8192x7184_S4x8192x1024_0_0_1024)) = gluArr x g w :=
  cube_ext (b := 4) (n := 8192) (d := 1024) fun p q j =>
    congrArg₂ (· * ·) (part_apply (d := 1024) x g w _ _ p q j) ((r_logistic _ _ (ix3 p q j)).trans (congrArg Ideal.logistic (part_apply (d := 1024) x g w _ _ p q j)))

theorem gate_eq {o : ℕ} (h : S4x8192x7184.Slices ![0, 0, o] S4x8192x1024) (ho : o + 1024 ≤ 7184) :
    SIG (extractStridedSlice S4x8192x1024 ![0, 0, o] (ALL x g w) h) = gateArr x g w o ho :=
  cube_ext (b := 4) (n := 8192) (d := 1024) fun p q j => (r_logistic _ _ (ix3 p q j)).trans (congrArg Ideal.logistic (part_apply (d := 1024) x g w h ho p q j))

theorem last_eq {o : ℕ} (h : S4x8192x7184.Slices ![0, 0, o] S4x8192x1024) (ho : o + 1024 ≤ 7184) :
    transpose S4x1024x8192 [0, 2, 1] (extractStridedSlice S4x8192x1024 ![0, 0, o] (ALL x g w) h) transposes_S4x8192x1024_S4x1024x8192_0_2_1 = lastArr x g w o ho :=
  cube_ext (b := 4) (n := 1024) (d := 8192) fun p j q => (transpose_ix3_021_apply (m := 4) (a := 8192) (b := 1024) _ _ p j q).trans (part_apply (d := 1024) x g w h ho p q j)

/-- The forget gates before their logarithm. -/
def RAW : FVec Ideal S4x8192x16 .f32 :=
  addf (extractStridedSlice S4x8192x16 ![0, 0, 5120] (ALL x g w) slices_S4x8192x7184_S4x8192x16_0_0_5120) (broadcastInDim S4x8192x16 ![0, 1, 2] bcast_S1x1x16_S4x8192x16_0_1_2 (broadcastInDim S1x1x16 ![2] bcast_S16_S1x1x16_2 b))

theorem RAW_apply (p : Fin 4) (q : Fin 8192) (j : Fin 16) : RAW x g w b (ix3 p q j) = proj x g w p q (part 5120 (by omega) j) + b (ix1 j) :=
  congrArg₂ (· + ·) (part_apply (d := 16) x g w _ _ p q j) (r_bias (b := 4) (t := 8192) (d := 16) b _ _ p q j)

theorem forget_eq (z : FVec Ideal S4x8192x16 .f32) (hz : z = RAW x g w b) :
    Host.negf (select (cmpf .une (subf (Host.negf z) (broadcastInDim S4x8192x16 ![] bcast_S_S4x8192x16 (constant S_ .f32 0x00000000#32))) (subf (Host.negf z) (broadcastInDim S4x8192x16 ![] bcast_S_S4x8192x16 (constant S_ .f32 0x00000000#32))))
      (addf (Host.negf z) (broadcastInDim S4x8192x16 ![] bcast_S_S4x8192x16 (constant S_ .f32 0x00000000#32)))
      (addf (maximumf (Host.negf z) (broadcastInDim S4x8192x16 ![] bcast_S_S4x8192x16 (constant S_ .f32 0x00000000#32)))
        (Host.log1p (Host.exp (Host.negf (Host.absf (subf (Host.negf z) (broadcastInDim S4x8192x16 ![] bcast_S_S4x8192x16 (constant S_ .f32 0x00000000#32)))))))))
      = forgetArr x g w b := by
  subst hz
  exact cube_ext (b := 4) (n := 8192) (d := 16) fun p q j => (r_logsig _ _ (ix3 p q j)).trans (congrArg logsig (RAW_apply x g w b p q j))

end Arrays

theorem forget_res (m : (ℓ : Loc nD τ sig) → Buf (Elt Ideal) ℓ) (c : Dev nD) :
    Cert.ProjectRefIdeal.Value.res_main_v32 m c = forgetArr (m ((c.tc : Thread nD τ).loc main_arg0)) (m ((c.tc : Thread nD τ).loc main_arg1)) (m ((c.tc : Thread nD τ).loc main_arg2)) (m ((c.tc : Thread nD τ).loc main_arg3)) := by
  unfold Cert.ProjectRefIdeal.Value.res_main_v32
  exact forget_eq _ _ _ _ _ rfl

/-- The reference's run leaves the six arrays. -/
theorem run_arrays (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = gluArr (m ((c.tc : Thread nD τ).loc main_arg0)) (m ((c.tc : Thread nD τ).loc main_arg1)) (m ((c.tc : Thread nD τ).loc main_arg2))
      ∧ r.2.mem ((c.tc : Thread nD τ).loc main_v33) = lastArr (m ((c.tc : Thread nD τ).loc main_arg0)) (m ((c.tc : Thread nD τ).loc main_arg1)) (m ((c.tc : Thread nD τ).loc main_arg2)) 3072 (by omega)
      ∧ r.2.mem ((c.tc : Thread nD τ).loc main_v34) = lastArr (m ((c.tc : Thread nD τ).loc main_arg0)) (m ((c.tc : Thread nD τ).loc main_arg1)) (m ((c.tc : Thread nD τ).loc main_arg2)) 4096 (by omega)
      ∧ r.2.mem ((c.tc : Thread nD τ).loc main_v32) = forgetArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v40) = gateArr (m ((c.tc : Thread nD τ).loc main_arg0)) (m ((c.tc : Thread nD τ).loc main_arg1)) (m ((c.tc : Thread nD τ).loc main_arg2)) 5136 (by omega)
      ∧ r.2.mem ((c.tc : Thread nD τ).loc main_v46) = gateArr (m ((c.tc : Thread nD τ).loc main_arg0)) (m ((c.tc : Thread nD τ).loc main_arg1)) (m ((c.tc : Thread nD τ).loc main_arg2)) 6160 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => by
    obtain ⟨h0, h1, h2, h3, h4, h5, ha⟩ := h c
    exact ⟨h0.trans (glu_eq _ _ _), h1.trans (last_eq _ _ _ _ (by omega)), h2.trans (last_eq _ _ _ _ (by omega)), h3.trans (forget_res m c), h4.trans (gate_eq _ _ _ _ (by omega)),
      h5.trans (gate_eq _ _ _ _ (by omega)), ha⟩) (Cert.ProjectRefIdeal.Value.run m ρ)

end Cert.ProjectRefIdeal.Call

namespace Cert.ProjectIdeal.Call

open Cert.ProjectIdeal Cert.ProjectIdeal.Gen
open Idealize.ShloMosaic hiding ix1 ix2 ix3 ix4 ix5
open Idealize.ShloMosaic.TcCoe
open Idealize.ShloMosaic.ValueIdx
open Idealize.SL.Sem
open Idealize.ShloMosaic.Pipeline (Dat Cfg Window)
open Cert.Rows

/-! ## What a grid point stores, from its blocks -/

section Store
variable (x : Vec Ideal S1x256x1024 .f32) (g : Vec Ideal S1x1024 .f32)

theorem pay2 (r : Fin 256) (k : Fin 1024) : k0_pay2 x g (ix2 r k) = rms (fun k => x (ix3 (0 : Fin 1) r k)) (fun k => g (ix2 (0 : Fin 1) k)) k := by
  unfold k0_pay2
  try dsimp only
  simp only [shapeCast_self]
  refine (trunc_at _ _ _).trans ((k_rms (n := 256) (D := 1024) _ g _ _ _ _ _ _ r k).trans ?_)
  exact congrArg (fun y => rms y (fun k => g (ix2 (0 : Fin 1) k)) k) (funext fun k => shapeCast_1ab_ab_apply (a := 256) (b := 1024) x _ r k)

theorem pay3 (wa wb : Vec Ideal S1024x1024 .bf16) (u : Fin 1) (r : Fin 256) (j : Fin 1024) :
    k0_pay3 x g wa wb (ix3 u r j) = prod (fun k => k0_pay2 x g (ix2 r k)) (fun k f => wa (ix2 k f)) j * Ideal.logistic (prod (fun k => k0_pay2 x g (ix2 r k)) (fun k f => wb (ix2 k f)) j) := by
  unfold k0_pay3
  try dsimp only
  simp only [shapeCast_self]
  refine (shapeCast_ab_1ab_apply (a := 256) (b := 1024) _ _ u r j).trans ?_
  exact congrArg₂ (fun a b => a * Ideal.logistic b) (k_dot (n := 256) (D := 1024) (H := 1024) _ rfl (k0_pay2 x g) wa r j) (k_dot (n := 256) (D := 1024) (H := 1024) _ rfl (k0_pay2 x g) wb r j)

variable (h : FVec Ideal S256x1024 .bf16)

theorem pay7 (w : Vec Ideal S1024x1024 .bf16) (u : Fin 1) (j : Fin 1024) (r : Fin 256) : k0_pay7 h w (ix3 u j r) = prod (fun k => h (ix2 r k)) (fun k f => w (ix2 f k)) j := by
  unfold k0_pay7 k0_pay6
  try dsimp only
  simp only [shapeCast_self]
  exact (shapeCast_ab_1ab_apply (a := 1024) (b := 256) _ _ u j r).trans (k_dot_nt (n := 256) (D := 1024) (H := 1024) _ ⟨_, rfl⟩ w h j r)

theorem pay10 (w : Vec Ideal S1024x1024 .bf16) (u : Fin 1) (j : Fin 1024) (r : Fin 256) : k0_pay10 h w (ix3 u j r) = prod (fun k => h (ix2 r k)) (fun k f => w (ix2 f k)) j :=
  pay7 h w u j r

theorem pay14 (w : Vec Ideal S1024x1024 .bf16) (u : Fin 1) (r : Fin 256) (j : Fin 1024) : k0_pay14 h w (ix3 u r j) = Ideal.logistic (prod (fun k => h (ix2 r k)) (fun k f => w (ix2 k f)) j) := by
  unfold k0_pay14
  try dsimp only
  simp only [shapeCast_self]
  refine (shapeCast_ab_1ab_apply (a := 256) (b := 1024) _ _ u r j).trans ?_
  exact congrArg Ideal.logistic (k_dot (n := 256) (D := 1024) (H := 1024) _ rfl h w r j)

theorem pay13 (w : Vec Ideal S1024x1024 .bf16) (u : Fin 1) (r : Fin 256) (j : Fin 1024) : k0_pay13 (k0_pay12 h w) (ix3 u r j) = Ideal.logistic (prod (fun k => h (ix2 r k)) (fun k f => w (ix2 k f)) j) :=
  pay14 h w u r j

theorem pay16 (w : Vec Ideal S1024x16 .bf16) (b : Vec Ideal S1x16 .f32) (u : Fin 1) (r : Fin 256) (j : Fin 16) :
    k0_pay16 h w b (ix3 u r j) = logsig (prod (fun k => h (ix2 r k)) (fun k f => w (ix2 k f)) j + b (ix2 (0 : Fin 1) j)) := by
  unfold k0_pay16 k0_pay15
  try dsimp only
  simp only [shapeCast_self]
  refine (shapeCast_ab_1ab_apply (a := 256) (b := 16) _ _ u r j).trans ((k_logsig (s := S256x16) _ (ix2 r j)).trans (congrArg logsig ?_))
  exact congrArg₂ (· + ·) (k_dot (n := 256) (D := 1024) (H := 16) _ rfl h w r j) (broadcastTo_1b_ab_apply (a := 256) (b := 16) b _ r j)

end Store

/-! ## Where the blocks lie -/

/-- The windows that show a whole array. -/
theorem starts : ∀ t : Fin grid0.N, (win0_1.index t 0 = 0 ∧ win0_1.index t 1 = 0) ∧ (win0_2.index t 0 = 0 ∧ win0_2.index t 1 = 0) ∧ (win0_3.index t 0 = 0 ∧ win0_3.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) := by decide +kernel

/-- The windows that show a tile of tokens. -/
theorem tokens : ∀ t : Fin grid0.N, (win0_0.index t 0 = t.val / 32 ∧ win0_0.index t 1 = t.val % 32 ∧ win0_0.index t 2 = 0)
    ∧ (win0_11.index t 0 = t.val / 32 ∧ win0_11.index t 1 = t.val % 32 ∧ win0_11.index t 2 = 0) ∧ (win0_18.index t 0 = t.val / 32 ∧ win0_18.index t 1 = t.val % 32 ∧ win0_18.index t 2 = 0)
    ∧ (win0_20.index t 0 = t.val / 32 ∧ win0_20.index t 1 = t.val % 32 ∧ win0_20.index t 2 = 0) ∧ (win0_21.index t 0 = t.val / 32 ∧ win0_21.index t 1 = t.val % 32 ∧ win0_21.index t 2 = 0) := by decide +kernel

/-- The windows that show a tile of tokens, the tokens last. -/
theorem last_tokens : ∀ t : Fin grid0.N, (win0_13.index t 0 = t.val / 32 ∧ win0_13.index t 1 = 0 ∧ win0_13.index t 2 = t.val % 32)
    ∧ (win0_14.index t 0 = t.val / 32 ∧ win0_14.index t 1 = 0 ∧ win0_14.index t 2 = t.val % 32) := by decide +kernel

theorem seq_lt (t : Fin cfg0.N) : t.val / 32 < 4 := by have h : t.val < 128 := t.isLt; omega
theorem pos_lt (t : Fin cfg0.N) (r : Fin 256) : 256 * (t.val % 32) + r.val < 8192 := by omega

/-- The sequence of a tile. -/
abbrev seq (t : Fin cfg0.N) : Fin 4 := ⟨t.val / 32, seq_lt t⟩
/-- A row of a tile, among the sequence's tokens. -/
abbrev pos (t : Fin cfg0.N) (r : Fin 256) : Fin 8192 := ⟨256 * (t.val % 32) + r.val, pos_lt t r⟩

section Blocks
variable (m : (ℓ : Loc nD τ sig) → Buf (Elt Ideal) ℓ) (c : Dev nD) (t : Fin cfg0.N)

/-- The tokens. -/
abbrev X : FVec Ideal S4x8192x1024 .f32 := m ((c.tc : Thread nD τ).loc main_arg0)
/-- The scales of the norm. -/
abbrev G : FVec Ideal S1024 .f32 := m ((c.tc : Thread nD τ).loc main_arg1)
/-- The whole weight. -/
abbrev W : FVec Ideal S1024x7184 .f32 := m ((c.tc : Thread nD τ).loc main_arg2)
/-- The forget gates' offsets. -/
abbrev B : FVec Ideal S16 .f32 := m ((c.tc : Thread nD τ).loc main_arg3)

/-- A part of the weight, as the host cuts it. -/
abbrev piece {d o : ℕ} (h : S1024x7184.Slices ![0, o] (Mat 1024 d)) : FVec Ideal (Mat 1024 d) .bf16 :=
  extractStridedSlice (Mat 1024 d) ![0, o] (truncf .bf16 (W m c) bitsLt_bf16_f32 : FVec Ideal S1024x7184 .bf16) h

/-- A part of the weight, transposed. -/
abbrev flip {o : ℕ} (h : S1024x7184.Slices ![0, o] (Mat 1024 1024)) : FVec Ideal S1024x1024 .bf16 :=
  transpose S1024x1024 [1, 0] (piece m c h) transposes_S1024x1024_S1024x1024_1_0

theorem piece_apply {d o : ℕ} (h : S1024x7184.Slices ![0, o] (Mat 1024 d)) (ho : o + d ≤ 7184) (k : Fin 1024) (f : Fin d) : piece m c h (ix2 k f) = W m c (ix2 k (part o ho f)) :=
  cols (D := 1024) (H := 7184) (d := d) (truncf .bf16 (W m c) bitsLt_bf16_f32 : FVec Ideal S1024x7184 .bf16) h ho k f

theorem flip_apply {o : ℕ} (h : S1024x7184.Slices ![0, o] (Mat 1024 1024)) (ho : o + 1024 ≤ 7184) (k f : Fin 1024) : flip m c h (ix2 f k) = W m c (ix2 k (part o ho f)) :=
  (transpose_ix2_apply (a := 1024) (b := 1024) _ _ f k).trans (piece_apply m c h ho k f)

/-- What the call's arrays hold when it starts. -/
theorem entries : V m c main_arg0 = X m c ∧ V m c main_v12 = (shapeCast S1x1024 (G m c) shapeCasts_S1024_S1x1024 : FVec Ideal S1x1024 .f32)
    ∧ V m c main_v1 = piece m c slices_S1024x7184_S1024x1024_0_0 ∧ V m c main_v2 = piece m c slices_S1024x7184_S1024x1024_0_1024
    ∧ V m c main_v10 = flip m c slices_S1024x7184_S1024x1024_0_3072 ∧ V m c main_v11 = flip m c slices_S1024x7184_S1024x1024_0_4096
    ∧ V m c main_v6 = piece m c slices_S1024x7184_S1024x16_0_5120 ∧ V m c main_v7 = piece m c slices_S1024x7184_S1024x1024_0_5136
    ∧ V m c main_v8 = piece m c slices_S1024x7184_S1024x1024_0_6160 ∧ V m c main_v13 = (shapeCast S1x16 (B m c) shapeCasts_S16_S1x16 : FVec Ideal S1x16 .f32) := by
  refine ⟨?_, ?_, ?_, ?_, ?_, ?_, ?_, ?_, ?_, ?_⟩ <;> unfold V <;> after_results_simp <;> rfl

theorem blk0 (r : Fin 256) (k : Fin 1024) : iblk m c 0 t (ix3 (0 : Fin 1) r k) = X m c (ix3 (seq t) (pos t r) k) :=
  (seen (entries m c).1 (place win0_0 rfl t (ix3 (0 : Fin 1) r k : (Cube 1 256 1024).Idx) _ (rows_tile (tokens t).1 (ix3 (0 : Fin 1) r k : (Cube 1 256 1024).Idx) (seq_lt t) (pos_lt t r))) rfl :)

theorem blk1 (k : Fin 1024) : iblk m c 1 t (ix2 (0 : Fin 1) k) = G m c (ix1 k) :=
  (seen (entries m c).2.1 (place win0_1 rfl t (ix2 (0 : Fin 1) k : (Mat 1 1024).Idx) _ (whole (starts t).1 (ix2 (0 : Fin 1) k : (Mat 1 1024).Idx))) (lift1 _ _ k) :)

theorem blk10 (f : Fin 16) : iblk m c 10 t (ix2 (0 : Fin 1) f) = B m c (ix1 f) :=
  (seen (entries m c).2.2.2.2.2.2.2.2.2 (place win0_10 rfl t (ix2 (0 : Fin 1) f : (Mat 1 16).Idx) _ (whole (starts t).2.2.2.2.2.2.2.2 (ix2 (0 : Fin 1) f : (Mat 1 16).Idx))) (lift1 _ _ f) :)

/-- The normed rows of a tile. -/
theorem normed (r : Fin 256) : (fun k => k0_pay2 (iblk m c 0 t) (iblk m c 1 t) (ix2 r k)) = rms (fun k => X m c (ix3 (seq t) (pos t r) k)) (fun k => G m c (ix1 k)) := by
  funext k
  refine (pay2 (iblk m c 0 t) (iblk m c 1 t) r k).trans ?_
  exact congrFun (congrArg₂ rms (funext fun k => blk0 m c t r k) (funext fun k => blk1 m c t k)) k

/-- A product of a tile's normed rows with a part of the weight. -/
theorem proj_part {d : ℕ} (r : Fin 256) (v : Fin 1024 → Fin d → EReal) (o : ℕ) (h : o + d ≤ 7184) (hv : ∀ k f, v k f = W m c (ix2 k (part o h f))) (j : Fin d) :
    prod (fun k => k0_pay2 (iblk m c 0 t) (iblk m c 1 t) (ix2 r k)) v j = proj (X m c) (G m c) (W m c) (seq t) (pos t r) (part o h j) := by
  rw [normed m c t r]
  exact prod_part _ (fun k f => W m c (ix2 k f)) v o h hv j

/-! ## The products with each window's part of the weight -/

/-- The matrix that a window of the weight shows, from any equation for its array and its index map. -/
theorem shown {d o : ℕ} {A : FVec Ideal (Mat 1024 d) .bf16} (h : S1024x7184.Slices ![0, o] (Mat 1024 d)) (ho : o + d ≤ 7184) (hA : A = piece m c h) {e : (Mat 1024 d).Idx → (Mat 1024 d).Idx}
    (he : ∀ i, e i = i) (k : Fin 1024) (f : Fin d) : A (e (ix2 k f)) = W m c (ix2 k (part o ho f)) :=
  seen hA (he _) (piece_apply m c h ho k f)

/-- The same of a transposed part. -/
theorem shown_flip {o : ℕ} {A : FVec Ideal S1024x1024 .bf16} (h : S1024x7184.Slices ![0, o] (Mat 1024 1024)) (ho : o + 1024 ≤ 7184) (hA : A = flip m c h) {e : (Mat 1024 1024).Idx → (Mat 1024 1024).Idx}
    (he : ∀ i, e i = i) (k f : Fin 1024) : A (e (ix2 f k)) = W m c (ix2 k (part o ho f)) :=
  seen hA (he _) (flip_apply m c h ho k f)

theorem blk2 (k f : Fin 1024) : iblk m c 2 t (ix2 k f) = W m c (ix2 k (part 0 (by omega) f)) :=
  (shown m c _ (by omega) (entries m c).2.2.1 (fun i => place win0_2 rfl t i i (whole (starts t).2.1 i)) k f :)
theorem blk3 (k f : Fin 1024) : iblk m c 3 t (ix2 k f) = W m c (ix2 k (part 1024 (by omega) f)) :=
  (shown m c _ (by omega) (entries m c).2.2.2.1 (fun i => place win0_3 rfl t i i (whole (starts t).2.2.1 i)) k f :)
theorem blk5 (k f : Fin 1024) : iblk m c 5 t (ix2 f k) = W m c (ix2 k (part 3072 (by omega) f)) :=
  (shown_flip m c _ (by omega) (entries m c).2.2.2.2.1 (fun i => place win0_5 rfl t i i (whole (starts t).2.2.2.1 i)) k f :)
theorem blk6 (k f : Fin 1024) : iblk m c 6 t (ix2 f k) = W m c (ix2 k (part 4096 (by omega) f)) :=
  (shown_flip m c _ (by omega) (entries m c).2.2.2.2.2.1 (fun i => place win0_6 rfl t i i (whole (starts t).2.2.2.2.1 i)) k f :)
theorem blk7 (k : Fin 1024) (f : Fin 16) : iblk m c 7 t (ix2 k f) = W m c (ix2 k (part 5120 (by omega) f)) :=
  (shown m c _ (by omega) (entries m c).2.2.2.2.2.2.1 (fun i => place win0_7 rfl t i i (whole (starts t).2.2.2.2.2.1 i)) k f :)
theorem blk8 (k f : Fin 1024) : iblk m c 8 t (ix2 k f) = W m c (ix2 k (part 5136 (by omega) f)) :=
  (shown m c _ (by omega) (entries m c).2.2.2.2.2.2.2.1 (fun i => place win0_8 rfl t i i (whole (starts t).2.2.2.2.2.2.1 i)) k f :)
theorem blk9 (k f : Fin 1024) : iblk m c 9 t (ix2 k f) = W m c (ix2 k (part 6160 (by omega) f)) :=
  (shown m c _ (by omega) (entries m c).2.2.2.2.2.2.2.2.1 (fun i => place win0_9 rfl t i i (whole (starts t).2.2.2.2.2.2.2.1 i)) k f :)

/-! ## What a grid point writes back -/

/-- What a grid point writes back to each claimed array, at a sequence's first tile, where the running sum is cleared, and at the others. -/
theorem stored :
    (dats m 0 c).flushed 11 t = (cfg0.win 11).cut (grid0.coords t) (k0_pay3 (iblk m c 0 t) (iblk m c 1 t) (iblk m c 2 t) (iblk m c 3 t))
    ∧ (dats m 0 c).flushed 13 t = (cfg0.win 13).cut (grid0.coords t) (k0_pay7 (k0_pay2 (iblk m c 0 t) (iblk m c 1 t)) (iblk m c 5 t))
    ∧ (dats m 0 c).flushed 14 t = (cfg0.win 14).cut (grid0.coords t) (k0_pay10 (k0_pay2 (iblk m c 0 t) (iblk m c 1 t)) (iblk m c 6 t))
    ∧ (dats m 0 c).flushed 18 t = (cfg0.win 18).cut (grid0.coords t) (k0_pay16 (k0_pay2 (iblk m c 0 t) (iblk m c 1 t)) (iblk m c 7 t) (iblk m c 10 t))
    ∧ (dats m 0 c).flushed 20 t = (cfg0.win 20).cut (grid0.coords t) (k0_pay13 (k0_pay12 (k0_pay2 (iblk m c 0 t) (iblk m c 1 t)) (iblk m c 8 t)))
    ∧ (dats m 0 c).flushed 21 t = (cfg0.win 21).cut (grid0.coords t) (k0_pay14 (k0_pay2 (iblk m c 0 t) (iblk m c 1 t)) (iblk m c 9 t)) := by
  by_cases h0 : t.val % 32 = 0
  · refine ⟨(Value.flushed11_A m c t h0).trans ?_, (Value.flushed13_A m c t h0).trans ?_, (Value.flushed14_A m c t h0).trans ?_, (Value.flushed18_A m c t h0).trans ?_,
      (Value.flushed20_A m c t h0).trans ?_, (Value.flushed21_A m c t h0).trans ?_⟩ <;> frame_out
  · refine ⟨(Value.flushed11_B m c t h0).trans ?_, (Value.flushed13_B m c t h0).trans ?_, (Value.flushed14_B m c t h0).trans ?_, (Value.flushed18_B m c t h0).trans ?_,
      (Value.flushed20_B m c t h0).trans ?_, (Value.flushed21_B m c t h0).trans ?_⟩ <;> frame_out

theorem glu_apply (i : (Cube 1 256 1024).Idx) :
    k0_pay3 (iblk m c 0 t) (iblk m c 1 t) (iblk m c 2 t) (iblk m c 3 t) i = gluArr (X m c) (G m c) (W m c) (ix3 (seq t) (pos t (i 1)) (i 2 : Fin 1024)) :=
  (congrArg _ (three i)).trans ((pay3 _ _ _ _ _ _ _).trans (congrArg₂ (fun a b => a * Ideal.logistic b) (proj_part m c t _ _ 0 (by omega) (blk2 m c t) _) (proj_part m c t _ _ 1024 (by omega) (blk3 m c t) _)))

/-- A product with the tokens last, of either such window. -/
theorem last_apply {w : Vec Ideal S1024x1024 .bf16} {o : ℕ} (h : o + 1024 ≤ 7184) (hw : ∀ k f : Fin 1024, w (ix2 f k) = W m c (ix2 k (part o h f))) (i : (Cube 1 1024 256).Idx) :
    k0_pay7 (k0_pay2 (iblk m c 0 t) (iblk m c 1 t)) w i = lastArr (X m c) (G m c) (W m c) o h (ix3 (seq t) (i 1 : Fin 1024) (pos t (i 2))) :=
  (congrArg _ (three i)).trans ((pay7 _ _ _ _ _).trans (proj_part m c t _ _ o h hw _))

/-- A gate, of either such window. -/
theorem gate_apply {w : Vec Ideal S1024x1024 .bf16} {o : ℕ} (h : o + 1024 ≤ 7184) (hw : ∀ k f : Fin 1024, w (ix2 k f) = W m c (ix2 k (part o h f))) (i : (Cube 1 256 1024).Idx) :
    k0_pay14 (k0_pay2 (iblk m c 0 t) (iblk m c 1 t)) w i = gateArr (X m c) (G m c) (W m c) o h (ix3 (seq t) (pos t (i 1)) (i 2 : Fin 1024)) :=
  (congrArg _ (three i)).trans ((pay14 _ _ _ _ _).trans (congrArg Ideal.logistic (proj_part m c t _ _ o h hw _)))

theorem forget_apply (i : (Cube 1 256 16).Idx) :
    k0_pay16 (k0_pay2 (iblk m c 0 t) (iblk m c 1 t)) (iblk m c 7 t) (iblk m c 10 t) i = forgetArr (X m c) (G m c) (W m c) (B m c) (ix3 (seq t) (pos t (i 1)) (i 2 : Fin 16)) :=
  (congrArg _ (three i)).trans ((pay16 _ _ _ _ _ _).trans (congrArg₂ (fun a b => logsig (a + b)) (proj_part m c t _ _ 5120 (by omega) (blk7 m c t) _) (blk10 m c t _)))

end Blocks

/-! ## The arrays -/

section Array
variable (m : (ℓ : Loc nD τ sig) → Buf (Elt Ideal) ℓ) (c : Dev nD)

theorem glu_array : (dats m 0 c).arrAt 11 cfg0.N = gluArr (X m c) (G m c) (W m c) :=
  (dats m 0 c).arrAt_eq_of_cover 11 _ (fun t _ => (stored m c t).1.trans (funext fun i =>
    (glu_apply m c t i).trans (congrArg (gluArr (X m c) (G m c) (W m c)) (place win0_11 rfl t i _ (rows_tile (tokens t).2.1 i (seq_lt t) (pos_lt t (i 1)))).symm)))
    fun i => (Value.covered_iff11 i).2 ⟨Nat.zero_le _, (i 0).isLt, Nat.zero_le _, (i 1).isLt, Nat.zero_le _, (i 2).isLt⟩

theorem keys_array : (dats m 0 c).arrAt 13 cfg0.N = lastArr (X m c) (G m c) (W m c) 3072 (by omega) :=
  (dats m 0 c).arrAt_eq_of_cover 13 _ (fun t _ => (stored m c t).2.1.trans (funext fun i =>
    (last_apply m c t (o := 3072) (by omega) (blk5 m c t) i).trans (congrArg (lastArr (X m c) (G m c) (W m c) 3072 (by omega)) (place win0_13 rfl t i _ (cols_tile (last_tokens t).1 i (seq_lt t) (pos_lt t (i 2)))).symm)))
    fun i => (Value.covered_iff13 i).2 ⟨Nat.zero_le _, (i 0).isLt, Nat.zero_le _, (i 1).isLt, Nat.zero_le _, (i 2).isLt⟩

theorem vals_array : (dats m 0 c).arrAt 14 cfg0.N = lastArr (X m c) (G m c) (W m c) 4096 (by omega) :=
  (dats m 0 c).arrAt_eq_of_cover 14 _ (fun t _ => (stored m c t).2.2.1.trans (funext fun i =>
    (last_apply m c t (o := 4096) (by omega) (blk6 m c t) i).trans (congrArg (lastArr (X m c) (G m c) (W m c) 4096 (by omega)) (place win0_14 rfl t i _ (cols_tile (last_tokens t).2 i (seq_lt t) (pos_lt t (i 2)))).symm)))
    fun i => (Value.covered_iff14 i).2 ⟨Nat.zero_le _, (i 0).isLt, Nat.zero_le _, (i 1).isLt, Nat.zero_le _, (i 2).isLt⟩

theorem forget_array : (dats m 0 c).arrAt 18 cfg0.N = forgetArr (X m c) (G m c) (W m c) (B m c) :=
  (dats m 0 c).arrAt_eq_of_cover 18 _ (fun t _ => (stored m c t).2.2.2.1.trans (funext fun i =>
    (forget_apply m c t i).trans (congrArg (forgetArr (X m c) (G m c) (W m c) (B m c)) (place win0_18 rfl t i _ (rows_tile (tokens t).2.2.1 i (seq_lt t) (pos_lt t (i 1)))).symm)))
    fun i => (Value.covered_iff18 i).2 ⟨Nat.zero_le _, (i 0).isLt, Nat.zero_le _, (i 1).isLt, Nat.zero_le _, (i 2).isLt⟩

theorem conv_gate_array : (dats m 0 c).arrAt 20 cfg0.N = gateArr (X m c) (G m c) (W m c) 5136 (by omega) :=
  (dats m 0 c).arrAt_eq_of_cover 20 _ (fun t _ => (stored m c t).2.2.2.2.1.trans (funext fun i =>
    (gate_apply m c t (o := 5136) (by omega) (blk8 m c t) i).trans (congrArg (gateArr (X m c) (G m c) (W m c) 5136 (by omega)) (place win0_20 rfl t i _ (rows_tile (tokens t).2.2.2.1 i (seq_lt t) (pos_lt t (i 1)))).symm)))
    fun i => (Value.covered_iff20 i).2 ⟨Nat.zero_le _, (i 0).isLt, Nat.zero_le _, (i 1).isLt, Nat.zero_le _, (i 2).isLt⟩

theorem attn_gate_array : (dats m 0 c).arrAt 21 cfg0.N = gateArr (X m c) (G m c) (W m c) 6160 (by omega) :=
  (dats m 0 c).arrAt_eq_of_cover 21 _ (fun t _ => (stored m c t).2.2.2.2.2.trans (funext fun i =>
    (gate_apply m c t (o := 6160) (by omega) (blk9 m c t) i).trans (congrArg (gateArr (X m c) (G m c) (W m c) 6160 (by omega)) (place win0_21 rfl t i _ (rows_tile (tokens t).2.2.2.2 i (seq_lt t) (pos_lt t (i 1)))).symm)))
    fun i => (Value.covered_iff21 i).2 ⟨Nat.zero_le _, (i 0).isLt, Nat.zero_le _, (i 1).isLt, Nat.zero_le _, (i 2).isLt⟩

end Array

end Cert.ProjectIdeal.Call

end
-- ==== Proof.lean ====
module

public import proofs.«01_k».proof.Defs
public import proofs.«01_k».proof.Proof.Gen.Kernel
public import proofs.«01_k».proof.Proof.Bits.Launch
public import proofs.«01_k».proof.Proof.Gen.KernelIdeal
public import proofs.«01_k».proof.Proof.Gen.ReferenceIdeal.Run
public import proofs.«01_k».proof.Proof.Gen.ReferenceIdeal
public import proofs.«01_k».proof.Proof.Gen.Pre_finite_logits
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishIdeal.Value
public import proofs.«01_k».proof.Proof.Gen.FinishRefIdeal
public import proofs.«01_k».proof.Proof.Gen.FinishRefIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleIdeal.Value
public import proofs.«01_k».proof.Proof.Gen.SampleRefIdeal
public import proofs.«01_k».proof.Proof.Gen.SampleRefIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Launch
public import proofs.«01_k».proof.Proof.Finite
public import proofs.«01_k».proof.Proof.Result
public import proofs.«01_k».proof.Proof.FirstCall
public import proofs.«01_k».proof.Proof.FinishCall
public import proofs.«01_k».proof.Proof.SampleCall
public import proofs.«01_k».proof.Proof.ProjectCall

@[expose] public section

noncomputable section

namespace Cert.Proof

open Idealize.ShloMosaic Idealize.SL.Sem Cert.Kernel

/-- The kernel's result array and the reference's are one array, for arguments with finite queries, keys and coefficients. -/
theorem values : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' hpre hargs
  refine ⟨fun c => Cert.KernelIdeal.Att.goal m c, ?_, ?_⟩
  · refine (θ_run _ _ _).mono (fun r h c => ⟨(h.1 c).trans ?_, h.2.1 c⟩) (θ_run_and (Cert.KernelIdeal.Att.run_array m g) (Cert.KernelIdeal.Att.frame m g))
    have hf := Cert.Pre_finite_logits.Att.finite (hpre c)
    exact Cert.KernelIdeal.Att.array_eq m c hf.1 hf.2.1 hf.2.2
  · refine (θ_run _ _ _).mono (fun r h c => ⟨?_, (h c).2⟩) (Cert.ReferenceIdeal.Value.run m' g')
    have ha := hargs c
    refine ((h c).1.trans (Cert.ReferenceIdeal.Att.res_eq m' c)).trans ?_
    show Cert.ReferenceIdeal.Att.RES _ (Cert.ReferenceIdeal.Att.SC _ _ _) = _
    rw [ha.1, ha.2.1, ha.2.2.1, ha.2.2.2]
    rfl

/-- The reference runs, keeps its arguments, and leaves every semaphore at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) (s₀ m ρ) (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m ρ)

/-- The array of the prompt's last call and its reference's are one array. -/
theorem finish_values : Cert.algebraic_FinishIdeal_FinishRefIdeal (hFinishIdeal := Cert.FinishIdeal.Gen.facts) (hFinishRefIdeal := Cert.FinishRefIdeal.Gen.facts) := by
  intro m g m' g' hpre hargs
  refine ⟨fun c => Cert.FinishIdeal.Call.goal m c, ?_, ?_⟩
  · exact (θ_run _ _ _).mono (fun r h c => ⟨(h c).1.trans (Cert.FinishIdeal.Call.array_eq m c), (h c).2⟩) (Cert.FinishIdeal.Value.run_blocks m g)
  · refine (θ_run _ _ _).mono (fun r h c => ⟨?_, (h c).2⟩) (Cert.FinishRefIdeal.Value.run m' g')
    have ha := hargs c
    refine ((h c).1.trans (Cert.FinishRefIdeal.Call.res_eq m' c)).trans ?_
    show Cert.FinishRefIdeal.Call.RES (m' ((c.tc : Thread Cert.FinishRefIdeal.nD Cert.FinishRefIdeal.τ).loc Cert.FinishRefIdeal.main_arg0)) (m' ((c.tc : Thread Cert.FinishRefIdeal.nD Cert.FinishRefIdeal.τ).loc Cert.FinishRefIdeal.main_arg1)) (m' ((c.tc : Thread Cert.FinishRefIdeal.nD Cert.FinishRefIdeal.τ).loc Cert.FinishRefIdeal.main_arg2)) (m' ((c.tc : Thread Cert.FinishRefIdeal.nD Cert.FinishRefIdeal.τ).loc Cert.FinishRefIdeal.main_arg3)) (m' ((c.tc : Thread Cert.FinishRefIdeal.nD Cert.FinishRefIdeal.τ).loc Cert.FinishRefIdeal.main_arg4)) (m' ((c.tc : Thread Cert.FinishRefIdeal.nD Cert.FinishRefIdeal.τ).loc Cert.FinishRefIdeal.main_arg5)) (m' ((c.tc : Thread Cert.FinishRefIdeal.nD Cert.FinishRefIdeal.τ).loc Cert.FinishRefIdeal.main_arg6)) (m' ((c.tc : Thread Cert.FinishRefIdeal.nD Cert.FinishRefIdeal.τ).loc Cert.FinishRefIdeal.main_arg7)) (m' ((c.tc : Thread Cert.FinishRefIdeal.nD Cert.FinishRefIdeal.τ).loc Cert.FinishRefIdeal.main_arg8)) (m' ((c.tc : Thread Cert.FinishRefIdeal.nD Cert.FinishRefIdeal.τ).loc Cert.FinishRefIdeal.main_arg9)) (m' ((c.tc : Thread Cert.FinishRefIdeal.nD Cert.FinishRefIdeal.τ).loc Cert.FinishRefIdeal.main_arg10)) (m' ((c.tc : Thread Cert.FinishRefIdeal.nD Cert.FinishRefIdeal.τ).loc Cert.FinishRefIdeal.main_arg11)) = _
    rw [Cert.FinishRefIdeal.Call.RES_eq, ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2]
    rfl

/-- The first feed-forward call's array and its reference's are one array. -/
theorem first_values : Cert.algebraic_FirstIdeal_FirstRefIdeal (hFirstIdeal := Cert.FirstIdeal.Gen.facts) (hFirstRefIdeal := Cert.FirstRefIdeal.Gen.facts) := by
  intro m g m' g' hpre hargs
  refine ⟨fun c => Cert.FirstIdeal.Call.goal m c, ?_, ?_⟩
  · exact (θ_run _ _ _).mono (fun r h c => ⟨(h c).1.trans (Cert.FirstIdeal.Call.array_eq m c), (h c).2⟩) (Cert.FirstIdeal.Value.run_blocks m g)
  · refine (θ_run _ _ _).mono (fun r h c => ⟨?_, (h c).2⟩) (Cert.FirstRefIdeal.Value.run m' g')
    have ha := hargs c
    refine (h c).1.trans ?_
    show Cert.FirstRefIdeal.Call.RES (m' ((c.tc : Thread Cert.FirstRefIdeal.nD Cert.FirstRefIdeal.τ).loc Cert.FirstRefIdeal.main_arg0)) (m' ((c.tc : Thread Cert.FirstRefIdeal.nD Cert.FirstRefIdeal.τ).loc Cert.FirstRefIdeal.main_arg1)) (m' ((c.tc : Thread Cert.FirstRefIdeal.nD Cert.FirstRefIdeal.τ).loc Cert.FirstRefIdeal.main_arg2)) (m' ((c.tc : Thread Cert.FirstRefIdeal.nD Cert.FirstRefIdeal.τ).loc Cert.FirstRefIdeal.main_arg3)) (m' ((c.tc : Thread Cert.FirstRefIdeal.nD Cert.FirstRefIdeal.τ).loc Cert.FirstRefIdeal.main_arg4)) = _
    rw [Cert.FirstRefIdeal.Call.RES_eq, ha.1, ha.2.1, ha.2.2.1, ha.2.2.2.1, ha.2.2.2.2]
    rfl

/-- The array of the sampled tokens' last call and its reference's are one array. -/
theorem sample_values : Cert.algebraic_SampleIdeal_SampleRefIdeal (hSampleIdeal := Cert.SampleIdeal.Gen.facts) (hSampleRefIdeal := Cert.SampleRefIdeal.Gen.facts) := by
  intro m g m' g' hpre hargs
  refine ⟨fun c => Cert.SampleIdeal.Call.goal m c, ?_, ?_⟩
  · exact (θ_run _ _ _).mono (fun r h c => ⟨(h c).1.trans (Cert.SampleIdeal.Call.array_eq m c), (h c).2⟩) (Cert.SampleIdeal.Value.run_blocks m g)
  · refine (θ_run _ _ _).mono (fun r h c => ⟨?_, (h c).2⟩) (Cert.SampleRefIdeal.Value.run m' g')
    have ha := hargs c
    refine ((h c).1.trans (Cert.SampleRefIdeal.Call.res_eq m' c)).trans ?_
    show Cert.SampleRefIdeal.Call.RES (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6)) (m' ((c.tc : Thread Cert.SampleRefIdeal.nD Cert.SampleRefIdeal.τ).loc Cert.SampleRefIdeal.main_arg7)) (m' ((c.tc : Thread Cert.SampleRefIdeal.nD Cert.SampleRefIdeal.τ).loc Cert.SampleRefIdeal.main_arg8)) (m' ((c.tc : Thread Cert.SampleRefIdeal.nD Cert.SampleRefIdeal.τ).loc Cert.SampleRefIdeal.main_arg9)) (m' ((c.tc : Thread Cert.SampleRefIdeal.nD Cert.SampleRefIdeal.τ).loc Cert.SampleRefIdeal.main_arg10)) (m' ((c.tc : Thread Cert.SampleRefIdeal.nD Cert.SampleRefIdeal.τ).loc Cert.SampleRefIdeal.main_arg11)) = _
    rw [Cert.SampleRefIdeal.Call.RES_eq, ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2]
    rfl

/-- Six arrays of the prompt's in-projection and its reference's are the same arrays. -/
theorem project_values : Cert.algebraic_ProjectIdeal_ProjectRefIdeal (hProjectIdeal := Cert.ProjectIdeal.Gen.facts) (hProjectRefIdeal := Cert.ProjectRefIdeal.Gen.facts) := by
  intro m g m' g' hpre hargs
  refine ⟨fun c => Cert.Rows.gluArr (Cert.ProjectIdeal.Call.X m c) (Cert.ProjectIdeal.Call.G m c) (Cert.ProjectIdeal.Call.W m c),
    fun c => Cert.Rows.lastArr (Cert.ProjectIdeal.Call.X m c) (Cert.ProjectIdeal.Call.G m c) (Cert.ProjectIdeal.Call.W m c) 3072 (by omega),
    fun c => Cert.Rows.lastArr (Cert.ProjectIdeal.Call.X m c) (Cert.ProjectIdeal.Call.G m c) (Cert.ProjectIdeal.Call.W m c) 4096 (by omega),
    fun c => Cert.Rows.forgetArr (Cert.ProjectIdeal.Call.X m c) (Cert.ProjectIdeal.Call.G m c) (Cert.ProjectIdeal.Call.W m c) (Cert.ProjectIdeal.Call.B m c),
    fun c => Cert.Rows.gateArr (Cert.ProjectIdeal.Call.X m c) (Cert.ProjectIdeal.Call.G m c) (Cert.ProjectIdeal.Call.W m c) 5136 (by omega),
    fun c => Cert.Rows.gateArr (Cert.ProjectIdeal.Call.X m c) (Cert.ProjectIdeal.Call.G m c) (Cert.ProjectIdeal.Call.W m c) 6160 (by omega), ?_, ?_⟩
  · refine (θ_run _ _ _).mono (fun r h c => ?_) (Cert.ProjectIdeal.Value.run_blocks m g)
    obtain ⟨h0, -, h2, h3, -, -, -, h7, -, h9, h10, ha⟩ := h c
    exact ⟨h0.trans (Cert.ProjectIdeal.Call.glu_array m c), h2.trans (Cert.ProjectIdeal.Call.keys_array m c), h3.trans (Cert.ProjectIdeal.Call.vals_array m c),
      h7.trans (Cert.ProjectIdeal.Call.forget_array m c), h9.trans (Cert.ProjectIdeal.Call.conv_gate_array m c), h10.trans (Cert.ProjectIdeal.Call.attn_gate_array m c), ha⟩
  · refine (θ_run _ _ _).mono (fun r h c => ?_) (Cert.ProjectRefIdeal.Call.run_arrays m' g')
    have hc := h c
    have ha := hargs c
    rw [ha.1, ha.2.1, ha.2.2.1, ha.2.2.2] at hc
    rw [ha.1, ha.2.1, ha.2.2.1, ha.2.2.2]
    exact hc

theorem claim : Cert.Claim := ⟨Cert.Kernel.Gen.facts, Cert.KernelIdeal.Gen.facts, Cert.ReferenceIdeal.Gen.facts, Cert.Finish.Gen.facts, Cert.FinishIdeal.Gen.facts, Cert.FinishRefIdeal.Gen.facts, Cert.First.Gen.facts, Cert.FirstIdeal.Gen.facts, Cert.FirstRefIdeal.Gen.facts, Cert.Sample.Gen.facts, Cert.SampleIdeal.Gen.facts, Cert.SampleRefIdeal.Gen.facts, Cert.Project.Gen.facts, Cert.ProjectIdeal.Gen.facts, Cert.ProjectRefIdeal.Gen.facts, Cert.Pre_finite_logits.Gen.facts,
  fun m ρ _ => Cert.Kernel.Att.frame m ρ,
  fun m ρ _ => Cert.KernelIdeal.Att.frame m ρ,
  fun m ρ _ => Cert.KernelIdeal.Att.frame m ρ,
  fun m ρ _ => reference_frame m ρ,
  fun m ρ _ => reference_frame m ρ,
  fun m ρ _ => Cert.Finish.Gen.frame m ρ,
  fun m ρ _ => Cert.FinishIdeal.Gen.frame m ρ,
  fun m ρ _ => (θ_run _ _ _).mono (fun r h => ⟨fun c => (h c).2, sem_eq_zero_of_no_sems rfl r.2⟩) (Cert.FinishRefIdeal.Value.run m ρ),
  fun m ρ _ => Cert.First.Gen.frame m ρ,
  fun m ρ _ => Cert.FirstIdeal.Gen.frame m ρ,
  fun m ρ _ => (θ_run _ _ _).mono (fun r h => ⟨fun c => (h c).2, sem_eq_zero_of_no_sems rfl r.2⟩) (Cert.FirstRefIdeal.Value.run m ρ),
  fun m ρ _ => Cert.Sample.Gen.frame m ρ,
  fun m ρ _ => Cert.SampleIdeal.Gen.frame m ρ,
  fun m ρ _ => (θ_run _ _ _).mono (fun r h => ⟨fun c => (h c).2, sem_eq_zero_of_no_sems rfl r.2⟩) (Cert.SampleRefIdeal.Value.run m ρ),
  fun m ρ _ => Cert.Project.Gen.frame m ρ,
  fun m ρ _ => Cert.ProjectIdeal.Gen.frame m ρ,
  fun m ρ _ => (θ_run _ _ _).mono (fun r h => ⟨fun c => (h c).2.2.2.2.2.2, sem_eq_zero_of_no_sems rfl r.2⟩) (Cert.ProjectRefIdeal.Value.run m ρ),
  IdealRules.named_const.statement Cert.KernelIdeal.κ "log2_e" .f32 0x3FB8AA3B#32 _ rfl,
  values,
  trivial, finish_values,
  trivial, first_values,
  trivial, sample_values,
  trivial, project_values⟩

end Cert.Proof

end
